-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v286) = v0 c
          ∧ r.2.mem ((c.tc : Thread Cert.Reference3Ideal.nD Cert.Reference3Ideal.τ).loc Cert.Reference3Ideal.main_v287) = v1 c
          ∧ r.2.mem ((c.tc : Thread Cert.Reference3Ideal.nD Cert.Reference3Ideal.τ).loc Cert.Reference3Ideal.main_v290) = v2 c
          ∧ r.2.mem ((c.tc : Thread Cert.Reference3Ideal.nD Cert.Reference3Ideal.τ).loc Cert.Reference3Ideal.main_v292) = v3 c
          ∧ r.2.mem ((c.tc : Thread Cert.Reference3Ideal.nD Cert.Reference3Ideal.τ).loc Cert.Reference3Ideal.main_v293) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x1664 : Shape := ⟨3, ![8, 4096, 1664]⟩
abbrev S8x16x4096 : Shape := ⟨3, ![8, 16, 4096]⟩
abbrev S8x32x512x128 : Shape := ⟨4, ![8, 32, 512, 128]⟩
abbrev S32x8 : Shape := ⟨2, ![32, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S2x128x128 : Shape := ⟨3, ![2, 128, 128]⟩
abbrev S8x4096x512 : Shape := ⟨3, ![8, 4096, 512]⟩
abbrev S1x128x512 : Shape := ⟨3, ![1, 128, 512]⟩
abbrev S1x16x128 : Shape := ⟨3, ![1, 16, 128]⟩
abbrev S1x4096x128 : Shape := ⟨3, ![1, 4096, 128]⟩
abbrev S1x4096x512 : Shape := ⟨3, ![1, 4096, 512]⟩
abbrev S1x32x512x128 : Shape := ⟨4, ![1, 32, 512, 128]⟩
abbrev S4096x128 : Shape := ⟨2, ![4096, 128]⟩
abbrev S32x128x128 : Shape := ⟨3, ![32, 128, 128]⟩
abbrev S512x128 : Shape := ⟨2, ![512, 128]⟩
abbrev S3x8x128x128 : Shape := ⟨4, ![3, 8, 128, 128]⟩
abbrev S4x256x128 : Shape := ⟨3, ![4, 256, 128]⟩
abbrev S4x256x256 : Shape := ⟨3, ![4, 256, 256]⟩
abbrev S8x512x128 : Shape := ⟨3, ![8, 512, 128]⟩
abbrev S8x128 : Shape := ⟨2, ![8, 128]⟩
abbrev S8x80x128 : Shape := ⟨3, ![8, 80, 128]⟩
abbrev S1x1x128x128 : Shape := ⟨4, ![1, 1, 128, 128]⟩
abbrev S1x1 : Shape := ⟨2, ![1, 1]⟩
abbrev S256x128 : Shape := ⟨2, ![256, 128]⟩
abbrev S1x256x128 : Shape := ⟨3, ![1, 256, 128]⟩
abbrev S1x1x128 : Shape := ⟨3, ![1, 1, 128]⟩
abbrev S1x512x128 : Shape := ⟨3, ![1, 512, 128]⟩
abbrev S512x256 : Shape := ⟨2, ![512, 256]⟩
abbrev S1x8x128 : Shape := ⟨3, ![1, 8, 128]⟩
abbrev S256x256 : Shape := ⟨2, ![256, 256]⟩
abbrev S1 : Shape := ⟨1, ![1]⟩
abbrev S1x1x1 : Shape := ⟨3, ![1, 1, 1]⟩
abbrev S16x512 : Shape := ⟨2, ![16, 512]⟩
abbrev S1x256x256 : Shape := ⟨3, ![1, 256, 256]⟩
abbrev S1x1x64x128 : Shape := ⟨4, ![1, 1, 64, 128]⟩
abbrev S64x128 : Shape := ⟨2, ![64, 128]⟩
abbrev S64x512 : Shape := ⟨2, ![64, 512]⟩
abbrev S80x512 : Shape := ⟨2, ![80, 512]⟩
abbrev S80x128 : Shape := ⟨2, ![80, 128]⟩
abbrev S1x80x128 : Shape := ⟨3, ![1, 80, 128]⟩
abbrev S1x64x128 : Shape := ⟨3, ![1, 64, 128]⟩
abbrev S128x512 : Shape := ⟨2, ![128, 512]⟩

abbrev nBuf : Space → Nat
  | .hbm => 96
  | .vmem => 29
  | .smem => 1
  | _ => 0

abbrev bufTy : (tb : Table) → Fin (tcTables nBuf tb) → BufTy
  | .hbm, ⟨0, _⟩ => ⟨S8x4096x1664, .bf16⟩
  | .hbm, ⟨1, _⟩ => ⟨S8x16x4096, .f32⟩
  | .hbm, ⟨2, _⟩ => ⟨S8x32x512x128, .bf16⟩
  | .hbm, ⟨3, _⟩ => ⟨S32x8, .f32⟩
  | .hbm, ⟨4, _⟩ => ⟨S128, .i32⟩
  | .hbm, ⟨5, _⟩ => ⟨S128x1, .i32⟩
  | .hbm, ⟨6, _⟩ => ⟨S128, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i1⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i1⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i1⟩
  | .hbm, ⟨59, _⟩ => ⟨S_, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S_, .i32⟩
  | .hbm, ⟨88, _⟩ => ⟨S128x128, .i32⟩
  | .hbm, ⟨89, _⟩ => ⟨S128x128, .i1⟩
  | .hbm, ⟨90, _⟩ => ⟨S128x128, .i32⟩
  | .hbm, ⟨91, _⟩ => ⟨S128x128, .i32⟩
  | .hbm, ⟨92, _⟩ => ⟨S1x128x128, .i32⟩
  | .hbm, ⟨93, _⟩ => ⟨S1x128x128, .i32⟩
  | .hbm, ⟨94, _⟩ => ⟨S2x128x128, .i32⟩
  | .hbm, ⟨95, _⟩ => ⟨S8x4096x512, .f32⟩
  | .local _ .vmem, ⟨0, _⟩ => ⟨S2x128x128, .i32⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x16x128, .f32⟩
  | .local _ .vmem, ⟨6, _⟩ => ⟨S1x16x128, .f32⟩
  | .local _ .vmem, ⟨7, _⟩ => ⟨S1x4096x128, .bf16⟩
  | .local _ .vmem, ⟨8, _⟩ => ⟨S1x4096x128, .bf16⟩
  | .local _ .vmem, ⟨9, _⟩ => ⟨S1x4096x512, .bf16⟩
  | .local _ .vmem, ⟨10, _⟩ => ⟨S1x4096x512, .bf16⟩
  | .local _ .vmem, ⟨11, _⟩ => ⟨S1x32x512x128, .bf16⟩
  | .local _ .vmem, ⟨12, _⟩ => ⟨S1x32x512x128, .bf16⟩
  | .local _ .vmem, ⟨13, _⟩ => ⟨S1x128x512, .f32⟩
  | .local _ .vmem, ⟨14, _⟩ => ⟨S1x128x512, .f32⟩
  | .local _ .vmem, ⟨15, _⟩ => ⟨S4096x128, .i32⟩
  | .local _ .vmem, ⟨16, _⟩ => ⟨S32x128x128, .i32⟩
  | .local _ .vmem, ⟨17, _⟩ => ⟨S4096x128, .bf16⟩
  | .local _ .vmem, ⟨18, _⟩ => ⟨S512x128, .bf16⟩
  | .local _ .vmem, ⟨19, _⟩ => ⟨S3x8x128x128, .f32⟩
  | .local _ .vmem, ⟨20, _⟩ => ⟨S4x256x128, .bf16⟩
  | .local _ .vmem, ⟨21, _⟩ => ⟨S4x256x256, .bf16⟩
  | .local _ .vmem, ⟨22, _⟩ => ⟨S8x512x128, .f32⟩
  | .local _ .vmem, ⟨23, _⟩ => ⟨S8x512x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x80x128, .f32⟩
  | .local _ .vmem, ⟨28, _⟩ => ⟨S512x128, .f32⟩
  | .local _ .smem, ⟨0, _⟩ => ⟨S32x8, .f32⟩
  | _, _ => ⟨S8x4096x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_c_11 : Ref sig .tc := ⟨.hbm, 59, rfl⟩
abbrev main_c_12 : Ref sig .tc := ⟨.hbm, 60, rfl⟩
abbrev main_call2_v0 : Ref sig .tc := ⟨.hbm, 61, rfl⟩
abbrev main_call2_v1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_17 : Ref sig .tc := ⟨.hbm, 81, rfl⟩
abbrev main_v54 : Ref sig .tc := ⟨.hbm, 82, rfl⟩
abbrev main_v55 : Ref sig .tc := ⟨.hbm, 83, rfl⟩
abbrev main_c_18 : Ref sig .tc := ⟨.hbm, 84, rfl⟩
abbrev main_v56 : Ref sig .tc := ⟨.hbm, 85, rfl⟩
abbrev main_v57 : Ref sig .tc := ⟨.hbm, 86, rfl⟩
abbrev main_c_19 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![8, 32], ![false, false]⟩

def k0_cond1 (i : grid0.Coords) : BitVec 1 :=
  let arg1 : BitVec 32 := BitVec.ofNat 32 (i 1).val
  let c0_i32_5 : BitVec 32 := 0#32
  let v18 : BitVec 1 := Scalar.cmpi .eq arg1 c0_i32_5
  let v19 : BitVec 32 := Scalar.extui v18
  let c0_i32_6 : BitVec 32 := 0#32
  let v20 : BitVec 1 := Scalar.cmpi .ne v19 c0_i32_6
  v20

@[reducible] def k0_t1_loop : Scf.Loop 32 :=
  let c1_i32_836 : BitVec 32 := 1#32
  let c31_i32 : BitVec 32 := 31#32
  let v1077 : BitVec 32 := Scalar.addi c1_i32_836 c31_i32
  let c1_i32_837 : BitVec 32 := 1#32
  ⟨c1_i32_836, v1077, c1_i32_837⟩
def k0_off1 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1275 : Index := Scalar.indexCast arg25
  let c0_1037 : Index := 0#32
  ![v1275.toNat, 0]
def k0_off2 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1284 : Index := Scalar.indexCast arg25
  let c1_1046 : Index := 1#32
  ![v1284.toNat, 1]
def k0_off3 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1293 : Index := Scalar.indexCast arg25
  let c2_1055 : Index := 2#32
  ![v1293.toNat, 2]
def k0_off4 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1302 : Index := Scalar.indexCast arg25
  let c3_1064 : Index := 3#32
  ![v1302.toNat, 3]
def k0_off5 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1311 : Index := Scalar.indexCast arg25
  let c4_1073 : Index := 4#32
  ![v1311.toNat, 4]
def k0_off6 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1320 : Index := Scalar.indexCast arg25
  let c5_1082 : Index := 5#32
  ![v1320.toNat, 5]
def k0_off7 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1329 : Index := Scalar.indexCast arg25
  let c6_1091 : Index := 6#32
  ![v1329.toNat, 6]
def k0_off8 (k0_t1 : Fin k0_t1_loop.trips) : Fin 2 → Nat :=
  let c1_i32_836 : BitVec 32 := 1#32
  let c1_i32_837 : BitVec 32 := 1#32
  let arg25 : BitVec 32 := Scf.iv c1_i32_836 c1_i32_837 k0_t1
  let v1338 : Index := Scalar.indexCast arg25
  let c7_1100 : Index := 7#32
  ![v1338.toNat, 7]
@[reducible] def k0_t2_loop (i : grid0.Coords) : Scf.Loop 32 :=
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_129 : BitVec 32 := 1#32
  ⟨c0_i32_127, v213, c1_i32_129⟩
def k0_mult1 (i : grid0.Coords) (k0_t2 : Fin (k0_t2_loop i).trips) : BitVec 32 :=
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  v930
def k0_off9 (i : grid0.Coords) (k0_t2 : Fin (k0_t2_loop i).trips) : Fin 3 → Nat :=
  let c0_682 : Index := 0#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let v932 : Index := Scalar.indexCast v931
  let c0_683 : Index := 0#32
  ![0, v932.toNat, 0]
def k0_off10 (i : grid0.Coords) (k0_t2 : Fin (k0_t2_loop i).trips) : Fin 2 → Nat :=
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let v1004 : Index := Scalar.indexCast v931
  let c0_711 : Index := 0#32
  ![v1004.toNat, 0]
def k0_mult2 (i : grid0.Coords) (k0_t2 : Fin (k0_t2_loop i).trips) : BitVec 32 :=
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let c0_i32_719 : BitVec 32 := 0#32
  let v1057 : BitVec 32 := Scalar.addi v1056 c0_i32_719
  v1057
def k0_off11 (i : grid0.Coords) (k0_t2 : Fin (k0_t2_loop i).trips) (c0_i32_719 : BitVec 32) : Fin 3 → Nat :=
  let c0_954 : Index := 0#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1779 : Index := Scalar.indexCast v1058
  let c0_955 : Index := 0#32
  ![0, v1779.toNat, 0]
def k0_off12 (i : grid0.Coords) (k0_t2 : Fin (k0_t2_loop i).trips) (c0_i32_719 : BitVec 32) : Fin 3 → Nat :=
  let c1_956 : Index := 1#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1783 : Index := Scalar.indexCast v1058
  let c0_957 : Index := 0#32
  ![1, v1783.toNat, 0]
def k0_off13 (i : grid0.Coords) (k0_t2 : Fin (k0_t2_loop i).trips) (c0_i32_719 : BitVec 32) : Fin 3 → Nat :=
  let c2_958 : Index := 2#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1787 : Index := Scalar.indexCast v1058
  let c0_959 : Index := 0#32
  ![2, v1787.toNat, 0]
def k0_off14 (i : grid0.Coords) (k0_t2 : Fin (k0_t2_loop i).trips) (c0_i32_719 : BitVec 32) : Fin 3 → Nat :=
  let c3_960 : Index := 3#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1791 : Index := Scalar.indexCast v1058
  let c0_961 : Index := 0#32
  ![3, v1791.toNat, 0]
def k0_off15 (i : grid0.Coords) (k0_t2 : Fin (k0_t2_loop i).trips) (c0_i32_719 : BitVec 32) : Fin 3 → Nat :=
  let c4_962 : Index := 4#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1795 : Index := Scalar.indexCast v1058
  let c0_963 : Index := 0#32
  ![4, v1795.toNat, 0]
def k0_off16 (i : grid0.Coords) (k0_t2 : Fin (k0_t2_loop i).trips) (c0_i32_719 : BitVec 32) : Fin 3 → Nat :=
  let c5_964 : Index := 5#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1799 : Index := Scalar.indexCast v1058
  let c0_965 : Index := 0#32
  ![5, v1799.toNat, 0]
def k0_off17 (i : grid0.Coords) (k0_t2 : Fin (k0_t2_loop i).trips) (c0_i32_719 : BitVec 32) : Fin 3 → Nat :=
  let c6_966 : Index := 6#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1803 : Index := Scalar.indexCast v1058
  let c0_967 : Index := 0#32
  ![6, v1803.toNat, 0]
def k0_off18 (i : grid0.Coords) (k0_t2 : Fin (k0_t2_loop i).trips) (c0_i32_719 : BitVec 32) : Fin 3 → Nat :=
  let c7_968 : Index := 7#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1807 : Index := Scalar.indexCast v1058
  let c0_969 : Index := 0#32
  ![7, v1807.toNat, 0]
def k0_off19 (i : grid0.Coords) (k0_t2 : Fin (k0_t2_loop i).trips) (c0_i32_719 : BitVec 32) : Fin 3 → Nat :=
  let c8 : Index := 8#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1811 : Index := Scalar.indexCast v1058
  let c0_970 : Index := 0#32
  ![8, v1811.toNat, 0]
def k0_off20 (i : grid0.Coords) (k0_t2 : Fin (k0_t2_loop i).trips) (c0_i32_719 : BitVec 32) : Fin 3 → Nat :=
  let c9 : Index := 9#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1815 : Index := Scalar.indexCast v1058
  let c0_971 : Index := 0#32
  ![9, v1815.toNat, 0]
def k0_off21 (i : grid0.Coords) (k0_t2 : Fin (k0_t2_loop i).trips) (c0_i32_719 : BitVec 32) : Fin 3 → Nat :=
  let c10 : Index := 10#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1819 : Index := Scalar.indexCast v1058
  let c0_972 : Index := 0#32
  ![10, v1819.toNat, 0]
def k0_off22 (i : grid0.Coords) (k0_t2 : Fin (k0_t2_loop i).trips) (c0_i32_719 : BitVec 32) : Fin 3 → Nat :=
  let c11 : Index := 11#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1823 : Index := Scalar.indexCast v1058
  let c0_973 : Index := 0#32
  ![11, v1823.toNat, 0]
def k0_off23 (i : grid0.Coords) (k0_t2 : Fin (k0_t2_loop i).trips) (c0_i32_719 : BitVec 32) : Fin 3 → Nat :=
  let c12 : Index := 12#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1827 : Index := Scalar.indexCast v1058
  let c0_974 : Index := 0#32
  ![12, v1827.toNat, 0]
def k0_off24 (i : grid0.Coords) (k0_t2 : Fin (k0_t2_loop i).trips) (c0_i32_719 : BitVec 32) : Fin 3 → Nat :=
  let c13 : Index := 13#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1831 : Index := Scalar.indexCast v1058
  let c0_975 : Index := 0#32
  ![13, v1831.toNat, 0]
def k0_off25 (i : grid0.Coords) (k0_t2 : Fin (k0_t2_loop i).trips) (c0_i32_719 : BitVec 32) : Fin 3 → Nat :=
  let c14 : Index := 14#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1835 : Index := Scalar.indexCast v1058
  let c0_976 : Index := 0#32
  ![14, v1835.toNat, 0]
def k0_off26 (i : grid0.Coords) (k0_t2 : Fin (k0_t2_loop i).trips) (c0_i32_719 : BitVec 32) : Fin 3 → Nat :=
  let c15 : Index := 15#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1839 : Index := Scalar.indexCast v1058
  let c0_977 : Index := 0#32
  ![15, v1839.toNat, 0]
def k0_off27 (i : grid0.Coords) (k0_t2 : Fin (k0_t2_loop i).trips) (c0_i32_719 : BitVec 32) : Fin 3 → Nat :=
  let c16 : Index := 16#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1843 : Index := Scalar.indexCast v1058
  let c0_978 : Index := 0#32
  ![16, v1843.toNat, 0]
def k0_off28 (i : grid0.Coords) (k0_t2 : Fin (k0_t2_loop i).trips) (c0_i32_719 : BitVec 32) : Fin 3 → Nat :=
  let c17 : Index := 17#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1847 : Index := Scalar.indexCast v1058
  let c0_979 : Index := 0#32
  ![17, v1847.toNat, 0]
def k0_off29 (i : grid0.Coords) (k0_t2 : Fin (k0_t2_loop i).trips) (c0_i32_719 : BitVec 32) : Fin 3 → Nat :=
  let c18 : Index := 18#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1851 : Index := Scalar.indexCast v1058
  let c0_980 : Index := 0#32
  ![18, v1851.toNat, 0]
def k0_off30 (i : grid0.Coords) (k0_t2 : Fin (k0_t2_loop i).trips) (c0_i32_719 : BitVec 32) : Fin 3 → Nat :=
  let c19 : Index := 19#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1855 : Index := Scalar.indexCast v1058
  let c0_981 : Index := 0#32
  ![19, v1855.toNat, 0]
def k0_off31 (i : grid0.Coords) (k0_t2 : Fin (k0_t2_loop i).trips) (c0_i32_719 : BitVec 32) : Fin 3 → Nat :=
  let c20 : Index := 20#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1859 : Index := Scalar.indexCast v1058
  let c0_982 : Index := 0#32
  ![20, v1859.toNat, 0]
def k0_off32 (i : grid0.Coords) (k0_t2 : Fin (k0_t2_loop i).trips) (c0_i32_719 : BitVec 32) : Fin 3 → Nat :=
  let c21 : Index := 21#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1863 : Index := Scalar.indexCast v1058
  let c0_983 : Index := 0#32
  ![21, v1863.toNat, 0]
def k0_off33 (i : grid0.Coords) (k0_t2 : Fin (k0_t2_loop i).trips) (c0_i32_719 : BitVec 32) : Fin 3 → Nat :=
  let c22 : Index := 22#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1867 : Index := Scalar.indexCast v1058
  let c0_984 : Index := 0#32
  ![22, v1867.toNat, 0]
def k0_off34 (i : grid0.Coords) (k0_t2 : Fin (k0_t2_loop i).trips) (c0_i32_719 : BitVec 32) : Fin 3 → Nat :=
  let c23 : Index := 23#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1871 : Index := Scalar.indexCast v1058
  let c0_985 : Index := 0#32
  ![23, v1871.toNat, 0]
def k0_off35 (i : grid0.Coords) (k0_t2 : Fin (k0_t2_loop i).trips) (c0_i32_719 : BitVec 32) : Fin 3 → Nat :=
  let c24 : Index := 24#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1875 : Index := Scalar.indexCast v1058
  let c0_986 : Index := 0#32
  ![24, v1875.toNat, 0]
def k0_off36 (i : grid0.Coords) (k0_t2 : Fin (k0_t2_loop i).trips) (c0_i32_719 : BitVec 32) : Fin 3 → Nat :=
  let c25 : Index := 25#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1879 : Index := Scalar.indexCast v1058
  let c0_987 : Index := 0#32
  ![25, v1879.toNat, 0]
def k0_off37 (i : grid0.Coords) (k0_t2 : Fin (k0_t2_loop i).trips) (c0_i32_719 : BitVec 32) : Fin 3 → Nat :=
  let c26 : Index := 26#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1883 : Index := Scalar.indexCast v1058
  let c0_988 : Index := 0#32
  ![26, v1883.toNat, 0]
def k0_off38 (i : grid0.Coords) (k0_t2 : Fin (k0_t2_loop i).trips) (c0_i32_719 : BitVec 32) : Fin 3 → Nat :=
  let c27 : Index := 27#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1887 : Index := Scalar.indexCast v1058
  let c0_989 : Index := 0#32
  ![27, v1887.toNat, 0]
def k0_off39 (i : grid0.Coords) (k0_t2 : Fin (k0_t2_loop i).trips) (c0_i32_719 : BitVec 32) : Fin 3 → Nat :=
  let c28 : Index := 28#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1891 : Index := Scalar.indexCast v1058
  let c0_990 : Index := 0#32
  ![28, v1891.toNat, 0]
def k0_off40 (i : grid0.Coords) (k0_t2 : Fin (k0_t2_loop i).trips) (c0_i32_719 : BitVec 32) : Fin 3 → Nat :=
  let c29 : Index := 29#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1895 : Index := Scalar.indexCast v1058
  let c0_991 : Index := 0#32
  ![29, v1895.toNat, 0]
def k0_off41 (i : grid0.Coords) (k0_t2 : Fin (k0_t2_loop i).trips) (c0_i32_719 : BitVec 32) : Fin 3 → Nat :=
  let c30 : Index := 30#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1899 : Index := Scalar.indexCast v1058
  let c0_992 : Index := 0#32
  ![30, v1899.toNat, 0]
def k0_off42 (i : grid0.Coords) (k0_t2 : Fin (k0_t2_loop i).trips) (c0_i32_719 : BitVec 32) : Fin 3 → Nat :=
  let c31 : Index := 31#32
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1903 : Index := Scalar.indexCast v1058
  let c0_993 : Index := 0#32
  ![31, v1903.toNat, 0]
def k0_mult3 (i : grid0.Coords) (k0_t2 : Fin (k0_t2_loop i).trips) : BitVec 32 :=
  let c2_i32_680 : BitVec 32 := 2#32
  let c0_i32_127 : BitVec 32 := 0#32
  let c1_i32_129 : BitVec 32 := 1#32
  let arg25 : BitVec 32 := Scf.iv c0_i32_127 c1_i32_129 k0_t2
  let v929 : BitVec 32 := Scalar.muli c2_i32_680 arg25
  let c512_i32_681 : BitVec 32 := 512#32
  let v930 : BitVec 32 := Scalar.muli v929 c512_i32_681
  let v931 : BitVec 32 := v930
  let c0_i32_995 : BitVec 32 := 0#32
  let v1940 : BitVec 1 := Scalar.cmpi .sgt v931 c0_i32_995
  let v1941 : BitVec 32 := Scalar.extui v1940
  let c0_i32_996 : BitVec 32 := 0#32
  let v1942 : BitVec 1 := Scalar.cmpi .slt v931 c0_i32_996
  let v1943 : BitVec 32 := Scalar.extui v1942
  let v1944 : BitVec 32 := Scalar.subi v1941 v1943
  let c32_i32_994 : BitVec 32 := 32#32
  let c0_i32_997 : BitVec 32 := 0#32
  let v1945 : BitVec 1 := Scalar.cmpi .sgt c32_i32_994 c0_i32_997
  let v1946 : BitVec 32 := Scalar.extui v1945
  let c0_i32_998 : BitVec 32 := 0#32
  let v1947 : BitVec 1 := Scalar.cmpi .slt c32_i32_994 c0_i32_998
  let v1948 : BitVec 32 := Scalar.extui v1947
  let v1949 : BitVec 32 := Scalar.subi v1946 v1948
  let v1950 : BitVec 1 := Scalar.cmpi .ne v1944 v1949
  let v1951 : BitVec 32 := Scalar.remsi v931 c32_i32_994
  let c0_i32_999 : BitVec 32 := 0#32
  let v1952 : BitVec 1 := Scalar.cmpi .ne v1951 c0_i32_999
  let v1953 : BitVec 1 := Scalar.andi v1950 v1952
  let v1939 : BitVec 32 := Scalar.divsi v931 c32_i32_994
  let c1_i32_1000 : BitVec 32 := 1#32
  let v1954 : BitVec 32 := Scalar.subi v1939 c1_i32_1000
  let v1955 : BitVec 32 := Scalar.select v1953 v1954 v1939
  let c8_i32_1001 : BitVec 32 := 8#32
  let v1956 : BitVec 32 := Scalar.addi v1955 c8_i32_1001
  v1956
def k0_mult4 (i : grid0.Coords) (k0_t2 : Fin (k0_t2_loop i).trips) : BitVec 32 :=
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  v2808
def k0_off43 (i : grid0.Coords) (k0_t2 : Fin (k0_t2_loop i).trips) : Fin 3 → Nat :=
  let c0_1309 : Index := 0#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let v2810 : Index := Scalar.indexCast v2809
  let c0_1310 : Index := 0#32
  ![0, v2810.toNat, 0]
def k0_off44 (i : grid0.Coords) (k0_t2 : Fin (k0_t2_loop i).trips) : Fin 2 → Nat :=
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let v2882 : Index := Scalar.indexCast v2809
  let c0_1339 : Index := 0#32
  ![v2882.toNat, 0]
def k0_mult5 (i : grid0.Coords) (k0_t2 : Fin (k0_t2_loop i).trips) : BitVec 32 :=
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let c0_i32_1347 : BitVec 32 := 0#32
  let v2935 : BitVec 32 := Scalar.addi v2934 c0_i32_1347
  v2935
def k0_off45 (i : grid0.Coords) (k0_t2 : Fin (k0_t2_loop i).trips) (c0_i32_1347 : BitVec 32) : Fin 3 → Nat :=
  let c0_1588 : Index := 0#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3657 : Index := Scalar.indexCast v2936
  let c0_1589 : Index := 0#32
  ![0, v3657.toNat, 0]
def k0_off46 (i : grid0.Coords) (k0_t2 : Fin (k0_t2_loop i).trips) (c0_i32_1347 : BitVec 32) : Fin 3 → Nat :=
  let c1_1590 : Index := 1#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3661 : Index := Scalar.indexCast v2936
  let c0_1591 : Index := 0#32
  ![1, v3661.toNat, 0]
def k0_off47 (i : grid0.Coords) (k0_t2 : Fin (k0_t2_loop i).trips) (c0_i32_1347 : BitVec 32) : Fin 3 → Nat :=
  let c2_1592 : Index := 2#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3665 : Index := Scalar.indexCast v2936
  let c0_1593 : Index := 0#32
  ![2, v3665.toNat, 0]
def k0_off48 (i : grid0.Coords) (k0_t2 : Fin (k0_t2_loop i).trips) (c0_i32_1347 : BitVec 32) : Fin 3 → Nat :=
  let c3_1594 : Index := 3#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3669 : Index := Scalar.indexCast v2936
  let c0_1595 : Index := 0#32
  ![3, v3669.toNat, 0]
def k0_off49 (i : grid0.Coords) (k0_t2 : Fin (k0_t2_loop i).trips) (c0_i32_1347 : BitVec 32) : Fin 3 → Nat :=
  let c4_1596 : Index := 4#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3673 : Index := Scalar.indexCast v2936
  let c0_1597 : Index := 0#32
  ![4, v3673.toNat, 0]
def k0_off50 (i : grid0.Coords) (k0_t2 : Fin (k0_t2_loop i).trips) (c0_i32_1347 : BitVec 32) : Fin 3 → Nat :=
  let c5_1598 : Index := 5#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3677 : Index := Scalar.indexCast v2936
  let c0_1599 : Index := 0#32
  ![5, v3677.toNat, 0]
def k0_off51 (i : grid0.Coords) (k0_t2 : Fin (k0_t2_loop i).trips) (c0_i32_1347 : BitVec 32) : Fin 3 → Nat :=
  let c6_1600 : Index := 6#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3681 : Index := Scalar.indexCast v2936
  let c0_1601 : Index := 0#32
  ![6, v3681.toNat, 0]
def k0_off52 (i : grid0.Coords) (k0_t2 : Fin (k0_t2_loop i).trips) (c0_i32_1347 : BitVec 32) : Fin 3 → Nat :=
  let c7_1602 : Index := 7#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3685 : Index := Scalar.indexCast v2936
  let c0_1603 : Index := 0#32
  ![7, v3685.toNat, 0]
def k0_off53 (i : grid0.Coords) (k0_t2 : Fin (k0_t2_loop i).trips) (c0_i32_1347 : BitVec 32) : Fin 3 → Nat :=
  let c8_1604 : Index := 8#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3689 : Index := Scalar.indexCast v2936
  let c0_1605 : Index := 0#32
  ![8, v3689.toNat, 0]
def k0_off54 (i : grid0.Coords) (k0_t2 : Fin (k0_t2_loop i).trips) (c0_i32_1347 : BitVec 32) : Fin 3 → Nat :=
  let c9_1606 : Index := 9#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3693 : Index := Scalar.indexCast v2936
  let c0_1607 : Index := 0#32
  ![9, v3693.toNat, 0]
def k0_off55 (i : grid0.Coords) (k0_t2 : Fin (k0_t2_loop i).trips) (c0_i32_1347 : BitVec 32) : Fin 3 → Nat :=
  let c10_1608 : Index := 10#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3697 : Index := Scalar.indexCast v2936
  let c0_1609 : Index := 0#32
  ![10, v3697.toNat, 0]
def k0_off56 (i : grid0.Coords) (k0_t2 : Fin (k0_t2_loop i).trips) (c0_i32_1347 : BitVec 32) : Fin 3 → Nat :=
  let c11_1610 : Index := 11#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3701 : Index := Scalar.indexCast v2936
  let c0_1611 : Index := 0#32
  ![11, v3701.toNat, 0]
def k0_off57 (i : grid0.Coords) (k0_t2 : Fin (k0_t2_loop i).trips) (c0_i32_1347 : BitVec 32) : Fin 3 → Nat :=
  let c12_1612 : Index := 12#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3705 : Index := Scalar.indexCast v2936
  let c0_1613 : Index := 0#32
  ![12, v3705.toNat, 0]
def k0_off58 (i : grid0.Coords) (k0_t2 : Fin (k0_t2_loop i).trips) (c0_i32_1347 : BitVec 32) : Fin 3 → Nat :=
  let c13_1614 : Index := 13#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3709 : Index := Scalar.indexCast v2936
  let c0_1615 : Index := 0#32
  ![13, v3709.toNat, 0]
def k0_off59 (i : grid0.Coords) (k0_t2 : Fin (k0_t2_loop i).trips) (c0_i32_1347 : BitVec 32) : Fin 3 → Nat :=
  let c14_1616 : Index := 14#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3713 : Index := Scalar.indexCast v2936
  let c0_1617 : Index := 0#32
  ![14, v3713.toNat, 0]
def k0_off60 (i : grid0.Coords) (k0_t2 : Fin (k0_t2_loop i).trips) (c0_i32_1347 : BitVec 32) : Fin 3 → Nat :=
  let c15_1618 : Index := 15#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3717 : Index := Scalar.indexCast v2936
  let c0_1619 : Index := 0#32
  ![15, v3717.toNat, 0]
def k0_off61 (i : grid0.Coords) (k0_t2 : Fin (k0_t2_loop i).trips) (c0_i32_1347 : BitVec 32) : Fin 3 → Nat :=
  let c16_1620 : Index := 16#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3721 : Index := Scalar.indexCast v2936
  let c0_1621 : Index := 0#32
  ![16, v3721.toNat, 0]
def k0_off62 (i : grid0.Coords) (k0_t2 : Fin (k0_t2_loop i).trips) (c0_i32_1347 : BitVec 32) : Fin 3 → Nat :=
  let c17_1622 : Index := 17#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3725 : Index := Scalar.indexCast v2936
  let c0_1623 : Index := 0#32
  ![17, v3725.toNat, 0]
def k0_off63 (i : grid0.Coords) (k0_t2 : Fin (k0_t2_loop i).trips) (c0_i32_1347 : BitVec 32) : Fin 3 → Nat :=
  let c18_1624 : Index := 18#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3729 : Index := Scalar.indexCast v2936
  let c0_1625 : Index := 0#32
  ![18, v3729.toNat, 0]
def k0_off64 (i : grid0.Coords) (k0_t2 : Fin (k0_t2_loop i).trips) (c0_i32_1347 : BitVec 32) : Fin 3 → Nat :=
  let c19_1626 : Index := 19#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3733 : Index := Scalar.indexCast v2936
  let c0_1627 : Index := 0#32
  ![19, v3733.toNat, 0]
def k0_off65 (i : grid0.Coords) (k0_t2 : Fin (k0_t2_loop i).trips) (c0_i32_1347 : BitVec 32) : Fin 3 → Nat :=
  let c20_1628 : Index := 20#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3737 : Index := Scalar.indexCast v2936
  let c0_1629 : Index := 0#32
  ![20, v3737.toNat, 0]
def k0_off66 (i : grid0.Coords) (k0_t2 : Fin (k0_t2_loop i).trips) (c0_i32_1347 : BitVec 32) : Fin 3 → Nat :=
  let c21_1630 : Index := 21#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3741 : Index := Scalar.indexCast v2936
  let c0_1631 : Index := 0#32
  ![21, v3741.toNat, 0]
def k0_off67 (i : grid0.Coords) (k0_t2 : Fin (k0_t2_loop i).trips) (c0_i32_1347 : BitVec 32) : Fin 3 → Nat :=
  let c22_1632 : Index := 22#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3745 : Index := Scalar.indexCast v2936
  let c0_1633 : Index := 0#32
  ![22, v3745.toNat, 0]
def k0_off68 (i : grid0.Coords) (k0_t2 : Fin (k0_t2_loop i).trips) (c0_i32_1347 : BitVec 32) : Fin 3 → Nat :=
  let c23_1634 : Index := 23#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3749 : Index := Scalar.indexCast v2936
  let c0_1635 : Index := 0#32
  ![23, v3749.toNat, 0]
def k0_off69 (i : grid0.Coords) (k0_t2 : Fin (k0_t2_loop i).trips) (c0_i32_1347 : BitVec 32) : Fin 3 → Nat :=
  let c24_1636 : Index := 24#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3753 : Index := Scalar.indexCast v2936
  let c0_1637 : Index := 0#32
  ![24, v3753.toNat, 0]
def k0_off70 (i : grid0.Coords) (k0_t2 : Fin (k0_t2_loop i).trips) (c0_i32_1347 : BitVec 32) : Fin 3 → Nat :=
  let c25_1638 : Index := 25#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3757 : Index := Scalar.indexCast v2936
  let c0_1639 : Index := 0#32
  ![25, v3757.toNat, 0]
def k0_off71 (i : grid0.Coords) (k0_t2 : Fin (k0_t2_loop i).trips) (c0_i32_1347 : BitVec 32) : Fin 3 → Nat :=
  let c26_1640 : Index := 26#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3761 : Index := Scalar.indexCast v2936
  let c0_1641 : Index := 0#32
  ![26, v3761.toNat, 0]
def k0_off72 (i : grid0.Coords) (k0_t2 : Fin (k0_t2_loop i).trips) (c0_i32_1347 : BitVec 32) : Fin 3 → Nat :=
  let c27_1642 : Index := 27#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3765 : Index := Scalar.indexCast v2936
  let c0_1643 : Index := 0#32
  ![27, v3765.toNat, 0]
def k0_off73 (i : grid0.Coords) (k0_t2 : Fin (k0_t2_loop i).trips) (c0_i32_1347 : BitVec 32) : Fin 3 → Nat :=
  let c28_1644 : Index := 28#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3769 : Index := Scalar.indexCast v2936
  let c0_1645 : Index := 0#32
  ![28, v3769.toNat, 0]
def k0_off74 (i : grid0.Coords) (k0_t2 : Fin (k0_t2_loop i).trips) (c0_i32_1347 : BitVec 32) : Fin 3 → Nat :=
  let c29_1646 : Index := 29#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3773 : Index := Scalar.indexCast v2936
  let c0_1647 : Index := 0#32
  ![29, v3773.toNat, 0]
def k0_off75 (i : grid0.Coords) (k0_t2 : Fin (k0_t2_loop i).trips) (c0_i32_1347 : BitVec 32) : Fin 3 → Nat :=
  let c30_1648 : Index := 30#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3777 : Index := Scalar.indexCast v2936
  let c0_1649 : Index := 0#32
  ![30, v3777.toNat, 0]
def k0_off76 (i : grid0.Coords) (k0_t2 : Fin (k0_t2_loop i).trips) (c0_i32_1347 : BitVec 32) : Fin 3 → Nat :=
  let c31_1650 : Index := 31#32
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3781 : Index := Scalar.indexCast v2936
  let c0_1651 : Index := 0#32
  ![31, v3781.toNat, 0]
def k0_mult6 (i : grid0.Coords) (k0_t2 : Fin (k0_t2_loop i).trips) : BitVec 32 :=
  let c2_i32_1306 : BitVec 32 := 2#32
  let c0_i32_127 : BitVec 32 := 0#32
  let c1_i32_129 : BitVec 32 := 1#32
  let arg25 : BitVec 32 := Scf.iv c0_i32_127 c1_i32_129 k0_t2
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1653 : BitVec 32 := 0#32
  let v3818 : BitVec 1 := Scalar.cmpi .sgt v2809 c0_i32_1653
  let v3819 : BitVec 32 := Scalar.extui v3818
  let c0_i32_1654 : BitVec 32 := 0#32
  let v3820 : BitVec 1 := Scalar.cmpi .slt v2809 c0_i32_1654
  let v3821 : BitVec 32 := Scalar.extui v3820
  let v3822 : BitVec 32 := Scalar.subi v3819 v3821
  let c32_i32_1652 : BitVec 32 := 32#32
  let c0_i32_1655 : BitVec 32 := 0#32
  let v3823 : BitVec 1 := Scalar.cmpi .sgt c32_i32_1652 c0_i32_1655
  let v3824 : BitVec 32 := Scalar.extui v3823
  let c0_i32_1656 : BitVec 32 := 0#32
  let v3825 : BitVec 1 := Scalar.cmpi .slt c32_i32_1652 c0_i32_1656
  let v3826 : BitVec 32 := Scalar.extui v3825
  let v3827 : BitVec 32 := Scalar.subi v3824 v3826
  let v3828 : BitVec 1 := Scalar.cmpi .ne v3822 v3827
  let v3829 : BitVec 32 := Scalar.remsi v2809 c32_i32_1652
  let c0_i32_1657 : BitVec 32 := 0#32
  let v3830 : BitVec 1 := Scalar.cmpi .ne v3829 c0_i32_1657
  let v3831 : BitVec 1 := Scalar.andi v3828 v3830
  let v3817 : BitVec 32 := Scalar.divsi v2809 c32_i32_1652
  let c1_i32_1658 : BitVec 32 := 1#32
  let v3832 : BitVec 32 := Scalar.subi v3817 c1_i32_1658
  let v3833 : BitVec 32 := Scalar.select v3831 v3832 v3817
  let c8_i32_1659 : BitVec 32 := 8#32
  let v3834 : BitVec 32 := Scalar.addi v3833 c8_i32_1659
  v3834
@[reducible] def k0_t3_loop (i : grid0.Coords) : Scf.Loop 32 :=
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let v210 : BitVec 32 := Scalar.addi c0_i32_127 v209
  let c1_i32_130 : BitVec 32 := 1#32
  ⟨v213, v210, c1_i32_130⟩
def k0_mult7 (i : grid0.Coords) (k0_t3 : Fin (k0_t3_loop i).trips) : BitVec 32 :=
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  v930
def k0_off77 (i : grid0.Coords) (k0_t3 : Fin (k0_t3_loop i).trips) : Fin 3 → Nat :=
  let c0_682 : Index := 0#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let v932 : Index := Scalar.indexCast v931
  let c0_683 : Index := 0#32
  ![0, v932.toNat, 0]
def k0_off78 (i : grid0.Coords) (k0_t3 : Fin (k0_t3_loop i).trips) : Fin 2 → Nat :=
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let v1004 : Index := Scalar.indexCast v931
  let c0_711 : Index := 0#32
  ![v1004.toNat, 0]
def k0_mult8 (i : grid0.Coords) (k0_t3 : Fin (k0_t3_loop i).trips) : BitVec 32 :=
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let c0_i32_719 : BitVec 32 := 0#32
  let v1057 : BitVec 32 := Scalar.addi v1056 c0_i32_719
  v1057
def k0_off79 (i : grid0.Coords) (k0_t3 : Fin (k0_t3_loop i).trips) (c0_i32_719 : BitVec 32) : Fin 3 → Nat :=
  let c0_954 : Index := 0#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1779 : Index := Scalar.indexCast v1058
  let c0_955 : Index := 0#32
  ![0, v1779.toNat, 0]
def k0_off80 (i : grid0.Coords) (k0_t3 : Fin (k0_t3_loop i).trips) (c0_i32_719 : BitVec 32) : Fin 3 → Nat :=
  let c1_956 : Index := 1#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1783 : Index := Scalar.indexCast v1058
  let c0_957 : Index := 0#32
  ![1, v1783.toNat, 0]
def k0_off81 (i : grid0.Coords) (k0_t3 : Fin (k0_t3_loop i).trips) (c0_i32_719 : BitVec 32) : Fin 3 → Nat :=
  let c2_958 : Index := 2#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1787 : Index := Scalar.indexCast v1058
  let c0_959 : Index := 0#32
  ![2, v1787.toNat, 0]
def k0_off82 (i : grid0.Coords) (k0_t3 : Fin (k0_t3_loop i).trips) (c0_i32_719 : BitVec 32) : Fin 3 → Nat :=
  let c3_960 : Index := 3#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1791 : Index := Scalar.indexCast v1058
  let c0_961 : Index := 0#32
  ![3, v1791.toNat, 0]
def k0_off83 (i : grid0.Coords) (k0_t3 : Fin (k0_t3_loop i).trips) (c0_i32_719 : BitVec 32) : Fin 3 → Nat :=
  let c4_962 : Index := 4#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1795 : Index := Scalar.indexCast v1058
  let c0_963 : Index := 0#32
  ![4, v1795.toNat, 0]
def k0_off84 (i : grid0.Coords) (k0_t3 : Fin (k0_t3_loop i).trips) (c0_i32_719 : BitVec 32) : Fin 3 → Nat :=
  let c5_964 : Index := 5#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1799 : Index := Scalar.indexCast v1058
  let c0_965 : Index := 0#32
  ![5, v1799.toNat, 0]
def k0_off85 (i : grid0.Coords) (k0_t3 : Fin (k0_t3_loop i).trips) (c0_i32_719 : BitVec 32) : Fin 3 → Nat :=
  let c6_966 : Index := 6#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1803 : Index := Scalar.indexCast v1058
  let c0_967 : Index := 0#32
  ![6, v1803.toNat, 0]
def k0_off86 (i : grid0.Coords) (k0_t3 : Fin (k0_t3_loop i).trips) (c0_i32_719 : BitVec 32) : Fin 3 → Nat :=
  let c7_968 : Index := 7#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1807 : Index := Scalar.indexCast v1058
  let c0_969 : Index := 0#32
  ![7, v1807.toNat, 0]
def k0_off87 (i : grid0.Coords) (k0_t3 : Fin (k0_t3_loop i).trips) (c0_i32_719 : BitVec 32) : Fin 3 → Nat :=
  let c8 : Index := 8#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1811 : Index := Scalar.indexCast v1058
  let c0_970 : Index := 0#32
  ![8, v1811.toNat, 0]
def k0_off88 (i : grid0.Coords) (k0_t3 : Fin (k0_t3_loop i).trips) (c0_i32_719 : BitVec 32) : Fin 3 → Nat :=
  let c9 : Index := 9#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1815 : Index := Scalar.indexCast v1058
  let c0_971 : Index := 0#32
  ![9, v1815.toNat, 0]
def k0_off89 (i : grid0.Coords) (k0_t3 : Fin (k0_t3_loop i).trips) (c0_i32_719 : BitVec 32) : Fin 3 → Nat :=
  let c10 : Index := 10#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1819 : Index := Scalar.indexCast v1058
  let c0_972 : Index := 0#32
  ![10, v1819.toNat, 0]
def k0_off90 (i : grid0.Coords) (k0_t3 : Fin (k0_t3_loop i).trips) (c0_i32_719 : BitVec 32) : Fin 3 → Nat :=
  let c11 : Index := 11#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1823 : Index := Scalar.indexCast v1058
  let c0_973 : Index := 0#32
  ![11, v1823.toNat, 0]
def k0_off91 (i : grid0.Coords) (k0_t3 : Fin (k0_t3_loop i).trips) (c0_i32_719 : BitVec 32) : Fin 3 → Nat :=
  let c12 : Index := 12#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1827 : Index := Scalar.indexCast v1058
  let c0_974 : Index := 0#32
  ![12, v1827.toNat, 0]
def k0_off92 (i : grid0.Coords) (k0_t3 : Fin (k0_t3_loop i).trips) (c0_i32_719 : BitVec 32) : Fin 3 → Nat :=
  let c13 : Index := 13#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1831 : Index := Scalar.indexCast v1058
  let c0_975 : Index := 0#32
  ![13, v1831.toNat, 0]
def k0_off93 (i : grid0.Coords) (k0_t3 : Fin (k0_t3_loop i).trips) (c0_i32_719 : BitVec 32) : Fin 3 → Nat :=
  let c14 : Index := 14#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1835 : Index := Scalar.indexCast v1058
  let c0_976 : Index := 0#32
  ![14, v1835.toNat, 0]
def k0_off94 (i : grid0.Coords) (k0_t3 : Fin (k0_t3_loop i).trips) (c0_i32_719 : BitVec 32) : Fin 3 → Nat :=
  let c15 : Index := 15#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1839 : Index := Scalar.indexCast v1058
  let c0_977 : Index := 0#32
  ![15, v1839.toNat, 0]
def k0_off95 (i : grid0.Coords) (k0_t3 : Fin (k0_t3_loop i).trips) (c0_i32_719 : BitVec 32) : Fin 3 → Nat :=
  let c16 : Index := 16#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1843 : Index := Scalar.indexCast v1058
  let c0_978 : Index := 0#32
  ![16, v1843.toNat, 0]
def k0_off96 (i : grid0.Coords) (k0_t3 : Fin (k0_t3_loop i).trips) (c0_i32_719 : BitVec 32) : Fin 3 → Nat :=
  let c17 : Index := 17#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1847 : Index := Scalar.indexCast v1058
  let c0_979 : Index := 0#32
  ![17, v1847.toNat, 0]
def k0_off97 (i : grid0.Coords) (k0_t3 : Fin (k0_t3_loop i).trips) (c0_i32_719 : BitVec 32) : Fin 3 → Nat :=
  let c18 : Index := 18#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1851 : Index := Scalar.indexCast v1058
  let c0_980 : Index := 0#32
  ![18, v1851.toNat, 0]
def k0_off98 (i : grid0.Coords) (k0_t3 : Fin (k0_t3_loop i).trips) (c0_i32_719 : BitVec 32) : Fin 3 → Nat :=
  let c19 : Index := 19#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1855 : Index := Scalar.indexCast v1058
  let c0_981 : Index := 0#32
  ![19, v1855.toNat, 0]
def k0_off99 (i : grid0.Coords) (k0_t3 : Fin (k0_t3_loop i).trips) (c0_i32_719 : BitVec 32) : Fin 3 → Nat :=
  let c20 : Index := 20#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1859 : Index := Scalar.indexCast v1058
  let c0_982 : Index := 0#32
  ![20, v1859.toNat, 0]
def k0_off100 (i : grid0.Coords) (k0_t3 : Fin (k0_t3_loop i).trips) (c0_i32_719 : BitVec 32) : Fin 3 → Nat :=
  let c21 : Index := 21#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1863 : Index := Scalar.indexCast v1058
  let c0_983 : Index := 0#32
  ![21, v1863.toNat, 0]
def k0_off101 (i : grid0.Coords) (k0_t3 : Fin (k0_t3_loop i).trips) (c0_i32_719 : BitVec 32) : Fin 3 → Nat :=
  let c22 : Index := 22#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1867 : Index := Scalar.indexCast v1058
  let c0_984 : Index := 0#32
  ![22, v1867.toNat, 0]
def k0_off102 (i : grid0.Coords) (k0_t3 : Fin (k0_t3_loop i).trips) (c0_i32_719 : BitVec 32) : Fin 3 → Nat :=
  let c23 : Index := 23#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1871 : Index := Scalar.indexCast v1058
  let c0_985 : Index := 0#32
  ![23, v1871.toNat, 0]
def k0_off103 (i : grid0.Coords) (k0_t3 : Fin (k0_t3_loop i).trips) (c0_i32_719 : BitVec 32) : Fin 3 → Nat :=
  let c24 : Index := 24#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1875 : Index := Scalar.indexCast v1058
  let c0_986 : Index := 0#32
  ![24, v1875.toNat, 0]
def k0_off104 (i : grid0.Coords) (k0_t3 : Fin (k0_t3_loop i).trips) (c0_i32_719 : BitVec 32) : Fin 3 → Nat :=
  let c25 : Index := 25#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1879 : Index := Scalar.indexCast v1058
  let c0_987 : Index := 0#32
  ![25, v1879.toNat, 0]
def k0_off105 (i : grid0.Coords) (k0_t3 : Fin (k0_t3_loop i).trips) (c0_i32_719 : BitVec 32) : Fin 3 → Nat :=
  let c26 : Index := 26#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1883 : Index := Scalar.indexCast v1058
  let c0_988 : Index := 0#32
  ![26, v1883.toNat, 0]
def k0_off106 (i : grid0.Coords) (k0_t3 : Fin (k0_t3_loop i).trips) (c0_i32_719 : BitVec 32) : Fin 3 → Nat :=
  let c27 : Index := 27#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1887 : Index := Scalar.indexCast v1058
  let c0_989 : Index := 0#32
  ![27, v1887.toNat, 0]
def k0_off107 (i : grid0.Coords) (k0_t3 : Fin (k0_t3_loop i).trips) (c0_i32_719 : BitVec 32) : Fin 3 → Nat :=
  let c28 : Index := 28#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1891 : Index := Scalar.indexCast v1058
  let c0_990 : Index := 0#32
  ![28, v1891.toNat, 0]
def k0_off108 (i : grid0.Coords) (k0_t3 : Fin (k0_t3_loop i).trips) (c0_i32_719 : BitVec 32) : Fin 3 → Nat :=
  let c29 : Index := 29#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1895 : Index := Scalar.indexCast v1058
  let c0_991 : Index := 0#32
  ![29, v1895.toNat, 0]
def k0_off109 (i : grid0.Coords) (k0_t3 : Fin (k0_t3_loop i).trips) (c0_i32_719 : BitVec 32) : Fin 3 → Nat :=
  let c30 : Index := 30#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1899 : Index := Scalar.indexCast v1058
  let c0_992 : Index := 0#32
  ![30, v1899.toNat, 0]
def k0_off110 (i : grid0.Coords) (k0_t3 : Fin (k0_t3_loop i).trips) (c0_i32_719 : BitVec 32) : Fin 3 → Nat :=
  let c31 : Index := 31#32
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1903 : Index := Scalar.indexCast v1058
  let c0_993 : Index := 0#32
  ![31, v1903.toNat, 0]
def k0_mult9 (i : grid0.Coords) (k0_t3 : Fin (k0_t3_loop i).trips) : BitVec 32 :=
  let c2_i32_680 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v929 : BitVec 32 := Scalar.muli c2_i32_680 arg25
  let c512_i32_681 : BitVec 32 := 512#32
  let v930 : BitVec 32 := Scalar.muli v929 c512_i32_681
  let v931 : BitVec 32 := v930
  let c0_i32_995 : BitVec 32 := 0#32
  let v1940 : BitVec 1 := Scalar.cmpi .sgt v931 c0_i32_995
  let v1941 : BitVec 32 := Scalar.extui v1940
  let c0_i32_996 : BitVec 32 := 0#32
  let v1942 : BitVec 1 := Scalar.cmpi .slt v931 c0_i32_996
  let v1943 : BitVec 32 := Scalar.extui v1942
  let v1944 : BitVec 32 := Scalar.subi v1941 v1943
  let c32_i32_994 : BitVec 32 := 32#32
  let c0_i32_997 : BitVec 32 := 0#32
  let v1945 : BitVec 1 := Scalar.cmpi .sgt c32_i32_994 c0_i32_997
  let v1946 : BitVec 32 := Scalar.extui v1945
  let c0_i32_998 : BitVec 32 := 0#32
  let v1947 : BitVec 1 := Scalar.cmpi .slt c32_i32_994 c0_i32_998
  let v1948 : BitVec 32 := Scalar.extui v1947
  let v1949 : BitVec 32 := Scalar.subi v1946 v1948
  let v1950 : BitVec 1 := Scalar.cmpi .ne v1944 v1949
  let v1951 : BitVec 32 := Scalar.remsi v931 c32_i32_994
  let c0_i32_999 : BitVec 32 := 0#32
  let v1952 : BitVec 1 := Scalar.cmpi .ne v1951 c0_i32_999
  let v1953 : BitVec 1 := Scalar.andi v1950 v1952
  let v1939 : BitVec 32 := Scalar.divsi v931 c32_i32_994
  let c1_i32_1000 : BitVec 32 := 1#32
  let v1954 : BitVec 32 := Scalar.subi v1939 c1_i32_1000
  let v1955 : BitVec 32 := Scalar.select v1953 v1954 v1939
  let c8_i32_1001 : BitVec 32 := 8#32
  let v1956 : BitVec 32 := Scalar.addi v1955 c8_i32_1001
  v1956
def k0_mult10 (i : grid0.Coords) (k0_t3 : Fin (k0_t3_loop i).trips) : BitVec 32 :=
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  v2808
def k0_off111 (i : grid0.Coords) (k0_t3 : Fin (k0_t3_loop i).trips) : Fin 3 → Nat :=
  let c0_1309 : Index := 0#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let v2810 : Index := Scalar.indexCast v2809
  let c0_1310 : Index := 0#32
  ![0, v2810.toNat, 0]
def k0_off112 (i : grid0.Coords) (k0_t3 : Fin (k0_t3_loop i).trips) : Fin 2 → Nat :=
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let v2882 : Index := Scalar.indexCast v2809
  let c0_1339 : Index := 0#32
  ![v2882.toNat, 0]
def k0_mult11 (i : grid0.Coords) (k0_t3 : Fin (k0_t3_loop i).trips) : BitVec 32 :=
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let c0_i32_1347 : BitVec 32 := 0#32
  let v2935 : BitVec 32 := Scalar.addi v2934 c0_i32_1347
  v2935
def k0_off113 (i : grid0.Coords) (k0_t3 : Fin (k0_t3_loop i).trips) (c0_i32_1347 : BitVec 32) : Fin 3 → Nat :=
  let c0_1588 : Index := 0#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3657 : Index := Scalar.indexCast v2936
  let c0_1589 : Index := 0#32
  ![0, v3657.toNat, 0]
def k0_off114 (i : grid0.Coords) (k0_t3 : Fin (k0_t3_loop i).trips) (c0_i32_1347 : BitVec 32) : Fin 3 → Nat :=
  let c1_1590 : Index := 1#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3661 : Index := Scalar.indexCast v2936
  let c0_1591 : Index := 0#32
  ![1, v3661.toNat, 0]
def k0_off115 (i : grid0.Coords) (k0_t3 : Fin (k0_t3_loop i).trips) (c0_i32_1347 : BitVec 32) : Fin 3 → Nat :=
  let c2_1592 : Index := 2#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3665 : Index := Scalar.indexCast v2936
  let c0_1593 : Index := 0#32
  ![2, v3665.toNat, 0]
def k0_off116 (i : grid0.Coords) (k0_t3 : Fin (k0_t3_loop i).trips) (c0_i32_1347 : BitVec 32) : Fin 3 → Nat :=
  let c3_1594 : Index := 3#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3669 : Index := Scalar.indexCast v2936
  let c0_1595 : Index := 0#32
  ![3, v3669.toNat, 0]
def k0_off117 (i : grid0.Coords) (k0_t3 : Fin (k0_t3_loop i).trips) (c0_i32_1347 : BitVec 32) : Fin 3 → Nat :=
  let c4_1596 : Index := 4#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3673 : Index := Scalar.indexCast v2936
  let c0_1597 : Index := 0#32
  ![4, v3673.toNat, 0]
def k0_off118 (i : grid0.Coords) (k0_t3 : Fin (k0_t3_loop i).trips) (c0_i32_1347 : BitVec 32) : Fin 3 → Nat :=
  let c5_1598 : Index := 5#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3677 : Index := Scalar.indexCast v2936
  let c0_1599 : Index := 0#32
  ![5, v3677.toNat, 0]
def k0_off119 (i : grid0.Coords) (k0_t3 : Fin (k0_t3_loop i).trips) (c0_i32_1347 : BitVec 32) : Fin 3 → Nat :=
  let c6_1600 : Index := 6#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3681 : Index := Scalar.indexCast v2936
  let c0_1601 : Index := 0#32
  ![6, v3681.toNat, 0]
def k0_off120 (i : grid0.Coords) (k0_t3 : Fin (k0_t3_loop i).trips) (c0_i32_1347 : BitVec 32) : Fin 3 → Nat :=
  let c7_1602 : Index := 7#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3685 : Index := Scalar.indexCast v2936
  let c0_1603 : Index := 0#32
  ![7, v3685.toNat, 0]
def k0_off121 (i : grid0.Coords) (k0_t3 : Fin (k0_t3_loop i).trips) (c0_i32_1347 : BitVec 32) : Fin 3 → Nat :=
  let c8_1604 : Index := 8#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3689 : Index := Scalar.indexCast v2936
  let c0_1605 : Index := 0#32
  ![8, v3689.toNat, 0]
def k0_off122 (i : grid0.Coords) (k0_t3 : Fin (k0_t3_loop i).trips) (c0_i32_1347 : BitVec 32) : Fin 3 → Nat :=
  let c9_1606 : Index := 9#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3693 : Index := Scalar.indexCast v2936
  let c0_1607 : Index := 0#32
  ![9, v3693.toNat, 0]
def k0_off123 (i : grid0.Coords) (k0_t3 : Fin (k0_t3_loop i).trips) (c0_i32_1347 : BitVec 32) : Fin 3 → Nat :=
  let c10_1608 : Index := 10#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3697 : Index := Scalar.indexCast v2936
  let c0_1609 : Index := 0#32
  ![10, v3697.toNat, 0]
def k0_off124 (i : grid0.Coords) (k0_t3 : Fin (k0_t3_loop i).trips) (c0_i32_1347 : BitVec 32) : Fin 3 → Nat :=
  let c11_1610 : Index := 11#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3701 : Index := Scalar.indexCast v2936
  let c0_1611 : Index := 0#32
  ![11, v3701.toNat, 0]
def k0_off125 (i : grid0.Coords) (k0_t3 : Fin (k0_t3_loop i).trips) (c0_i32_1347 : BitVec 32) : Fin 3 → Nat :=
  let c12_1612 : Index := 12#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3705 : Index := Scalar.indexCast v2936
  let c0_1613 : Index := 0#32
  ![12, v3705.toNat, 0]
def k0_off126 (i : grid0.Coords) (k0_t3 : Fin (k0_t3_loop i).trips) (c0_i32_1347 : BitVec 32) : Fin 3 → Nat :=
  let c13_1614 : Index := 13#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3709 : Index := Scalar.indexCast v2936
  let c0_1615 : Index := 0#32
  ![13, v3709.toNat, 0]
def k0_off127 (i : grid0.Coords) (k0_t3 : Fin (k0_t3_loop i).trips) (c0_i32_1347 : BitVec 32) : Fin 3 → Nat :=
  let c14_1616 : Index := 14#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3713 : Index := Scalar.indexCast v2936
  let c0_1617 : Index := 0#32
  ![14, v3713.toNat, 0]
def k0_off128 (i : grid0.Coords) (k0_t3 : Fin (k0_t3_loop i).trips) (c0_i32_1347 : BitVec 32) : Fin 3 → Nat :=
  let c15_1618 : Index := 15#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3717 : Index := Scalar.indexCast v2936
  let c0_1619 : Index := 0#32
  ![15, v3717.toNat, 0]
def k0_off129 (i : grid0.Coords) (k0_t3 : Fin (k0_t3_loop i).trips) (c0_i32_1347 : BitVec 32) : Fin 3 → Nat :=
  let c16_1620 : Index := 16#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3721 : Index := Scalar.indexCast v2936
  let c0_1621 : Index := 0#32
  ![16, v3721.toNat, 0]
def k0_off130 (i : grid0.Coords) (k0_t3 : Fin (k0_t3_loop i).trips) (c0_i32_1347 : BitVec 32) : Fin 3 → Nat :=
  let c17_1622 : Index := 17#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3725 : Index := Scalar.indexCast v2936
  let c0_1623 : Index := 0#32
  ![17, v3725.toNat, 0]
def k0_off131 (i : grid0.Coords) (k0_t3 : Fin (k0_t3_loop i).trips) (c0_i32_1347 : BitVec 32) : Fin 3 → Nat :=
  let c18_1624 : Index := 18#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3729 : Index := Scalar.indexCast v2936
  let c0_1625 : Index := 0#32
  ![18, v3729.toNat, 0]
def k0_off132 (i : grid0.Coords) (k0_t3 : Fin (k0_t3_loop i).trips) (c0_i32_1347 : BitVec 32) : Fin 3 → Nat :=
  let c19_1626 : Index := 19#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3733 : Index := Scalar.indexCast v2936
  let c0_1627 : Index := 0#32
  ![19, v3733.toNat, 0]
def k0_off133 (i : grid0.Coords) (k0_t3 : Fin (k0_t3_loop i).trips) (c0_i32_1347 : BitVec 32) : Fin 3 → Nat :=
  let c20_1628 : Index := 20#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3737 : Index := Scalar.indexCast v2936
  let c0_1629 : Index := 0#32
  ![20, v3737.toNat, 0]
def k0_off134 (i : grid0.Coords) (k0_t3 : Fin (k0_t3_loop i).trips) (c0_i32_1347 : BitVec 32) : Fin 3 → Nat :=
  let c21_1630 : Index := 21#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3741 : Index := Scalar.indexCast v2936
  let c0_1631 : Index := 0#32
  ![21, v3741.toNat, 0]
def k0_off135 (i : grid0.Coords) (k0_t3 : Fin (k0_t3_loop i).trips) (c0_i32_1347 : BitVec 32) : Fin 3 → Nat :=
  let c22_1632 : Index := 22#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3745 : Index := Scalar.indexCast v2936
  let c0_1633 : Index := 0#32
  ![22, v3745.toNat, 0]
def k0_off136 (i : grid0.Coords) (k0_t3 : Fin (k0_t3_loop i).trips) (c0_i32_1347 : BitVec 32) : Fin 3 → Nat :=
  let c23_1634 : Index := 23#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3749 : Index := Scalar.indexCast v2936
  let c0_1635 : Index := 0#32
  ![23, v3749.toNat, 0]
def k0_off137 (i : grid0.Coords) (k0_t3 : Fin (k0_t3_loop i).trips) (c0_i32_1347 : BitVec 32) : Fin 3 → Nat :=
  let c24_1636 : Index := 24#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3753 : Index := Scalar.indexCast v2936
  let c0_1637 : Index := 0#32
  ![24, v3753.toNat, 0]
def k0_off138 (i : grid0.Coords) (k0_t3 : Fin (k0_t3_loop i).trips) (c0_i32_1347 : BitVec 32) : Fin 3 → Nat :=
  let c25_1638 : Index := 25#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3757 : Index := Scalar.indexCast v2936
  let c0_1639 : Index := 0#32
  ![25, v3757.toNat, 0]
def k0_off139 (i : grid0.Coords) (k0_t3 : Fin (k0_t3_loop i).trips) (c0_i32_1347 : BitVec 32) : Fin 3 → Nat :=
  let c26_1640 : Index := 26#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3761 : Index := Scalar.indexCast v2936
  let c0_1641 : Index := 0#32
  ![26, v3761.toNat, 0]
def k0_off140 (i : grid0.Coords) (k0_t3 : Fin (k0_t3_loop i).trips) (c0_i32_1347 : BitVec 32) : Fin 3 → Nat :=
  let c27_1642 : Index := 27#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3765 : Index := Scalar.indexCast v2936
  let c0_1643 : Index := 0#32
  ![27, v3765.toNat, 0]
def k0_off141 (i : grid0.Coords) (k0_t3 : Fin (k0_t3_loop i).trips) (c0_i32_1347 : BitVec 32) : Fin 3 → Nat :=
  let c28_1644 : Index := 28#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3769 : Index := Scalar.indexCast v2936
  let c0_1645 : Index := 0#32
  ![28, v3769.toNat, 0]
def k0_off142 (i : grid0.Coords) (k0_t3 : Fin (k0_t3_loop i).trips) (c0_i32_1347 : BitVec 32) : Fin 3 → Nat :=
  let c29_1646 : Index := 29#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3773 : Index := Scalar.indexCast v2936
  let c0_1647 : Index := 0#32
  ![29, v3773.toNat, 0]
def k0_off143 (i : grid0.Coords) (k0_t3 : Fin (k0_t3_loop i).trips) (c0_i32_1347 : BitVec 32) : Fin 3 → Nat :=
  let c30_1648 : Index := 30#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3777 : Index := Scalar.indexCast v2936
  let c0_1649 : Index := 0#32
  ![30, v3777.toNat, 0]
def k0_off144 (i : grid0.Coords) (k0_t3 : Fin (k0_t3_loop i).trips) (c0_i32_1347 : BitVec 32) : Fin 3 → Nat :=
  let c31_1650 : Index := 31#32
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1341 : BitVec 32 := 0#32
  let v2919 : BitVec 1 := Scalar.cmpi .sgt v2809 c0_i32_1341
  let v2920 : BitVec 32 := Scalar.extui v2919
  let c0_i32_1342 : BitVec 32 := 0#32
  let v2921 : BitVec 1 := Scalar.cmpi .slt v2809 c0_i32_1342
  let v2922 : BitVec 32 := Scalar.extui v2921
  let v2923 : BitVec 32 := Scalar.subi v2920 v2922
  let c32_i32_1340 : BitVec 32 := 32#32
  let c0_i32_1343 : BitVec 32 := 0#32
  let v2924 : BitVec 1 := Scalar.cmpi .sgt c32_i32_1340 c0_i32_1343
  let v2925 : BitVec 32 := Scalar.extui v2924
  let c0_i32_1344 : BitVec 32 := 0#32
  let v2926 : BitVec 1 := Scalar.cmpi .slt c32_i32_1340 c0_i32_1344
  let v2927 : BitVec 32 := Scalar.extui v2926
  let v2928 : BitVec 32 := Scalar.subi v2925 v2927
  let v2929 : BitVec 1 := Scalar.cmpi .ne v2923 v2928
  let v2930 : BitVec 32 := Scalar.remsi v2809 c32_i32_1340
  let c0_i32_1345 : BitVec 32 := 0#32
  let v2931 : BitVec 1 := Scalar.cmpi .ne v2930 c0_i32_1345
  let v2932 : BitVec 1 := Scalar.andi v2929 v2931
  let v2918 : BitVec 32 := Scalar.divsi v2809 c32_i32_1340
  let c1_i32_1346 : BitVec 32 := 1#32
  let v2933 : BitVec 32 := Scalar.subi v2918 c1_i32_1346
  let v2934 : BitVec 32 := Scalar.select v2932 v2933 v2918
  let v2935 : BitVec 32 := Scalar.addi v2934 c0_i32_1347
  let v2936 : BitVec 32 := v2935
  let v3781 : Index := Scalar.indexCast v2936
  let c0_1651 : Index := 0#32
  ![31, v3781.toNat, 0]
def k0_mult12 (i : grid0.Coords) (k0_t3 : Fin (k0_t3_loop i).trips) : BitVec 32 :=
  let c2_i32_1306 : BitVec 32 := 2#32
  let c0_i32_127 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_119 : BitVec 32 := 1#32
  let v191 : BitVec 32 := Scalar.subi v17 c1_i32_119
  let c0_i32_120 : BitVec 32 := 0#32
  let v193 : BitVec 1 := Scalar.cmpi .sgt v191 c0_i32_120
  let v194 : BitVec 32 := Scalar.extui v193
  let c0_i32_121 : BitVec 32 := 0#32
  let v195 : BitVec 1 := Scalar.cmpi .slt v191 c0_i32_121
  let v196 : BitVec 32 := Scalar.extui v195
  let v197 : BitVec 32 := Scalar.subi v194 v196
  let c2_i32 : BitVec 32 := 2#32
  let c0_i32_122 : BitVec 32 := 0#32
  let v198 : BitVec 1 := Scalar.cmpi .sgt c2_i32 c0_i32_122
  let v199 : BitVec 32 := Scalar.extui v198
  let c0_i32_123 : BitVec 32 := 0#32
  let v200 : BitVec 1 := Scalar.cmpi .slt c2_i32 c0_i32_123
  let v201 : BitVec 32 := Scalar.extui v200
  let v202 : BitVec 32 := Scalar.subi v199 v201
  let v203 : BitVec 1 := Scalar.cmpi .ne v197 v202
  let v204 : BitVec 32 := Scalar.remsi v191 c2_i32
  let c0_i32_124 : BitVec 32 := 0#32
  let v205 : BitVec 1 := Scalar.cmpi .ne v204 c0_i32_124
  let v206 : BitVec 1 := Scalar.andi v203 v205
  let v192 : BitVec 32 := Scalar.divsi v191 c2_i32
  let c1_i32_125 : BitVec 32 := 1#32
  let v207 : BitVec 32 := Scalar.subi v192 c1_i32_125
  let v208 : BitVec 32 := Scalar.select v206 v207 v192
  let v209 : BitVec 32 := Scalar.subi v208 c0_i32_127
  let c1_i32_128 : BitVec 32 := 1#32
  let v211 : BitVec 32 := Scalar.divsi v209 c1_i32_128
  let v212 : BitVec 32 := Scalar.muli v211 c1_i32_128
  let v213 : BitVec 32 := Scalar.addi c0_i32_127 v212
  let c1_i32_130 : BitVec 32 := 1#32
  let arg25 : BitVec 32 := Scf.iv v213 c1_i32_130 k0_t3
  let v2806 : BitVec 32 := Scalar.muli c2_i32_1306 arg25
  let c1_i32_1307 : BitVec 32 := 1#32
  let v2807 : BitVec 32 := Scalar.addi v2806 c1_i32_1307
  let c512_i32_1308 : BitVec 32 := 512#32
  let v2808 : BitVec 32 := Scalar.muli v2807 c512_i32_1308
  let v2809 : BitVec 32 := v2808
  let c0_i32_1653 : BitVec 32 := 0#32
  let v3818 : BitVec 1 := Scalar.cmpi .sgt v2809 c0_i32_1653
  let v3819 : BitVec 32 := Scalar.extui v3818
  let c0_i32_1654 : BitVec 32 := 0#32
  let v3820 : BitVec 1 := Scalar.cmpi .slt v2809 c0_i32_1654
  let v3821 : BitVec 32 := Scalar.extui v3820
  let v3822 : BitVec 32 := Scalar.subi v3819 v3821
  let c32_i32_1652 : BitVec 32 := 32#32
  let c0_i32_1655 : BitVec 32 := 0#32
  let v3823 : BitVec 1 := Scalar.cmpi .sgt c32_i32_1652 c0_i32_1655
  let v3824 : BitVec 32 := Scalar.extui v3823
  let c0_i32_1656 : BitVec 32 := 0#32
  let v3825 : BitVec 1 := Scalar.cmpi .slt c32_i32_1652 c0_i32_1656
  let v3826 : BitVec 32 := Scalar.extui v3825
  let v3827 : BitVec 32 := Scalar.subi v3824 v3826
  let v3828 : BitVec 1 := Scalar.cmpi .ne v3822 v3827
  let v3829 : BitVec 32 := Scalar.remsi v2809 c32_i32_1652
  let c0_i32_1657 : BitVec 32 := 0#32
  let v3830 : BitVec 1 := Scalar.cmpi .ne v3829 c0_i32_1657
  let v3831 : BitVec 1 := Scalar.andi v3828 v3830
  let v3817 : BitVec 32 := Scalar.divsi v2809 c32_i32_1652
  let c1_i32_1658 : BitVec 32 := 1#32
  let v3832 : BitVec 32 := Scalar.subi v3817 c1_i32_1658
  let v3833 : BitVec 32 := Scalar.select v3831 v3832 v3817
  let c8_i32_1659 : BitVec 32 := 8#32
  let v3834 : BitVec 32 := Scalar.addi v3833 c8_i32_1659
  v3834
def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_131 : BitVec 32 := 1#32
  let v214 : BitVec 32 := Scalar.subi v17 c1_i32_131
  let c2_i32_132 : BitVec 32 := 2#32
  let v215 : BitVec 32 := Scalar.remsi v214 c2_i32_132
  let c1_i32_133 : BitVec 32 := 1#32
  let v216 : BitVec 1 := Scalar.cmpi .eq v215 c1_i32_133
  let v217 : BitVec 32 := Scalar.extui v216
  let c0_i32_134 : BitVec 32 := 0#32
  let v218 : BitVec 1 := Scalar.cmpi .ne v217 c0_i32_134
  v218

def k0_mult13 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  v930
def k0_off145 (i : grid0.Coords) : Fin 3 → Nat :=
  let c0_682 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let v932 : Index := Scalar.indexCast v931
  let c0_683 : Index := 0#32
  ![0, v932.toNat, 0]
def k0_off146 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let v1004 : Index := Scalar.indexCast v931
  let c0_711 : Index := 0#32
  ![v1004.toNat, 0]
def k0_mult14 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let c0_i32_719 : BitVec 32 := 0#32
  let v1057 : BitVec 32 := Scalar.addi v1056 c0_i32_719
  v1057
def k0_off147 (i : grid0.Coords) (c0_i32_719 : BitVec 32) : Fin 3 → Nat :=
  let c0_954 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1779 : Index := Scalar.indexCast v1058
  let c0_955 : Index := 0#32
  ![0, v1779.toNat, 0]
def k0_off148 (i : grid0.Coords) (c0_i32_719 : BitVec 32) : Fin 3 → Nat :=
  let c1_956 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1783 : Index := Scalar.indexCast v1058
  let c0_957 : Index := 0#32
  ![1, v1783.toNat, 0]
def k0_off149 (i : grid0.Coords) (c0_i32_719 : BitVec 32) : Fin 3 → Nat :=
  let c2_958 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1787 : Index := Scalar.indexCast v1058
  let c0_959 : Index := 0#32
  ![2, v1787.toNat, 0]
def k0_off150 (i : grid0.Coords) (c0_i32_719 : BitVec 32) : Fin 3 → Nat :=
  let c3_960 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1791 : Index := Scalar.indexCast v1058
  let c0_961 : Index := 0#32
  ![3, v1791.toNat, 0]
def k0_off151 (i : grid0.Coords) (c0_i32_719 : BitVec 32) : Fin 3 → Nat :=
  let c4_962 : Index := 4#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1795 : Index := Scalar.indexCast v1058
  let c0_963 : Index := 0#32
  ![4, v1795.toNat, 0]
def k0_off152 (i : grid0.Coords) (c0_i32_719 : BitVec 32) : Fin 3 → Nat :=
  let c5_964 : Index := 5#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1799 : Index := Scalar.indexCast v1058
  let c0_965 : Index := 0#32
  ![5, v1799.toNat, 0]
def k0_off153 (i : grid0.Coords) (c0_i32_719 : BitVec 32) : Fin 3 → Nat :=
  let c6_966 : Index := 6#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1803 : Index := Scalar.indexCast v1058
  let c0_967 : Index := 0#32
  ![6, v1803.toNat, 0]
def k0_off154 (i : grid0.Coords) (c0_i32_719 : BitVec 32) : Fin 3 → Nat :=
  let c7_968 : Index := 7#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1807 : Index := Scalar.indexCast v1058
  let c0_969 : Index := 0#32
  ![7, v1807.toNat, 0]
def k0_off155 (i : grid0.Coords) (c0_i32_719 : BitVec 32) : Fin 3 → Nat :=
  let c8 : Index := 8#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1811 : Index := Scalar.indexCast v1058
  let c0_970 : Index := 0#32
  ![8, v1811.toNat, 0]
def k0_off156 (i : grid0.Coords) (c0_i32_719 : BitVec 32) : Fin 3 → Nat :=
  let c9 : Index := 9#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1815 : Index := Scalar.indexCast v1058
  let c0_971 : Index := 0#32
  ![9, v1815.toNat, 0]
def k0_off157 (i : grid0.Coords) (c0_i32_719 : BitVec 32) : Fin 3 → Nat :=
  let c10 : Index := 10#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1819 : Index := Scalar.indexCast v1058
  let c0_972 : Index := 0#32
  ![10, v1819.toNat, 0]
def k0_off158 (i : grid0.Coords) (c0_i32_719 : BitVec 32) : Fin 3 → Nat :=
  let c11 : Index := 11#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1823 : Index := Scalar.indexCast v1058
  let c0_973 : Index := 0#32
  ![11, v1823.toNat, 0]
def k0_off159 (i : grid0.Coords) (c0_i32_719 : BitVec 32) : Fin 3 → Nat :=
  let c12 : Index := 12#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1827 : Index := Scalar.indexCast v1058
  let c0_974 : Index := 0#32
  ![12, v1827.toNat, 0]
def k0_off160 (i : grid0.Coords) (c0_i32_719 : BitVec 32) : Fin 3 → Nat :=
  let c13 : Index := 13#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1831 : Index := Scalar.indexCast v1058
  let c0_975 : Index := 0#32
  ![13, v1831.toNat, 0]
def k0_off161 (i : grid0.Coords) (c0_i32_719 : BitVec 32) : Fin 3 → Nat :=
  let c14 : Index := 14#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1835 : Index := Scalar.indexCast v1058
  let c0_976 : Index := 0#32
  ![14, v1835.toNat, 0]
def k0_off162 (i : grid0.Coords) (c0_i32_719 : BitVec 32) : Fin 3 → Nat :=
  let c15 : Index := 15#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1839 : Index := Scalar.indexCast v1058
  let c0_977 : Index := 0#32
  ![15, v1839.toNat, 0]
def k0_off163 (i : grid0.Coords) (c0_i32_719 : BitVec 32) : Fin 3 → Nat :=
  let c16 : Index := 16#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1843 : Index := Scalar.indexCast v1058
  let c0_978 : Index := 0#32
  ![16, v1843.toNat, 0]
def k0_off164 (i : grid0.Coords) (c0_i32_719 : BitVec 32) : Fin 3 → Nat :=
  let c17 : Index := 17#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1847 : Index := Scalar.indexCast v1058
  let c0_979 : Index := 0#32
  ![17, v1847.toNat, 0]
def k0_off165 (i : grid0.Coords) (c0_i32_719 : BitVec 32) : Fin 3 → Nat :=
  let c18 : Index := 18#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1851 : Index := Scalar.indexCast v1058
  let c0_980 : Index := 0#32
  ![18, v1851.toNat, 0]
def k0_off166 (i : grid0.Coords) (c0_i32_719 : BitVec 32) : Fin 3 → Nat :=
  let c19 : Index := 19#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1855 : Index := Scalar.indexCast v1058
  let c0_981 : Index := 0#32
  ![19, v1855.toNat, 0]
def k0_off167 (i : grid0.Coords) (c0_i32_719 : BitVec 32) : Fin 3 → Nat :=
  let c20 : Index := 20#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1859 : Index := Scalar.indexCast v1058
  let c0_982 : Index := 0#32
  ![20, v1859.toNat, 0]
def k0_off168 (i : grid0.Coords) (c0_i32_719 : BitVec 32) : Fin 3 → Nat :=
  let c21 : Index := 21#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1863 : Index := Scalar.indexCast v1058
  let c0_983 : Index := 0#32
  ![21, v1863.toNat, 0]
def k0_off169 (i : grid0.Coords) (c0_i32_719 : BitVec 32) : Fin 3 → Nat :=
  let c22 : Index := 22#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1867 : Index := Scalar.indexCast v1058
  let c0_984 : Index := 0#32
  ![22, v1867.toNat, 0]
def k0_off170 (i : grid0.Coords) (c0_i32_719 : BitVec 32) : Fin 3 → Nat :=
  let c23 : Index := 23#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1871 : Index := Scalar.indexCast v1058
  let c0_985 : Index := 0#32
  ![23, v1871.toNat, 0]
def k0_off171 (i : grid0.Coords) (c0_i32_719 : BitVec 32) : Fin 3 → Nat :=
  let c24 : Index := 24#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1875 : Index := Scalar.indexCast v1058
  let c0_986 : Index := 0#32
  ![24, v1875.toNat, 0]
def k0_off172 (i : grid0.Coords) (c0_i32_719 : BitVec 32) : Fin 3 → Nat :=
  let c25 : Index := 25#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1879 : Index := Scalar.indexCast v1058
  let c0_987 : Index := 0#32
  ![25, v1879.toNat, 0]
def k0_off173 (i : grid0.Coords) (c0_i32_719 : BitVec 32) : Fin 3 → Nat :=
  let c26 : Index := 26#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1883 : Index := Scalar.indexCast v1058
  let c0_988 : Index := 0#32
  ![26, v1883.toNat, 0]
def k0_off174 (i : grid0.Coords) (c0_i32_719 : BitVec 32) : Fin 3 → Nat :=
  let c27 : Index := 27#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1887 : Index := Scalar.indexCast v1058
  let c0_989 : Index := 0#32
  ![27, v1887.toNat, 0]
def k0_off175 (i : grid0.Coords) (c0_i32_719 : BitVec 32) : Fin 3 → Nat :=
  let c28 : Index := 28#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1891 : Index := Scalar.indexCast v1058
  let c0_990 : Index := 0#32
  ![28, v1891.toNat, 0]
def k0_off176 (i : grid0.Coords) (c0_i32_719 : BitVec 32) : Fin 3 → Nat :=
  let c29 : Index := 29#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1895 : Index := Scalar.indexCast v1058
  let c0_991 : Index := 0#32
  ![29, v1895.toNat, 0]
def k0_off177 (i : grid0.Coords) (c0_i32_719 : BitVec 32) : Fin 3 → Nat :=
  let c30 : Index := 30#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1899 : Index := Scalar.indexCast v1058
  let c0_992 : Index := 0#32
  ![30, v1899.toNat, 0]
def k0_off178 (i : grid0.Coords) (c0_i32_719 : BitVec 32) : Fin 3 → Nat :=
  let c31 : Index := 31#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_713 : BitVec 32 := 0#32
  let v1041 : BitVec 1 := Scalar.cmpi .sgt v931 c0_i32_713
  let v1042 : BitVec 32 := Scalar.extui v1041
  let c0_i32_714 : BitVec 32 := 0#32
  let v1043 : BitVec 1 := Scalar.cmpi .slt v931 c0_i32_714
  let v1044 : BitVec 32 := Scalar.extui v1043
  let v1045 : BitVec 32 := Scalar.subi v1042 v1044
  let c32_i32_712 : BitVec 32 := 32#32
  let c0_i32_715 : BitVec 32 := 0#32
  let v1046 : BitVec 1 := Scalar.cmpi .sgt c32_i32_712 c0_i32_715
  let v1047 : BitVec 32 := Scalar.extui v1046
  let c0_i32_716 : BitVec 32 := 0#32
  let v1048 : BitVec 1 := Scalar.cmpi .slt c32_i32_712 c0_i32_716
  let v1049 : BitVec 32 := Scalar.extui v1048
  let v1050 : BitVec 32 := Scalar.subi v1047 v1049
  let v1051 : BitVec 1 := Scalar.cmpi .ne v1045 v1050
  let v1052 : BitVec 32 := Scalar.remsi v931 c32_i32_712
  let c0_i32_717 : BitVec 32 := 0#32
  let v1053 : BitVec 1 := Scalar.cmpi .ne v1052 c0_i32_717
  let v1054 : BitVec 1 := Scalar.andi v1051 v1053
  let v1040 : BitVec 32 := Scalar.divsi v931 c32_i32_712
  let c1_i32_718 : BitVec 32 := 1#32
  let v1055 : BitVec 32 := Scalar.subi v1040 c1_i32_718
  let v1056 : BitVec 32 := Scalar.select v1054 v1055 v1040
  let v1057 : BitVec 32 := Scalar.addi v1056 c0_i32_719
  let v1058 : BitVec 32 := v1057
  let v1903 : Index := Scalar.indexCast v1058
  let c0_993 : Index := 0#32
  ![31, v1903.toNat, 0]
def k0_mult15 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_680 : BitVec 32 := 2#32
  let v929 : BitVec 32 := Scalar.subi v17 c2_i32_680
  let c512_i32_681 : BitVec 32 := 512#32
  let v930 : BitVec 32 := Scalar.muli v929 c512_i32_681
  let v931 : BitVec 32 := v930
  let c0_i32_995 : BitVec 32 := 0#32
  let v1940 : BitVec 1 := Scalar.cmpi .sgt v931 c0_i32_995
  let v1941 : BitVec 32 := Scalar.extui v1940
  let c0_i32_996 : BitVec 32 := 0#32
  let v1942 : BitVec 1 := Scalar.cmpi .slt v931 c0_i32_996
  let v1943 : BitVec 32 := Scalar.extui v1942
  let v1944 : BitVec 32 := Scalar.subi v1941 v1943
  let c32_i32_994 : BitVec 32 := 32#32
  let c0_i32_997 : BitVec 32 := 0#32
  let v1945 : BitVec 1 := Scalar.cmpi .sgt c32_i32_994 c0_i32_997
  let v1946 : BitVec 32 := Scalar.extui v1945
  let c0_i32_998 : BitVec 32 := 0#32
  let v1947 : BitVec 1 := Scalar.cmpi .slt c32_i32_994 c0_i32_998
  let v1948 : BitVec 32 := Scalar.extui v1947
  let v1949 : BitVec 32 := Scalar.subi v1946 v1948
  let v1950 : BitVec 1 := Scalar.cmpi .ne v1944 v1949
  let v1951 : BitVec 32 := Scalar.remsi v931 c32_i32_994
  let c0_i32_999 : BitVec 32 := 0#32
  let v1952 : BitVec 1 := Scalar.cmpi .ne v1951 c0_i32_999
  let v1953 : BitVec 1 := Scalar.andi v1950 v1952
  let v1939 : BitVec 32 := Scalar.divsi v931 c32_i32_994
  let c1_i32_1000 : BitVec 32 := 1#32
  let v1954 : BitVec 32 := Scalar.subi v1939 c1_i32_1000
  let v1955 : BitVec 32 := Scalar.select v1953 v1954 v1939
  let c8_i32_1001 : BitVec 32 := 8#32
  let v1956 : BitVec 32 := Scalar.addi v1955 c8_i32_1001
  v1956
def k0_mult16 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  v220
def k0_cond3 (i : grid0.Coords) : BitVec 1 :=
  let arg1 : BitVec 32 := BitVec.ofNat 32 (i 1).val
  let c4_i32_136 : BitVec 32 := 4#32
  let v222 : BitVec 32 := Scalar.remsi arg1 c4_i32_136
  let c2_i32_137 : BitVec 32 := 2#32
  let v223 : BitVec 1 := Scalar.cmpi .sge v222 c2_i32_137
  let v224 : BitVec 32 := Scalar.extui v223
  let c0_i32_138 : BitVec 32 := 0#32
  let v225 : BitVec 1 := Scalar.cmpi .ne v224 c0_i32_138
  v225

def k0_off179 (i : grid0.Coords) : Fin 3 → Nat :=
  let c0_680 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let v929 : Index := Scalar.indexCast v221
  let c0_681 : Index := 0#32
  ![0, v929.toNat, 0]
def k0_off180 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let v1009 : Index := Scalar.indexCast v221
  let c0_711 : Index := 0#32
  ![v1009.toNat, 0]
def k0_mult17 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let c0_i32_719 : BitVec 32 := 0#32
  let v1062 : BitVec 32 := Scalar.addi v1061 c0_i32_719
  v1062
def k0_off181 (i : grid0.Coords) (c0_i32_719 : BitVec 32) : Fin 3 → Nat :=
  let c0_954 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1784 : Index := Scalar.indexCast v1063
  let c0_955 : Index := 0#32
  ![0, v1784.toNat, 0]
def k0_off182 (i : grid0.Coords) (c0_i32_719 : BitVec 32) : Fin 3 → Nat :=
  let c1_956 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1788 : Index := Scalar.indexCast v1063
  let c0_957 : Index := 0#32
  ![1, v1788.toNat, 0]
def k0_off183 (i : grid0.Coords) (c0_i32_719 : BitVec 32) : Fin 3 → Nat :=
  let c2_958 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1792 : Index := Scalar.indexCast v1063
  let c0_959 : Index := 0#32
  ![2, v1792.toNat, 0]
def k0_off184 (i : grid0.Coords) (c0_i32_719 : BitVec 32) : Fin 3 → Nat :=
  let c3_960 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1796 : Index := Scalar.indexCast v1063
  let c0_961 : Index := 0#32
  ![3, v1796.toNat, 0]
def k0_off185 (i : grid0.Coords) (c0_i32_719 : BitVec 32) : Fin 3 → Nat :=
  let c4_962 : Index := 4#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1800 : Index := Scalar.indexCast v1063
  let c0_963 : Index := 0#32
  ![4, v1800.toNat, 0]
def k0_off186 (i : grid0.Coords) (c0_i32_719 : BitVec 32) : Fin 3 → Nat :=
  let c5_964 : Index := 5#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1804 : Index := Scalar.indexCast v1063
  let c0_965 : Index := 0#32
  ![5, v1804.toNat, 0]
def k0_off187 (i : grid0.Coords) (c0_i32_719 : BitVec 32) : Fin 3 → Nat :=
  let c6_966 : Index := 6#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1808 : Index := Scalar.indexCast v1063
  let c0_967 : Index := 0#32
  ![6, v1808.toNat, 0]
def k0_off188 (i : grid0.Coords) (c0_i32_719 : BitVec 32) : Fin 3 → Nat :=
  let c7_968 : Index := 7#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1812 : Index := Scalar.indexCast v1063
  let c0_969 : Index := 0#32
  ![7, v1812.toNat, 0]
def k0_off189 (i : grid0.Coords) (c0_i32_719 : BitVec 32) : Fin 3 → Nat :=
  let c8 : Index := 8#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1816 : Index := Scalar.indexCast v1063
  let c0_970 : Index := 0#32
  ![8, v1816.toNat, 0]
def k0_off190 (i : grid0.Coords) (c0_i32_719 : BitVec 32) : Fin 3 → Nat :=
  let c9 : Index := 9#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1820 : Index := Scalar.indexCast v1063
  let c0_971 : Index := 0#32
  ![9, v1820.toNat, 0]
def k0_off191 (i : grid0.Coords) (c0_i32_719 : BitVec 32) : Fin 3 → Nat :=
  let c10 : Index := 10#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1824 : Index := Scalar.indexCast v1063
  let c0_972 : Index := 0#32
  ![10, v1824.toNat, 0]
def k0_off192 (i : grid0.Coords) (c0_i32_719 : BitVec 32) : Fin 3 → Nat :=
  let c11 : Index := 11#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1828 : Index := Scalar.indexCast v1063
  let c0_973 : Index := 0#32
  ![11, v1828.toNat, 0]
def k0_off193 (i : grid0.Coords) (c0_i32_719 : BitVec 32) : Fin 3 → Nat :=
  let c12 : Index := 12#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1832 : Index := Scalar.indexCast v1063
  let c0_974 : Index := 0#32
  ![12, v1832.toNat, 0]
def k0_off194 (i : grid0.Coords) (c0_i32_719 : BitVec 32) : Fin 3 → Nat :=
  let c13 : Index := 13#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1836 : Index := Scalar.indexCast v1063
  let c0_975 : Index := 0#32
  ![13, v1836.toNat, 0]
def k0_off195 (i : grid0.Coords) (c0_i32_719 : BitVec 32) : Fin 3 → Nat :=
  let c14 : Index := 14#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1840 : Index := Scalar.indexCast v1063
  let c0_976 : Index := 0#32
  ![14, v1840.toNat, 0]
def k0_off196 (i : grid0.Coords) (c0_i32_719 : BitVec 32) : Fin 3 → Nat :=
  let c15 : Index := 15#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1844 : Index := Scalar.indexCast v1063
  let c0_977 : Index := 0#32
  ![15, v1844.toNat, 0]
def k0_off197 (i : grid0.Coords) (c0_i32_719 : BitVec 32) : Fin 3 → Nat :=
  let c16 : Index := 16#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1848 : Index := Scalar.indexCast v1063
  let c0_978 : Index := 0#32
  ![16, v1848.toNat, 0]
def k0_off198 (i : grid0.Coords) (c0_i32_719 : BitVec 32) : Fin 3 → Nat :=
  let c17 : Index := 17#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1852 : Index := Scalar.indexCast v1063
  let c0_979 : Index := 0#32
  ![17, v1852.toNat, 0]
def k0_off199 (i : grid0.Coords) (c0_i32_719 : BitVec 32) : Fin 3 → Nat :=
  let c18 : Index := 18#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1856 : Index := Scalar.indexCast v1063
  let c0_980 : Index := 0#32
  ![18, v1856.toNat, 0]
def k0_off200 (i : grid0.Coords) (c0_i32_719 : BitVec 32) : Fin 3 → Nat :=
  let c19 : Index := 19#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1860 : Index := Scalar.indexCast v1063
  let c0_981 : Index := 0#32
  ![19, v1860.toNat, 0]
def k0_off201 (i : grid0.Coords) (c0_i32_719 : BitVec 32) : Fin 3 → Nat :=
  let c20 : Index := 20#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1864 : Index := Scalar.indexCast v1063
  let c0_982 : Index := 0#32
  ![20, v1864.toNat, 0]
def k0_off202 (i : grid0.Coords) (c0_i32_719 : BitVec 32) : Fin 3 → Nat :=
  let c21 : Index := 21#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1868 : Index := Scalar.indexCast v1063
  let c0_983 : Index := 0#32
  ![21, v1868.toNat, 0]
def k0_off203 (i : grid0.Coords) (c0_i32_719 : BitVec 32) : Fin 3 → Nat :=
  let c22 : Index := 22#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1872 : Index := Scalar.indexCast v1063
  let c0_984 : Index := 0#32
  ![22, v1872.toNat, 0]
def k0_off204 (i : grid0.Coords) (c0_i32_719 : BitVec 32) : Fin 3 → Nat :=
  let c23 : Index := 23#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1876 : Index := Scalar.indexCast v1063
  let c0_985 : Index := 0#32
  ![23, v1876.toNat, 0]
def k0_off205 (i : grid0.Coords) (c0_i32_719 : BitVec 32) : Fin 3 → Nat :=
  let c24 : Index := 24#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1880 : Index := Scalar.indexCast v1063
  let c0_986 : Index := 0#32
  ![24, v1880.toNat, 0]
def k0_off206 (i : grid0.Coords) (c0_i32_719 : BitVec 32) : Fin 3 → Nat :=
  let c25 : Index := 25#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1884 : Index := Scalar.indexCast v1063
  let c0_987 : Index := 0#32
  ![25, v1884.toNat, 0]
def k0_off207 (i : grid0.Coords) (c0_i32_719 : BitVec 32) : Fin 3 → Nat :=
  let c26 : Index := 26#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1888 : Index := Scalar.indexCast v1063
  let c0_988 : Index := 0#32
  ![26, v1888.toNat, 0]
def k0_off208 (i : grid0.Coords) (c0_i32_719 : BitVec 32) : Fin 3 → Nat :=
  let c27 : Index := 27#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1892 : Index := Scalar.indexCast v1063
  let c0_989 : Index := 0#32
  ![27, v1892.toNat, 0]
def k0_off209 (i : grid0.Coords) (c0_i32_719 : BitVec 32) : Fin 3 → Nat :=
  let c28 : Index := 28#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1896 : Index := Scalar.indexCast v1063
  let c0_990 : Index := 0#32
  ![28, v1896.toNat, 0]
def k0_off210 (i : grid0.Coords) (c0_i32_719 : BitVec 32) : Fin 3 → Nat :=
  let c29 : Index := 29#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1900 : Index := Scalar.indexCast v1063
  let c0_991 : Index := 0#32
  ![29, v1900.toNat, 0]
def k0_off211 (i : grid0.Coords) (c0_i32_719 : BitVec 32) : Fin 3 → Nat :=
  let c30 : Index := 30#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1904 : Index := Scalar.indexCast v1063
  let c0_992 : Index := 0#32
  ![30, v1904.toNat, 0]
def k0_off212 (i : grid0.Coords) (c0_i32_719 : BitVec 32) : Fin 3 → Nat :=
  let c31 : Index := 31#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1046 : BitVec 1 := Scalar.cmpi .sgt v221 c0_i32_713
  let v1047 : BitVec 32 := Scalar.extui v1046
  let c0_i32_714 : BitVec 32 := 0#32
  let v1048 : BitVec 1 := Scalar.cmpi .slt v221 c0_i32_714
  let v1049 : BitVec 32 := Scalar.extui v1048
  let v1050 : BitVec 32 := Scalar.subi v1047 v1049
  let c32_i32_712 : BitVec 32 := 32#32
  let c0_i32_715 : BitVec 32 := 0#32
  let v1051 : BitVec 1 := Scalar.cmpi .sgt c32_i32_712 c0_i32_715
  let v1052 : BitVec 32 := Scalar.extui v1051
  let c0_i32_716 : BitVec 32 := 0#32
  let v1053 : BitVec 1 := Scalar.cmpi .slt c32_i32_712 c0_i32_716
  let v1054 : BitVec 32 := Scalar.extui v1053
  let v1055 : BitVec 32 := Scalar.subi v1052 v1054
  let v1056 : BitVec 1 := Scalar.cmpi .ne v1050 v1055
  let v1057 : BitVec 32 := Scalar.remsi v221 c32_i32_712
  let c0_i32_717 : BitVec 32 := 0#32
  let v1058 : BitVec 1 := Scalar.cmpi .ne v1057 c0_i32_717
  let v1059 : BitVec 1 := Scalar.andi v1056 v1058
  let v1045 : BitVec 32 := Scalar.divsi v221 c32_i32_712
  let c1_i32_718 : BitVec 32 := 1#32
  let v1060 : BitVec 32 := Scalar.subi v1045 c1_i32_718
  let v1061 : BitVec 32 := Scalar.select v1059 v1060 v1045
  let v1062 : BitVec 32 := Scalar.addi v1061 c0_i32_719
  let v1063 : BitVec 32 := v1062
  let v1908 : Index := Scalar.indexCast v1063
  let c0_993 : Index := 0#32
  ![31, v1908.toNat, 0]
def k0_mult18 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_995 : BitVec 32 := 0#32
  let v1945 : BitVec 1 := Scalar.cmpi .sgt v221 c0_i32_995
  let v1946 : BitVec 32 := Scalar.extui v1945
  let c0_i32_996 : BitVec 32 := 0#32
  let v1947 : BitVec 1 := Scalar.cmpi .slt v221 c0_i32_996
  let v1948 : BitVec 32 := Scalar.extui v1947
  let v1949 : BitVec 32 := Scalar.subi v1946 v1948
  let c32_i32_994 : BitVec 32 := 32#32
  let c0_i32_997 : BitVec 32 := 0#32
  let v1950 : BitVec 1 := Scalar.cmpi .sgt c32_i32_994 c0_i32_997
  let v1951 : BitVec 32 := Scalar.extui v1950
  let c0_i32_998 : BitVec 32 := 0#32
  let v1952 : BitVec 1 := Scalar.cmpi .slt c32_i32_994 c0_i32_998
  let v1953 : BitVec 32 := Scalar.extui v1952
  let v1954 : BitVec 32 := Scalar.subi v1951 v1953
  let v1955 : BitVec 1 := Scalar.cmpi .ne v1949 v1954
  let v1956 : BitVec 32 := Scalar.remsi v221 c32_i32_994
  let c0_i32_999 : BitVec 32 := 0#32
  let v1957 : BitVec 1 := Scalar.cmpi .ne v1956 c0_i32_999
  let v1958 : BitVec 1 := Scalar.andi v1955 v1957
  let v1944 : BitVec 32 := Scalar.divsi v221 c32_i32_994
  let c1_i32_1000 : BitVec 32 := 1#32
  let v1959 : BitVec 32 := Scalar.subi v1944 c1_i32_1000
  let v1960 : BitVec 32 := Scalar.select v1958 v1959 v1944
  let c8_i32_1001 : BitVec 32 := 8#32
  let v1961 : BitVec 32 := Scalar.addi v1960 c8_i32_1001
  v1961
def k0_cond4 (i : grid0.Coords) : BitVec 1 :=
  let arg1 : BitVec 32 := BitVec.ofNat 32 (i 1).val
  let c4_i32_136 : BitVec 32 := 4#32
  let v222 : BitVec 32 := Scalar.remsi arg1 c4_i32_136
  let c2_i32_137 : BitVec 32 := 2#32
  let v223 : BitVec 1 := Scalar.cmpi .sge v222 c2_i32_137
  let v_true : BitVec 1 := 1#1
  let v226 : BitVec 1 := Scalar.xori v223 v_true
  let v227 : BitVec 32 := Scalar.extui v226
  let c0_i32_139 : BitVec 32 := 0#32
  let v228 : BitVec 1 := Scalar.cmpi .ne v227 c0_i32_139
  v228

def k0_off213 (i : grid0.Coords) : Fin 3 → Nat :=
  let c0_680 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let v929 : Index := Scalar.indexCast v221
  let c0_681 : Index := 0#32
  ![0, v929.toNat, 0]
def k0_off214 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let v1010 : Index := Scalar.indexCast v221
  let c0_711 : Index := 0#32
  ![v1010.toNat, 0]
def k0_mult19 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  v1063
def k0_off215 (i : grid0.Coords) : Fin 3 → Nat :=
  let c0_954 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1785 : Index := Scalar.indexCast v1064
  let c0_955 : Index := 0#32
  ![0, v1785.toNat, 0]
def k0_off216 (i : grid0.Coords) : Fin 3 → Nat :=
  let c1_956 : Index := 1#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1789 : Index := Scalar.indexCast v1064
  let c0_957 : Index := 0#32
  ![1, v1789.toNat, 0]
def k0_off217 (i : grid0.Coords) : Fin 3 → Nat :=
  let c2_958 : Index := 2#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1793 : Index := Scalar.indexCast v1064
  let c0_959 : Index := 0#32
  ![2, v1793.toNat, 0]
def k0_off218 (i : grid0.Coords) : Fin 3 → Nat :=
  let c3_960 : Index := 3#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1797 : Index := Scalar.indexCast v1064
  let c0_961 : Index := 0#32
  ![3, v1797.toNat, 0]
def k0_off219 (i : grid0.Coords) : Fin 3 → Nat :=
  let c4_962 : Index := 4#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1801 : Index := Scalar.indexCast v1064
  let c0_963 : Index := 0#32
  ![4, v1801.toNat, 0]
def k0_off220 (i : grid0.Coords) : Fin 3 → Nat :=
  let c5_964 : Index := 5#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1805 : Index := Scalar.indexCast v1064
  let c0_965 : Index := 0#32
  ![5, v1805.toNat, 0]
def k0_off221 (i : grid0.Coords) : Fin 3 → Nat :=
  let c6_966 : Index := 6#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1809 : Index := Scalar.indexCast v1064
  let c0_967 : Index := 0#32
  ![6, v1809.toNat, 0]
def k0_off222 (i : grid0.Coords) : Fin 3 → Nat :=
  let c7_968 : Index := 7#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1813 : Index := Scalar.indexCast v1064
  let c0_969 : Index := 0#32
  ![7, v1813.toNat, 0]
def k0_off223 (i : grid0.Coords) : Fin 3 → Nat :=
  let c8 : Index := 8#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1817 : Index := Scalar.indexCast v1064
  let c0_970 : Index := 0#32
  ![8, v1817.toNat, 0]
def k0_off224 (i : grid0.Coords) : Fin 3 → Nat :=
  let c9 : Index := 9#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1821 : Index := Scalar.indexCast v1064
  let c0_971 : Index := 0#32
  ![9, v1821.toNat, 0]
def k0_off225 (i : grid0.Coords) : Fin 3 → Nat :=
  let c10 : Index := 10#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1825 : Index := Scalar.indexCast v1064
  let c0_972 : Index := 0#32
  ![10, v1825.toNat, 0]
def k0_off226 (i : grid0.Coords) : Fin 3 → Nat :=
  let c11 : Index := 11#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1829 : Index := Scalar.indexCast v1064
  let c0_973 : Index := 0#32
  ![11, v1829.toNat, 0]
def k0_off227 (i : grid0.Coords) : Fin 3 → Nat :=
  let c12 : Index := 12#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1833 : Index := Scalar.indexCast v1064
  let c0_974 : Index := 0#32
  ![12, v1833.toNat, 0]
def k0_off228 (i : grid0.Coords) : Fin 3 → Nat :=
  let c13 : Index := 13#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1837 : Index := Scalar.indexCast v1064
  let c0_975 : Index := 0#32
  ![13, v1837.toNat, 0]
def k0_off229 (i : grid0.Coords) : Fin 3 → Nat :=
  let c14 : Index := 14#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1841 : Index := Scalar.indexCast v1064
  let c0_976 : Index := 0#32
  ![14, v1841.toNat, 0]
def k0_off230 (i : grid0.Coords) : Fin 3 → Nat :=
  let c15 : Index := 15#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1845 : Index := Scalar.indexCast v1064
  let c0_977 : Index := 0#32
  ![15, v1845.toNat, 0]
def k0_off231 (i : grid0.Coords) : Fin 3 → Nat :=
  let c16 : Index := 16#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1849 : Index := Scalar.indexCast v1064
  let c0_978 : Index := 0#32
  ![16, v1849.toNat, 0]
def k0_off232 (i : grid0.Coords) : Fin 3 → Nat :=
  let c17 : Index := 17#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1853 : Index := Scalar.indexCast v1064
  let c0_979 : Index := 0#32
  ![17, v1853.toNat, 0]
def k0_off233 (i : grid0.Coords) : Fin 3 → Nat :=
  let c18 : Index := 18#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1857 : Index := Scalar.indexCast v1064
  let c0_980 : Index := 0#32
  ![18, v1857.toNat, 0]
def k0_off234 (i : grid0.Coords) : Fin 3 → Nat :=
  let c19 : Index := 19#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1861 : Index := Scalar.indexCast v1064
  let c0_981 : Index := 0#32
  ![19, v1861.toNat, 0]
def k0_off235 (i : grid0.Coords) : Fin 3 → Nat :=
  let c20 : Index := 20#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1865 : Index := Scalar.indexCast v1064
  let c0_982 : Index := 0#32
  ![20, v1865.toNat, 0]
def k0_off236 (i : grid0.Coords) : Fin 3 → Nat :=
  let c21 : Index := 21#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1869 : Index := Scalar.indexCast v1064
  let c0_983 : Index := 0#32
  ![21, v1869.toNat, 0]
def k0_off237 (i : grid0.Coords) : Fin 3 → Nat :=
  let c22 : Index := 22#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1873 : Index := Scalar.indexCast v1064
  let c0_984 : Index := 0#32
  ![22, v1873.toNat, 0]
def k0_off238 (i : grid0.Coords) : Fin 3 → Nat :=
  let c23 : Index := 23#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1877 : Index := Scalar.indexCast v1064
  let c0_985 : Index := 0#32
  ![23, v1877.toNat, 0]
def k0_off239 (i : grid0.Coords) : Fin 3 → Nat :=
  let c24 : Index := 24#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1881 : Index := Scalar.indexCast v1064
  let c0_986 : Index := 0#32
  ![24, v1881.toNat, 0]
def k0_off240 (i : grid0.Coords) : Fin 3 → Nat :=
  let c25 : Index := 25#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1885 : Index := Scalar.indexCast v1064
  let c0_987 : Index := 0#32
  ![25, v1885.toNat, 0]
def k0_off241 (i : grid0.Coords) : Fin 3 → Nat :=
  let c26 : Index := 26#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1889 : Index := Scalar.indexCast v1064
  let c0_988 : Index := 0#32
  ![26, v1889.toNat, 0]
def k0_off242 (i : grid0.Coords) : Fin 3 → Nat :=
  let c27 : Index := 27#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1893 : Index := Scalar.indexCast v1064
  let c0_989 : Index := 0#32
  ![27, v1893.toNat, 0]
def k0_off243 (i : grid0.Coords) : Fin 3 → Nat :=
  let c28 : Index := 28#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1897 : Index := Scalar.indexCast v1064
  let c0_990 : Index := 0#32
  ![28, v1897.toNat, 0]
def k0_off244 (i : grid0.Coords) : Fin 3 → Nat :=
  let c29 : Index := 29#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1901 : Index := Scalar.indexCast v1064
  let c0_991 : Index := 0#32
  ![29, v1901.toNat, 0]
def k0_off245 (i : grid0.Coords) : Fin 3 → Nat :=
  let c30 : Index := 30#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1905 : Index := Scalar.indexCast v1064
  let c0_992 : Index := 0#32
  ![30, v1905.toNat, 0]
def k0_off246 (i : grid0.Coords) : Fin 3 → Nat :=
  let c31 : Index := 31#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c0_i32_713 : BitVec 32 := 0#32
  let v1047 : BitVec 1 := Scalar.cmpi .sgt v221 c0_i32_713
  let v1048 : BitVec 32 := Scalar.extui v1047
  let c0_i32_714 : BitVec 32 := 0#32
  let v1049 : BitVec 1 := Scalar.cmpi .slt v221 c0_i32_714
  let v1050 : BitVec 32 := Scalar.extui v1049
  let v1051 : BitVec 32 := Scalar.subi v1048 v1050
  let c32_i32_712 : BitVec 32 := 32#32
  let c0_i32_715 : BitVec 32 := 0#32
  let v1052 : BitVec 1 := Scalar.cmpi .sgt c32_i32_712 c0_i32_715
  let v1053 : BitVec 32 := Scalar.extui v1052
  let c0_i32_716 : BitVec 32 := 0#32
  let v1054 : BitVec 1 := Scalar.cmpi .slt c32_i32_712 c0_i32_716
  let v1055 : BitVec 32 := Scalar.extui v1054
  let v1056 : BitVec 32 := Scalar.subi v1053 v1055
  let v1057 : BitVec 1 := Scalar.cmpi .ne v1051 v1056
  let v1058 : BitVec 32 := Scalar.remsi v221 c32_i32_712
  let c0_i32_717 : BitVec 32 := 0#32
  let v1059 : BitVec 1 := Scalar.cmpi .ne v1058 c0_i32_717
  let v1060 : BitVec 1 := Scalar.andi v1057 v1059
  let v1046 : BitVec 32 := Scalar.divsi v221 c32_i32_712
  let c1_i32_718 : BitVec 32 := 1#32
  let v1061 : BitVec 32 := Scalar.subi v1046 c1_i32_718
  let v1062 : BitVec 32 := Scalar.select v1060 v1061 v1046
  let c0_i32_719 : BitVec 32 := 0#32
  let v1063 : BitVec 32 := Scalar.addi v1062 c0_i32_719
  let v1064 : BitVec 32 := v1063
  let v1909 : Index := Scalar.indexCast v1064
  let c0_993 : Index := 0#32
  ![31, v1909.toNat, 0]
def k0_mult20 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c256_i32_995 : BitVec 32 := 256#32
  let v1914 : BitVec 32 := Scalar.addi v221 c256_i32_995
  v1914
def k0_off247 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_135 : BitVec 32 := 1#32
  let v219 : BitVec 32 := Scalar.subi v17 c1_i32_135
  let c512_i32 : BitVec 32 := 512#32
  let v220 : BitVec 32 := Scalar.muli v219 c512_i32
  let v221 : BitVec 32 := v220
  let c256_i32_995 : BitVec 32 := 256#32
  let v1914 : BitVec 32 := Scalar.addi v221 c256_i32_995
  let v1915 : BitVec 32 := v1914
  let v1916 : Index := Scalar.indexCast v1915
  let c0_996 : Index := 0#32
  ![v1916.toNat, 0]
@[reducible] def k0_t4_loop : Scf.Loop 32 :=
  let c0_i32_198 : BitVec 32 := 0#32
  let c32_i32 : BitVec 32 := 32#32
  let v316 : BitVec 32 := Scalar.addi c0_i32_198 c32_i32
  let c1_i32_199 : BitVec 32 := 1#32
  ⟨c0_i32_198, v316, c1_i32_199⟩
def k0_off248 (k0_t4 : Fin k0_t4_loop.trips) : Fin 3 → Nat :=
  let c0_i32_198 : BitVec 32 := 0#32
  let c1_i32_199 : BitVec 32 := 1#32
  let arg25 : BitVec 32 := Scf.iv c0_i32_198 c1_i32_199 k0_t4
  let v929 : Index := Scalar.indexCast arg25
  let c0_680 : Index := 0#32
  let c0_681 : Index := 0#32
  ![v929.toNat, 0, 0]
@[reducible] def k0_t5_loop (i : grid0.Coords) : Scf.Loop 32 :=
  let c0_i32_681 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v929 : BitVec 32 := Scalar.subi v17 c0_i32_681
  let c1_i32_682 : BitVec 32 := 1#32
  let v931 : BitVec 32 := Scalar.divsi v929 c1_i32_682
  let v932 : BitVec 32 := Scalar.muli v931 c1_i32_682
  let v933 : BitVec 32 := Scalar.addi c0_i32_681 v932
  let c1_i32_683 : BitVec 32 := 1#32
  ⟨c0_i32_681, v933, c1_i32_683⟩
def k0_mult21 (i : grid0.Coords) (k0_t5 : Fin (k0_t5_loop i).trips) : BitVec 32 :=
  let c0_i32_681 : BitVec 32 := 0#32
  let c1_i32_683 : BitVec 32 := 1#32
  let arg25 : BitVec 32 := Scf.iv c0_i32_681 c1_i32_683 k0_t5
  let c512_i32_685 : BitVec 32 := 512#32
  let v934 : BitVec 32 := Scalar.muli arg25 c512_i32_685
  v934
def k0_off249 (i : grid0.Coords) (k0_t5 : Fin (k0_t5_loop i).trips) : Fin 2 → Nat :=
  let c0_i32_681 : BitVec 32 := 0#32
  let c1_i32_683 : BitVec 32 := 1#32
  let arg25 : BitVec 32 := Scf.iv c0_i32_681 c1_i32_683 k0_t5
  let c512_i32_685 : BitVec 32 := 512#32
  let v934 : BitVec 32 := Scalar.muli arg25 c512_i32_685
  let v935 : BitVec 32 := v934
  let v936 : Index := Scalar.indexCast v935
  let c0_686 : Index := 0#32
  ![v936.toNat, 0]
@[reducible] def k0_t6_loop (i : grid0.Coords) : Scf.Loop 32 :=
  let c0_i32_681 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v929 : BitVec 32 := Scalar.subi v17 c0_i32_681
  let c1_i32_682 : BitVec 32 := 1#32
  let v931 : BitVec 32 := Scalar.divsi v929 c1_i32_682
  let v932 : BitVec 32 := Scalar.muli v931 c1_i32_682
  let v933 : BitVec 32 := Scalar.addi c0_i32_681 v932
  let v930 : BitVec 32 := Scalar.addi c0_i32_681 v929
  let c1_i32_684 : BitVec 32 := 1#32
  ⟨v933, v930, c1_i32_684⟩
def k0_mult22 (i : grid0.Coords) (k0_t6 : Fin (k0_t6_loop i).trips) : BitVec 32 :=
  let c0_i32_681 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v929 : BitVec 32 := Scalar.subi v17 c0_i32_681
  let c1_i32_682 : BitVec 32 := 1#32
  let v931 : BitVec 32 := Scalar.divsi v929 c1_i32_682
  let v932 : BitVec 32 := Scalar.muli v931 c1_i32_682
  let v933 : BitVec 32 := Scalar.addi c0_i32_681 v932
  let c1_i32_684 : BitVec 32 := 1#32
  let arg25 : BitVec 32 := Scf.iv v933 c1_i32_684 k0_t6
  let c512_i32_685 : BitVec 32 := 512#32
  let v934 : BitVec 32 := Scalar.muli arg25 c512_i32_685
  v934
def k0_off250 (i : grid0.Coords) (k0_t6 : Fin (k0_t6_loop i).trips) : Fin 2 → Nat :=
  let c0_i32_681 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v929 : BitVec 32 := Scalar.subi v17 c0_i32_681
  let c1_i32_682 : BitVec 32 := 1#32
  let v931 : BitVec 32 := Scalar.divsi v929 c1_i32_682
  let v932 : BitVec 32 := Scalar.muli v931 c1_i32_682
  let v933 : BitVec 32 := Scalar.addi c0_i32_681 v932
  let c1_i32_684 : BitVec 32 := 1#32
  let arg25 : BitVec 32 := Scf.iv v933 c1_i32_684 k0_t6
  let c512_i32_685 : BitVec 32 := 512#32
  let v934 : BitVec 32 := Scalar.muli arg25 c512_i32_685
  let v935 : BitVec 32 := v934
  let v936 : Index := Scalar.indexCast v935
  let c0_686 : Index := 0#32
  ![v936.toNat, 0]
@[reducible] def k0_t7_loop : Scf.Loop 32 :=
  let c0_i32_681 : BitVec 32 := 0#32
  let c12_i32_682 : BitVec 32 := 12#32
  let v931 : BitVec 32 := Scalar.addi c0_i32_681 c12_i32_682
  let c1_i32_683 : BitVec 32 := 1#32
  ⟨c0_i32_681, v931, c1_i32_683⟩
@[reducible] def k0_t8_loop (i : grid0.Coords) : Scf.Loop 32 :=
  let c0_i32_686 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v935 : BitVec 32 := Scalar.subi v17 c0_i32_686
  let c1_i32_687 : BitVec 32 := 1#32
  let v937 : BitVec 32 := Scalar.divsi v935 c1_i32_687
  let v938 : BitVec 32 := Scalar.muli v937 c1_i32_687
  let v939 : BitVec 32 := Scalar.addi c0_i32_686 v938
  let c1_i32_688 : BitVec 32 := 1#32
  ⟨c0_i32_686, v939, c1_i32_688⟩
def k0_mult23 (i : grid0.Coords) (k0_t8 : Fin (k0_t8_loop i).trips) : BitVec 32 :=
  let c0_i32_686 : BitVec 32 := 0#32
  let c1_i32_688 : BitVec 32 := 1#32
  let arg25 : BitVec 32 := Scf.iv c0_i32_686 c1_i32_688 k0_t8
  let c512_i32_690 : BitVec 32 := 512#32
  let v940 : BitVec 32 := Scalar.muli arg25 c512_i32_690
  v940
def k0_off251 (i : grid0.Coords) (k0_t8 : Fin (k0_t8_loop i).trips) : Fin 2 → Nat :=
  let c0_i32_686 : BitVec 32 := 0#32
  let c1_i32_688 : BitVec 32 := 1#32
  let arg25 : BitVec 32 := Scf.iv c0_i32_686 c1_i32_688 k0_t8
  let c512_i32_690 : BitVec 32 := 512#32
  let v940 : BitVec 32 := Scalar.muli arg25 c512_i32_690
  let v941 : BitVec 32 := v940
  let v942 : Index := Scalar.indexCast v941
  let c0_691 : Index := 0#32
  ![v942.toNat, 0]
@[reducible] def k0_t9_loop (i : grid0.Coords) : Scf.Loop 32 :=
  let c0_i32_686 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v935 : BitVec 32 := Scalar.subi v17 c0_i32_686
  let c1_i32_687 : BitVec 32 := 1#32
  let v937 : BitVec 32 := Scalar.divsi v935 c1_i32_687
  let v938 : BitVec 32 := Scalar.muli v937 c1_i32_687
  let v939 : BitVec 32 := Scalar.addi c0_i32_686 v938
  let v936 : BitVec 32 := Scalar.addi c0_i32_686 v935
  let c1_i32_689 : BitVec 32 := 1#32
  ⟨v939, v936, c1_i32_689⟩
def k0_mult24 (i : grid0.Coords) (k0_t9 : Fin (k0_t9_loop i).trips) : BitVec 32 :=
  let c0_i32_686 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v935 : BitVec 32 := Scalar.subi v17 c0_i32_686
  let c1_i32_687 : BitVec 32 := 1#32
  let v937 : BitVec 32 := Scalar.divsi v935 c1_i32_687
  let v938 : BitVec 32 := Scalar.muli v937 c1_i32_687
  let v939 : BitVec 32 := Scalar.addi c0_i32_686 v938
  let c1_i32_689 : BitVec 32 := 1#32
  let arg25 : BitVec 32 := Scf.iv v939 c1_i32_689 k0_t9
  let c512_i32_690 : BitVec 32 := 512#32
  let v940 : BitVec 32 := Scalar.muli arg25 c512_i32_690
  v940
def k0_off252 (i : grid0.Coords) (k0_t9 : Fin (k0_t9_loop i).trips) : Fin 2 → Nat :=
  let c0_i32_686 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v935 : BitVec 32 := Scalar.subi v17 c0_i32_686
  let c1_i32_687 : BitVec 32 := 1#32
  let v937 : BitVec 32 := Scalar.divsi v935 c1_i32_687
  let v938 : BitVec 32 := Scalar.muli v937 c1_i32_687
  let v939 : BitVec 32 := Scalar.addi c0_i32_686 v938
  let c1_i32_689 : BitVec 32 := 1#32
  let arg25 : BitVec 32 := Scf.iv v939 c1_i32_689 k0_t9
  let c512_i32_690 : BitVec 32 := 512#32
  let v940 : BitVec 32 := Scalar.muli arg25 c512_i32_690
  let v941 : BitVec 32 := v940
  let v942 : Index := Scalar.indexCast v941
  let c0_691 : Index := 0#32
  ![v942.toNat, 0]
def k0_mult25 (i : grid0.Coords) : BitVec 32 :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  v373
def k0_off253 (i : grid0.Coords) : Fin 2 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  let v374 : BitVec 32 := v373
  let v375 : Index := Scalar.indexCast v374
  let c0_210 : Index := 0#32
  ![v375.toNat, 0]
def k0_off254 (i : grid0.Coords) : Fin 3 → Nat :=
  let c0_234 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  let v374 : BitVec 32 := v373
  let v414 : Index := Scalar.indexCast v374
  let c0_235 : Index := 0#32
  ![0, v414.toNat, 0]
def k0_off255 (i : grid0.Coords) (c0_i32_240 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v422 : BitVec 32 := Scalar.addi v372 c0_i32_240
  let v423 : BitVec 32 := Scalar.subi arg1 v422
  let c0_i32_241 : BitVec 32 := 0#32
  let v424 : BitVec 1 := Scalar.cmpi .eq v423 c0_i32_241
  let c0_i32_245 : BitVec 32 := 0#32
  let c1_i32_242 : BitVec 32 := 1#32
  let v425 : BitVec 1 := Scalar.cmpi .eq v423 c1_i32_242
  let c1_i32_243 : BitVec 32 := 1#32
  let c2_i32_244 : BitVec 32 := 2#32
  let v426 : BitVec 32 := Scalar.select v425 c1_i32_243 c2_i32_244
  let v427 : BitVec 32 := Scalar.select v424 c0_i32_245 v426
  let v428 : Index := Scalar.indexCast v427
  let c0_246 : Index := 0#32
  let c0_247 : Index := 0#32
  let c0_248 : Index := 0#32
  ![v428.toNat, 0, 0, 0]
def k0_off256 (i : grid0.Coords) (c0_i32_282 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v469 : BitVec 32 := Scalar.addi v372 c0_i32_282
  let v470 : BitVec 32 := Scalar.subi arg1 v469
  let c0_i32_283 : BitVec 32 := 0#32
  let v471 : BitVec 1 := Scalar.cmpi .eq v470 c0_i32_283
  let c0_i32_287 : BitVec 32 := 0#32
  let c1_i32_284 : BitVec 32 := 1#32
  let v472 : BitVec 1 := Scalar.cmpi .eq v470 c1_i32_284
  let c1_i32_285 : BitVec 32 := 1#32
  let c2_i32_286 : BitVec 32 := 2#32
  let v473 : BitVec 32 := Scalar.select v472 c1_i32_285 c2_i32_286
  let v474 : BitVec 32 := Scalar.select v471 c0_i32_287 v473
  let v475 : Index := Scalar.indexCast v474
  let c1_288 : Index := 1#32
  let c0_289 : Index := 0#32
  let c0_290 : Index := 0#32
  ![v475.toNat, 1, 0, 0]
def k0_off257 (i : grid0.Coords) : Fin 3 → Nat :=
  let c0_324 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  let v374 : BitVec 32 := v373
  let v515 : Index := Scalar.indexCast v374
  let c128_325 : Index := 128#32
  ![0, v515.toNat, 128]
def k0_off258 (i : grid0.Coords) (c0_i32_330 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v523 : BitVec 32 := Scalar.addi v372 c0_i32_330
  let v524 : BitVec 32 := Scalar.subi arg1 v523
  let c0_i32_331 : BitVec 32 := 0#32
  let v525 : BitVec 1 := Scalar.cmpi .eq v524 c0_i32_331
  let c0_i32_335 : BitVec 32 := 0#32
  let c1_i32_332 : BitVec 32 := 1#32
  let v526 : BitVec 1 := Scalar.cmpi .eq v524 c1_i32_332
  let c1_i32_333 : BitVec 32 := 1#32
  let c2_i32_334 : BitVec 32 := 2#32
  let v527 : BitVec 32 := Scalar.select v526 c1_i32_333 c2_i32_334
  let v528 : BitVec 32 := Scalar.select v525 c0_i32_335 v527
  let v529 : Index := Scalar.indexCast v528
  let c2_336 : Index := 2#32
  let c0_337 : Index := 0#32
  let c0_338 : Index := 0#32
  ![v529.toNat, 2, 0, 0]
def k0_off259 (i : grid0.Coords) (c0_i32_372 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v570 : BitVec 32 := Scalar.addi v372 c0_i32_372
  let v571 : BitVec 32 := Scalar.subi arg1 v570
  let c0_i32_373 : BitVec 32 := 0#32
  let v572 : BitVec 1 := Scalar.cmpi .eq v571 c0_i32_373
  let c0_i32_377 : BitVec 32 := 0#32
  let c1_i32_374 : BitVec 32 := 1#32
  let v573 : BitVec 1 := Scalar.cmpi .eq v571 c1_i32_374
  let c1_i32_375 : BitVec 32 := 1#32
  let c2_i32_376 : BitVec 32 := 2#32
  let v574 : BitVec 32 := Scalar.select v573 c1_i32_375 c2_i32_376
  let v575 : BitVec 32 := Scalar.select v572 c0_i32_377 v574
  let v576 : Index := Scalar.indexCast v575
  let c3_378 : Index := 3#32
  let c0_379 : Index := 0#32
  let c0_380 : Index := 0#32
  ![v576.toNat, 3, 0, 0]
def k0_off260 (i : grid0.Coords) : Fin 3 → Nat :=
  let c0_414 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  let v374 : BitVec 32 := v373
  let v616 : Index := Scalar.indexCast v374
  let c256_415 : Index := 256#32
  ![0, v616.toNat, 256]
def k0_off261 (i : grid0.Coords) (c0_i32_420 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v624 : BitVec 32 := Scalar.addi v372 c0_i32_420
  let v625 : BitVec 32 := Scalar.subi arg1 v624
  let c0_i32_421 : BitVec 32 := 0#32
  let v626 : BitVec 1 := Scalar.cmpi .eq v625 c0_i32_421
  let c0_i32_425 : BitVec 32 := 0#32
  let c1_i32_422 : BitVec 32 := 1#32
  let v627 : BitVec 1 := Scalar.cmpi .eq v625 c1_i32_422
  let c1_i32_423 : BitVec 32 := 1#32
  let c2_i32_424 : BitVec 32 := 2#32
  let v628 : BitVec 32 := Scalar.select v627 c1_i32_423 c2_i32_424
  let v629 : BitVec 32 := Scalar.select v626 c0_i32_425 v628
  let v630 : Index := Scalar.indexCast v629
  let c4_426 : Index := 4#32
  let c0_427 : Index := 0#32
  let c0_428 : Index := 0#32
  ![v630.toNat, 4, 0, 0]
def k0_off262 (i : grid0.Coords) (c0_i32_462 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v671 : BitVec 32 := Scalar.addi v372 c0_i32_462
  let v672 : BitVec 32 := Scalar.subi arg1 v671
  let c0_i32_463 : BitVec 32 := 0#32
  let v673 : BitVec 1 := Scalar.cmpi .eq v672 c0_i32_463
  let c0_i32_467 : BitVec 32 := 0#32
  let c1_i32_464 : BitVec 32 := 1#32
  let v674 : BitVec 1 := Scalar.cmpi .eq v672 c1_i32_464
  let c1_i32_465 : BitVec 32 := 1#32
  let c2_i32_466 : BitVec 32 := 2#32
  let v675 : BitVec 32 := Scalar.select v674 c1_i32_465 c2_i32_466
  let v676 : BitVec 32 := Scalar.select v673 c0_i32_467 v675
  let v677 : Index := Scalar.indexCast v676
  let c5_468 : Index := 5#32
  let c0_469 : Index := 0#32
  let c0_470 : Index := 0#32
  ![v677.toNat, 5, 0, 0]
def k0_off263 (i : grid0.Coords) : Fin 3 → Nat :=
  let c0_504 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c128_i32_209 : BitVec 32 := 128#32
  let v373 : BitVec 32 := Scalar.muli v372 c128_i32_209
  let v374 : BitVec 32 := v373
  let v717 : Index := Scalar.indexCast v374
  let c384_505 : Index := 384#32
  ![0, v717.toNat, 384]
def k0_off264 (i : grid0.Coords) (c0_i32_510 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v725 : BitVec 32 := Scalar.addi v372 c0_i32_510
  let v726 : BitVec 32 := Scalar.subi arg1 v725
  let c0_i32_511 : BitVec 32 := 0#32
  let v727 : BitVec 1 := Scalar.cmpi .eq v726 c0_i32_511
  let c0_i32_515 : BitVec 32 := 0#32
  let c1_i32_512 : BitVec 32 := 1#32
  let v728 : BitVec 1 := Scalar.cmpi .eq v726 c1_i32_512
  let c1_i32_513 : BitVec 32 := 1#32
  let c2_i32_514 : BitVec 32 := 2#32
  let v729 : BitVec 32 := Scalar.select v728 c1_i32_513 c2_i32_514
  let v730 : BitVec 32 := Scalar.select v727 c0_i32_515 v729
  let v731 : Index := Scalar.indexCast v730
  let c6_516 : Index := 6#32
  let c0_517 : Index := 0#32
  let c0_518 : Index := 0#32
  ![v731.toNat, 6, 0, 0]
def k0_off265 (i : grid0.Coords) (c0_i32_552 : BitVec 32) : Fin 4 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let v772 : BitVec 32 := Scalar.addi v372 c0_i32_552
  let v773 : BitVec 32 := Scalar.subi arg1 v772
  let c0_i32_553 : BitVec 32 := 0#32
  let v774 : BitVec 1 := Scalar.cmpi .eq v773 c0_i32_553
  let c0_i32_557 : BitVec 32 := 0#32
  let c1_i32_554 : BitVec 32 := 1#32
  let v775 : BitVec 1 := Scalar.cmpi .eq v773 c1_i32_554
  let c1_i32_555 : BitVec 32 := 1#32
  let c2_i32_556 : BitVec 32 := 2#32
  let v776 : BitVec 32 := Scalar.select v775 c1_i32_555 c2_i32_556
  let v777 : BitVec 32 := Scalar.select v774 c0_i32_557 v776
  let v778 : Index := Scalar.indexCast v777
  let c7_558 : Index := 7#32
  let c0_559 : Index := 0#32
  let c0_560 : Index := 0#32
  ![v778.toNat, 7, 0, 0]
@[reducible] def k0_t10_loop (i : grid0.Coords) : Scf.Loop 32 :=
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_604 : BitVec 32 := 1#32
  ⟨c0_i32_602, v839, c1_i32_604⟩
def k0_mult26 (i : grid0.Coords) (k0_t10 : Fin (k0_t10_loop i).trips) : BitVec 32 :=
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  v930
def k0_off266 (i : grid0.Coords) (k0_t10 : Fin (k0_t10_loop i).trips) : Fin 2 → Nat :=
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  let v931 : BitVec 32 := v930
  let v932 : Index := Scalar.indexCast v931
  let c0_682 : Index := 0#32
  ![v932.toNat, 0]
def k0_off267 (i : grid0.Coords) (k0_t10 : Fin (k0_t10_loop i).trips) : Fin 3 → Nat :=
  let c0_683 : Index := 0#32
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  let v931 : BitVec 32 := v930
  let v934 : Index := Scalar.indexCast v931
  let c0_684 : Index := 0#32
  ![0, v934.toNat, 0]
def k0_off268 (i : grid0.Coords) (k0_t10 : Fin (k0_t10_loop i).trips) : Fin 3 → Nat :=
  let c0_701 : Index := 0#32
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  let v931 : BitVec 32 := v930
  let v959 : Index := Scalar.indexCast v931
  let c128_702 : Index := 128#32
  ![0, v959.toNat, 128]
def k0_off269 (i : grid0.Coords) (k0_t10 : Fin (k0_t10_loop i).trips) : Fin 3 → Nat :=
  let c0_719 : Index := 0#32
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  let v931 : BitVec 32 := v930
  let v984 : Index := Scalar.indexCast v931
  let c256_720 : Index := 256#32
  ![0, v984.toNat, 256]
def k0_off270 (i : grid0.Coords) (k0_t10 : Fin (k0_t10_loop i).trips) : Fin 3 → Nat :=
  let c0_737 : Index := 0#32
  let c2_i32_680 : BitVec 32 := 2#32
  let c0_i32_602 : BitVec 32 := 0#32
  let c1_i32_604 : BitVec 32 := 1#32
  let arg25 : BitVec 32 := Scf.iv c0_i32_602 c1_i32_604 k0_t10
  let v929 : BitVec 32 := Scalar.muli c2_i32_680 arg25
  let c512_i32_681 : BitVec 32 := 512#32
  let v930 : BitVec 32 := Scalar.muli v929 c512_i32_681
  let v931 : BitVec 32 := v930
  let v1009 : Index := Scalar.indexCast v931
  let c384_738 : Index := 384#32
  ![0, v1009.toNat, 384]
def k0_off271 (i : grid0.Coords) (k0_t10 : Fin (k0_t10_loop i).trips) (c0_i32_766 : BitVec 32) : Fin 4 → Nat :=
  let c0_767 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1048 : BitVec 32 := Scalar.addi v1038 c0_i32_766
  let v1049 : Index := Scalar.indexCast v1048
  let c0_768 : Index := 0#32
  let c0_769 : Index := 0#32
  ![0, v1049.toNat, 0, 0]
def k0_off272 (i : grid0.Coords) (k0_t10 : Fin (k0_t10_loop i).trips) (c0_i32_798 : BitVec 32) : Fin 4 → Nat :=
  let c0_799 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1089 : BitVec 32 := Scalar.addi v1038 c0_i32_798
  let v1090 : Index := Scalar.indexCast v1089
  let c64_800 : Index := 64#32
  let c0_801 : Index := 0#32
  ![0, v1090.toNat, 64, 0]
def k0_off273 (i : grid0.Coords) (k0_t10 : Fin (k0_t10_loop i).trips) (c0_i32_830 : BitVec 32) : Fin 4 → Nat :=
  let c0_831 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1130 : BitVec 32 := Scalar.addi v1038 c0_i32_830
  let v1131 : Index := Scalar.indexCast v1130
  let c128_832 : Index := 128#32
  let c0_833 : Index := 0#32
  ![0, v1131.toNat, 128, 0]
def k0_off274 (i : grid0.Coords) (k0_t10 : Fin (k0_t10_loop i).trips) (c0_i32_862 : BitVec 32) : Fin 4 → Nat :=
  let c0_863 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1171 : BitVec 32 := Scalar.addi v1038 c0_i32_862
  let v1172 : Index := Scalar.indexCast v1171
  let c192_864 : Index := 192#32
  let c0_865 : Index := 0#32
  ![0, v1172.toNat, 192, 0]
def k0_off275 (i : grid0.Coords) (k0_t10 : Fin (k0_t10_loop i).trips) (c0_i32_894 : BitVec 32) : Fin 4 → Nat :=
  let c0_895 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1212 : BitVec 32 := Scalar.addi v1038 c0_i32_894
  let v1213 : Index := Scalar.indexCast v1212
  let c256_896 : Index := 256#32
  let c0_897 : Index := 0#32
  ![0, v1213.toNat, 256, 0]
def k0_off276 (i : grid0.Coords) (k0_t10 : Fin (k0_t10_loop i).trips) (c0_i32_926 : BitVec 32) : Fin 4 → Nat :=
  let c0_927 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1253 : BitVec 32 := Scalar.addi v1038 c0_i32_926
  let v1254 : Index := Scalar.indexCast v1253
  let c320_928 : Index := 320#32
  let c0_929 : Index := 0#32
  ![0, v1254.toNat, 320, 0]
def k0_off277 (i : grid0.Coords) (k0_t10 : Fin (k0_t10_loop i).trips) (c0_i32_958 : BitVec 32) : Fin 4 → Nat :=
  let c0_959 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1294 : BitVec 32 := Scalar.addi v1038 c0_i32_958
  let v1295 : Index := Scalar.indexCast v1294
  let c384_960 : Index := 384#32
  let c0_961 : Index := 0#32
  ![0, v1295.toNat, 384, 0]
def k0_off278 (i : grid0.Coords) (k0_t10 : Fin (k0_t10_loop i).trips) (c0_i32_990 : BitVec 32) : Fin 4 → Nat :=
  let c0_991 : Index := 0#32
  let c0_i32_602 : BitVec 32 := 0#32
  let c1_i32_604 : BitVec 32 := 1#32
  let arg25 : BitVec 32 := Scf.iv c0_i32_602 c1_i32_604 k0_t10
  let c0_i32_755 : BitVec 32 := 0#32
  let v1034 : BitVec 1 := Scalar.cmpi .eq arg25 c0_i32_755
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1335 : BitVec 32 := Scalar.addi v1038 c0_i32_990
  let v1336 : Index := Scalar.indexCast v1335
  let c448_992 : Index := 448#32
  let c0_993 : Index := 0#32
  ![0, v1336.toNat, 448, 0]
def k0_mult27 (i : grid0.Coords) (k0_t10 : Fin (k0_t10_loop i).trips) : BitVec 32 :=
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  v1369
def k0_off279 (i : grid0.Coords) (k0_t10 : Fin (k0_t10_loop i).trips) : Fin 2 → Nat :=
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1371 : Index := Scalar.indexCast v1370
  let c0_1018 : Index := 0#32
  ![v1371.toNat, 0]
def k0_off280 (i : grid0.Coords) (k0_t10 : Fin (k0_t10_loop i).trips) : Fin 3 → Nat :=
  let c0_1019 : Index := 0#32
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1373 : Index := Scalar.indexCast v1370
  let c0_1020 : Index := 0#32
  ![0, v1373.toNat, 0]
def k0_off281 (i : grid0.Coords) (k0_t10 : Fin (k0_t10_loop i).trips) : Fin 3 → Nat :=
  let c0_1037 : Index := 0#32
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1398 : Index := Scalar.indexCast v1370
  let c128_1038 : Index := 128#32
  ![0, v1398.toNat, 128]
def k0_off282 (i : grid0.Coords) (k0_t10 : Fin (k0_t10_loop i).trips) : Fin 3 → Nat :=
  let c0_1055 : Index := 0#32
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1423 : Index := Scalar.indexCast v1370
  let c256_1056 : Index := 256#32
  ![0, v1423.toNat, 256]
def k0_off283 (i : grid0.Coords) (k0_t10 : Fin (k0_t10_loop i).trips) : Fin 3 → Nat :=
  let c0_1073 : Index := 0#32
  let c2_i32_1015 : BitVec 32 := 2#32
  let c0_i32_602 : BitVec 32 := 0#32
  let c1_i32_604 : BitVec 32 := 1#32
  let arg25 : BitVec 32 := Scf.iv c0_i32_602 c1_i32_604 k0_t10
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1448 : Index := Scalar.indexCast v1370
  let c384_1074 : Index := 384#32
  ![0, v1448.toNat, 384]
def k0_off284 (i : grid0.Coords) (k0_t10 : Fin (k0_t10_loop i).trips) (c0_i32_1100 : BitVec 32) : Fin 4 → Nat :=
  let c0_1101 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1484 : BitVec 32 := Scalar.addi v1474 c0_i32_1100
  let v1485 : Index := Scalar.indexCast v1484
  let c0_1102 : Index := 0#32
  let c0_1103 : Index := 0#32
  ![0, v1485.toNat, 0, 0]
def k0_off285 (i : grid0.Coords) (k0_t10 : Fin (k0_t10_loop i).trips) (c0_i32_1132 : BitVec 32) : Fin 4 → Nat :=
  let c0_1133 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1525 : BitVec 32 := Scalar.addi v1474 c0_i32_1132
  let v1526 : Index := Scalar.indexCast v1525
  let c64_1134 : Index := 64#32
  let c0_1135 : Index := 0#32
  ![0, v1526.toNat, 64, 0]
def k0_off286 (i : grid0.Coords) (k0_t10 : Fin (k0_t10_loop i).trips) (c0_i32_1164 : BitVec 32) : Fin 4 → Nat :=
  let c0_1165 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1566 : BitVec 32 := Scalar.addi v1474 c0_i32_1164
  let v1567 : Index := Scalar.indexCast v1566
  let c128_1166 : Index := 128#32
  let c0_1167 : Index := 0#32
  ![0, v1567.toNat, 128, 0]
def k0_off287 (i : grid0.Coords) (k0_t10 : Fin (k0_t10_loop i).trips) (c0_i32_1196 : BitVec 32) : Fin 4 → Nat :=
  let c0_1197 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1607 : BitVec 32 := Scalar.addi v1474 c0_i32_1196
  let v1608 : Index := Scalar.indexCast v1607
  let c192_1198 : Index := 192#32
  let c0_1199 : Index := 0#32
  ![0, v1608.toNat, 192, 0]
def k0_off288 (i : grid0.Coords) (k0_t10 : Fin (k0_t10_loop i).trips) (c0_i32_1228 : BitVec 32) : Fin 4 → Nat :=
  let c0_1229 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1648 : BitVec 32 := Scalar.addi v1474 c0_i32_1228
  let v1649 : Index := Scalar.indexCast v1648
  let c256_1230 : Index := 256#32
  let c0_1231 : Index := 0#32
  ![0, v1649.toNat, 256, 0]
def k0_off289 (i : grid0.Coords) (k0_t10 : Fin (k0_t10_loop i).trips) (c0_i32_1260 : BitVec 32) : Fin 4 → Nat :=
  let c0_1261 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1689 : BitVec 32 := Scalar.addi v1474 c0_i32_1260
  let v1690 : Index := Scalar.indexCast v1689
  let c320_1262 : Index := 320#32
  let c0_1263 : Index := 0#32
  ![0, v1690.toNat, 320, 0]
def k0_off290 (i : grid0.Coords) (k0_t10 : Fin (k0_t10_loop i).trips) (c0_i32_1292 : BitVec 32) : Fin 4 → Nat :=
  let c0_1293 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1730 : BitVec 32 := Scalar.addi v1474 c0_i32_1292
  let v1731 : Index := Scalar.indexCast v1730
  let c384_1294 : Index := 384#32
  let c0_1295 : Index := 0#32
  ![0, v1731.toNat, 384, 0]
def k0_off291 (i : grid0.Coords) (k0_t10 : Fin (k0_t10_loop i).trips) (c0_i32_1324 : BitVec 32) : Fin 4 → Nat :=
  let c0_1325 : Index := 0#32
  let c2_i32_1091 : BitVec 32 := 2#32
  let c0_i32_602 : BitVec 32 := 0#32
  let c1_i32_604 : BitVec 32 := 1#32
  let arg25 : BitVec 32 := Scf.iv c0_i32_602 c1_i32_604 k0_t10
  let v1473 : BitVec 32 := Scalar.muli c2_i32_1091 arg25
  let c4_i32_1092 : BitVec 32 := 4#32
  let v1474 : BitVec 32 := Scalar.muli v1473 c4_i32_1092
  let v1771 : BitVec 32 := Scalar.addi v1474 c0_i32_1324
  let v1772 : Index := Scalar.indexCast v1771
  let c448_1326 : Index := 448#32
  let c0_1327 : Index := 0#32
  ![0, v1772.toNat, 448, 0]
@[reducible] def k0_t11_loop (i : grid0.Coords) : Scf.Loop 32 :=
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let v836 : BitVec 32 := Scalar.addi c0_i32_602 v835
  let c1_i32_605 : BitVec 32 := 1#32
  ⟨v839, v836, c1_i32_605⟩
def k0_mult28 (i : grid0.Coords) (k0_t11 : Fin (k0_t11_loop i).trips) : BitVec 32 :=
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  v930
def k0_off292 (i : grid0.Coords) (k0_t11 : Fin (k0_t11_loop i).trips) : Fin 2 → Nat :=
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  let v931 : BitVec 32 := v930
  let v932 : Index := Scalar.indexCast v931
  let c0_682 : Index := 0#32
  ![v932.toNat, 0]
def k0_off293 (i : grid0.Coords) (k0_t11 : Fin (k0_t11_loop i).trips) : Fin 3 → Nat :=
  let c0_683 : Index := 0#32
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  let v931 : BitVec 32 := v930
  let v934 : Index := Scalar.indexCast v931
  let c0_684 : Index := 0#32
  ![0, v934.toNat, 0]
def k0_off294 (i : grid0.Coords) (k0_t11 : Fin (k0_t11_loop i).trips) : Fin 3 → Nat :=
  let c0_701 : Index := 0#32
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  let v931 : BitVec 32 := v930
  let v959 : Index := Scalar.indexCast v931
  let c128_702 : Index := 128#32
  ![0, v959.toNat, 128]
def k0_off295 (i : grid0.Coords) (k0_t11 : Fin (k0_t11_loop i).trips) : Fin 3 → Nat :=
  let c0_719 : Index := 0#32
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  let v931 : BitVec 32 := v930
  let v984 : Index := Scalar.indexCast v931
  let c256_720 : Index := 256#32
  ![0, v984.toNat, 256]
def k0_off296 (i : grid0.Coords) (k0_t11 : Fin (k0_t11_loop i).trips) : Fin 3 → Nat :=
  let c0_737 : Index := 0#32
  let c2_i32_680 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v929 : BitVec 32 := Scalar.muli c2_i32_680 arg25
  let c512_i32_681 : BitVec 32 := 512#32
  let v930 : BitVec 32 := Scalar.muli v929 c512_i32_681
  let v931 : BitVec 32 := v930
  let v1009 : Index := Scalar.indexCast v931
  let c384_738 : Index := 384#32
  ![0, v1009.toNat, 384]
def k0_off297 (i : grid0.Coords) (k0_t11 : Fin (k0_t11_loop i).trips) (c0_i32_766 : BitVec 32) : Fin 4 → Nat :=
  let c0_767 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1048 : BitVec 32 := Scalar.addi v1038 c0_i32_766
  let v1049 : Index := Scalar.indexCast v1048
  let c0_768 : Index := 0#32
  let c0_769 : Index := 0#32
  ![0, v1049.toNat, 0, 0]
def k0_off298 (i : grid0.Coords) (k0_t11 : Fin (k0_t11_loop i).trips) (c0_i32_798 : BitVec 32) : Fin 4 → Nat :=
  let c0_799 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1089 : BitVec 32 := Scalar.addi v1038 c0_i32_798
  let v1090 : Index := Scalar.indexCast v1089
  let c64_800 : Index := 64#32
  let c0_801 : Index := 0#32
  ![0, v1090.toNat, 64, 0]
def k0_off299 (i : grid0.Coords) (k0_t11 : Fin (k0_t11_loop i).trips) (c0_i32_830 : BitVec 32) : Fin 4 → Nat :=
  let c0_831 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1130 : BitVec 32 := Scalar.addi v1038 c0_i32_830
  let v1131 : Index := Scalar.indexCast v1130
  let c128_832 : Index := 128#32
  let c0_833 : Index := 0#32
  ![0, v1131.toNat, 128, 0]
def k0_off300 (i : grid0.Coords) (k0_t11 : Fin (k0_t11_loop i).trips) (c0_i32_862 : BitVec 32) : Fin 4 → Nat :=
  let c0_863 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1171 : BitVec 32 := Scalar.addi v1038 c0_i32_862
  let v1172 : Index := Scalar.indexCast v1171
  let c192_864 : Index := 192#32
  let c0_865 : Index := 0#32
  ![0, v1172.toNat, 192, 0]
def k0_off301 (i : grid0.Coords) (k0_t11 : Fin (k0_t11_loop i).trips) (c0_i32_894 : BitVec 32) : Fin 4 → Nat :=
  let c0_895 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1212 : BitVec 32 := Scalar.addi v1038 c0_i32_894
  let v1213 : Index := Scalar.indexCast v1212
  let c256_896 : Index := 256#32
  let c0_897 : Index := 0#32
  ![0, v1213.toNat, 256, 0]
def k0_off302 (i : grid0.Coords) (k0_t11 : Fin (k0_t11_loop i).trips) (c0_i32_926 : BitVec 32) : Fin 4 → Nat :=
  let c0_927 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1253 : BitVec 32 := Scalar.addi v1038 c0_i32_926
  let v1254 : Index := Scalar.indexCast v1253
  let c320_928 : Index := 320#32
  let c0_929 : Index := 0#32
  ![0, v1254.toNat, 320, 0]
def k0_off303 (i : grid0.Coords) (k0_t11 : Fin (k0_t11_loop i).trips) (c0_i32_958 : BitVec 32) : Fin 4 → Nat :=
  let c0_959 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1294 : BitVec 32 := Scalar.addi v1038 c0_i32_958
  let v1295 : Index := Scalar.indexCast v1294
  let c384_960 : Index := 384#32
  let c0_961 : Index := 0#32
  ![0, v1295.toNat, 384, 0]
def k0_off304 (i : grid0.Coords) (k0_t11 : Fin (k0_t11_loop i).trips) (c0_i32_990 : BitVec 32) : Fin 4 → Nat :=
  let c0_991 : Index := 0#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let c0_i32_755 : BitVec 32 := 0#32
  let v1034 : BitVec 1 := Scalar.cmpi .eq arg25 c0_i32_755
  let c2_i32_756 : BitVec 32 := 2#32
  let v1035 : BitVec 32 := Scalar.muli c2_i32_756 arg25
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1335 : BitVec 32 := Scalar.addi v1038 c0_i32_990
  let v1336 : Index := Scalar.indexCast v1335
  let c448_992 : Index := 448#32
  let c0_993 : Index := 0#32
  ![0, v1336.toNat, 448, 0]
def k0_mult29 (i : grid0.Coords) (k0_t11 : Fin (k0_t11_loop i).trips) : BitVec 32 :=
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  v1369
def k0_off305 (i : grid0.Coords) (k0_t11 : Fin (k0_t11_loop i).trips) : Fin 2 → Nat :=
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1371 : Index := Scalar.indexCast v1370
  let c0_1018 : Index := 0#32
  ![v1371.toNat, 0]
def k0_off306 (i : grid0.Coords) (k0_t11 : Fin (k0_t11_loop i).trips) : Fin 3 → Nat :=
  let c0_1019 : Index := 0#32
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1373 : Index := Scalar.indexCast v1370
  let c0_1020 : Index := 0#32
  ![0, v1373.toNat, 0]
def k0_off307 (i : grid0.Coords) (k0_t11 : Fin (k0_t11_loop i).trips) : Fin 3 → Nat :=
  let c0_1037 : Index := 0#32
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1398 : Index := Scalar.indexCast v1370
  let c128_1038 : Index := 128#32
  ![0, v1398.toNat, 128]
def k0_off308 (i : grid0.Coords) (k0_t11 : Fin (k0_t11_loop i).trips) : Fin 3 → Nat :=
  let c0_1055 : Index := 0#32
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1423 : Index := Scalar.indexCast v1370
  let c256_1056 : Index := 256#32
  ![0, v1423.toNat, 256]
def k0_off309 (i : grid0.Coords) (k0_t11 : Fin (k0_t11_loop i).trips) : Fin 3 → Nat :=
  let c0_1073 : Index := 0#32
  let c2_i32_1015 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1367 : BitVec 32 := Scalar.muli c2_i32_1015 arg25
  let c1_i32_1016 : BitVec 32 := 1#32
  let v1368 : BitVec 32 := Scalar.addi v1367 c1_i32_1016
  let c512_i32_1017 : BitVec 32 := 512#32
  let v1369 : BitVec 32 := Scalar.muli v1368 c512_i32_1017
  let v1370 : BitVec 32 := v1369
  let v1448 : Index := Scalar.indexCast v1370
  let c384_1074 : Index := 384#32
  ![0, v1448.toNat, 384]
def k0_off310 (i : grid0.Coords) (k0_t11 : Fin (k0_t11_loop i).trips) (c0_i32_1100 : BitVec 32) : Fin 4 → Nat :=
  let c0_1101 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1484 : BitVec 32 := Scalar.addi v1474 c0_i32_1100
  let v1485 : Index := Scalar.indexCast v1484
  let c0_1102 : Index := 0#32
  let c0_1103 : Index := 0#32
  ![0, v1485.toNat, 0, 0]
def k0_off311 (i : grid0.Coords) (k0_t11 : Fin (k0_t11_loop i).trips) (c0_i32_1132 : BitVec 32) : Fin 4 → Nat :=
  let c0_1133 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1525 : BitVec 32 := Scalar.addi v1474 c0_i32_1132
  let v1526 : Index := Scalar.indexCast v1525
  let c64_1134 : Index := 64#32
  let c0_1135 : Index := 0#32
  ![0, v1526.toNat, 64, 0]
def k0_off312 (i : grid0.Coords) (k0_t11 : Fin (k0_t11_loop i).trips) (c0_i32_1164 : BitVec 32) : Fin 4 → Nat :=
  let c0_1165 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1566 : BitVec 32 := Scalar.addi v1474 c0_i32_1164
  let v1567 : Index := Scalar.indexCast v1566
  let c128_1166 : Index := 128#32
  let c0_1167 : Index := 0#32
  ![0, v1567.toNat, 128, 0]
def k0_off313 (i : grid0.Coords) (k0_t11 : Fin (k0_t11_loop i).trips) (c0_i32_1196 : BitVec 32) : Fin 4 → Nat :=
  let c0_1197 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1607 : BitVec 32 := Scalar.addi v1474 c0_i32_1196
  let v1608 : Index := Scalar.indexCast v1607
  let c192_1198 : Index := 192#32
  let c0_1199 : Index := 0#32
  ![0, v1608.toNat, 192, 0]
def k0_off314 (i : grid0.Coords) (k0_t11 : Fin (k0_t11_loop i).trips) (c0_i32_1228 : BitVec 32) : Fin 4 → Nat :=
  let c0_1229 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1648 : BitVec 32 := Scalar.addi v1474 c0_i32_1228
  let v1649 : Index := Scalar.indexCast v1648
  let c256_1230 : Index := 256#32
  let c0_1231 : Index := 0#32
  ![0, v1649.toNat, 256, 0]
def k0_off315 (i : grid0.Coords) (k0_t11 : Fin (k0_t11_loop i).trips) (c0_i32_1260 : BitVec 32) : Fin 4 → Nat :=
  let c0_1261 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1689 : BitVec 32 := Scalar.addi v1474 c0_i32_1260
  let v1690 : Index := Scalar.indexCast v1689
  let c320_1262 : Index := 320#32
  let c0_1263 : Index := 0#32
  ![0, v1690.toNat, 320, 0]
def k0_off316 (i : grid0.Coords) (k0_t11 : Fin (k0_t11_loop i).trips) (c0_i32_1292 : BitVec 32) : Fin 4 → Nat :=
  let c0_1293 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1730 : BitVec 32 := Scalar.addi v1474 c0_i32_1292
  let v1731 : Index := Scalar.indexCast v1730
  let c384_1294 : Index := 384#32
  let c0_1295 : Index := 0#32
  ![0, v1731.toNat, 384, 0]
def k0_off317 (i : grid0.Coords) (k0_t11 : Fin (k0_t11_loop i).trips) (c0_i32_1324 : BitVec 32) : Fin 4 → Nat :=
  let c0_1325 : Index := 0#32
  let c2_i32_1091 : BitVec 32 := 2#32
  let c0_i32_602 : BitVec 32 := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let v835 : BitVec 32 := Scalar.subi v834 c0_i32_602
  let c1_i32_603 : BitVec 32 := 1#32
  let v837 : BitVec 32 := Scalar.divsi v835 c1_i32_603
  let v838 : BitVec 32 := Scalar.muli v837 c1_i32_603
  let v839 : BitVec 32 := Scalar.addi c0_i32_602 v838
  let c1_i32_605 : BitVec 32 := 1#32
  let arg25 : BitVec 32 := Scf.iv v839 c1_i32_605 k0_t11
  let v1473 : BitVec 32 := Scalar.muli c2_i32_1091 arg25
  let c4_i32_1092 : BitVec 32 := 4#32
  let v1474 : BitVec 32 := Scalar.muli v1473 c4_i32_1092
  let v1771 : BitVec 32 := Scalar.addi v1474 c0_i32_1324
  let v1772 : Index := Scalar.indexCast v1771
  let c448_1326 : Index := 448#32
  let c0_1327 : Index := 0#32
  ![0, v1772.toNat, 448, 0]
def k0_cond7 (i : grid0.Coords) : BitVec 1 :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c2_i32_609 : BitVec 32 := 2#32
  let v844 : BitVec 32 := Scalar.remsi v403 c2_i32_609
  let c1_i32_610 : BitVec 32 := 1#32
  let v845 : BitVec 1 := Scalar.cmpi .eq v844 c1_i32_610
  let v846 : BitVec 32 := Scalar.extui v845
  let c0_i32_611 : BitVec 32 := 0#32
  let v847 : BitVec 1 := Scalar.cmpi .ne v846 c0_i32_611
  v847

def k0_mult30 (i : grid0.Coords) : BitVec 32 :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  v930
def k0_off318 (i : grid0.Coords) : Fin 2 → Nat :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  let v931 : BitVec 32 := v930
  let v932 : Index := Scalar.indexCast v931
  let c0_682 : Index := 0#32
  ![v932.toNat, 0]
def k0_off319 (i : grid0.Coords) : Fin 3 → Nat :=
  let c0_683 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  let v931 : BitVec 32 := v930
  let v934 : Index := Scalar.indexCast v931
  let c0_684 : Index := 0#32
  ![0, v934.toNat, 0]
def k0_off320 (i : grid0.Coords) : Fin 3 → Nat :=
  let c0_701 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  let v931 : BitVec 32 := v930
  let v959 : Index := Scalar.indexCast v931
  let c128_702 : Index := 128#32
  ![0, v959.toNat, 128]
def k0_off321 (i : grid0.Coords) : Fin 3 → Nat :=
  let c0_719 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  let v931 : BitVec 32 := v930
  let v984 : Index := Scalar.indexCast v931
  let c256_720 : Index := 256#32
  ![0, v984.toNat, 256]
def k0_off322 (i : grid0.Coords) : Fin 3 → Nat :=
  let c0_737 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c1_i32_680 : BitVec 32 := 1#32
  let v929 : BitVec 32 := Scalar.subi v403 c1_i32_680
  let c512_i32_681 : BitVec 32 := 512#32
  let v930 : BitVec 32 := Scalar.muli v929 c512_i32_681
  let v931 : BitVec 32 := v930
  let v1009 : Index := Scalar.indexCast v931
  let c384_738 : Index := 384#32
  ![0, v1009.toNat, 384]
def k0_off323 (i : grid0.Coords) (c0_i32_766 : BitVec 32) : Fin 4 → Nat :=
  let c0_767 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1048 : BitVec 32 := Scalar.addi v1038 c0_i32_766
  let v1049 : Index := Scalar.indexCast v1048
  let c0_768 : Index := 0#32
  let c0_769 : Index := 0#32
  ![0, v1049.toNat, 0, 0]
def k0_off324 (i : grid0.Coords) (c0_i32_798 : BitVec 32) : Fin 4 → Nat :=
  let c0_799 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1089 : BitVec 32 := Scalar.addi v1038 c0_i32_798
  let v1090 : Index := Scalar.indexCast v1089
  let c64_800 : Index := 64#32
  let c0_801 : Index := 0#32
  ![0, v1090.toNat, 64, 0]
def k0_off325 (i : grid0.Coords) (c0_i32_830 : BitVec 32) : Fin 4 → Nat :=
  let c0_831 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1130 : BitVec 32 := Scalar.addi v1038 c0_i32_830
  let v1131 : Index := Scalar.indexCast v1130
  let c128_832 : Index := 128#32
  let c0_833 : Index := 0#32
  ![0, v1131.toNat, 128, 0]
def k0_off326 (i : grid0.Coords) (c0_i32_862 : BitVec 32) : Fin 4 → Nat :=
  let c0_863 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1171 : BitVec 32 := Scalar.addi v1038 c0_i32_862
  let v1172 : Index := Scalar.indexCast v1171
  let c192_864 : Index := 192#32
  let c0_865 : Index := 0#32
  ![0, v1172.toNat, 192, 0]
def k0_off327 (i : grid0.Coords) (c0_i32_894 : BitVec 32) : Fin 4 → Nat :=
  let c0_895 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1212 : BitVec 32 := Scalar.addi v1038 c0_i32_894
  let v1213 : Index := Scalar.indexCast v1212
  let c256_896 : Index := 256#32
  let c0_897 : Index := 0#32
  ![0, v1213.toNat, 256, 0]
def k0_off328 (i : grid0.Coords) (c0_i32_926 : BitVec 32) : Fin 4 → Nat :=
  let c0_927 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1253 : BitVec 32 := Scalar.addi v1038 c0_i32_926
  let v1254 : Index := Scalar.indexCast v1253
  let c320_928 : Index := 320#32
  let c0_929 : Index := 0#32
  ![0, v1254.toNat, 320, 0]
def k0_off329 (i : grid0.Coords) (c0_i32_958 : BitVec 32) : Fin 4 → Nat :=
  let c0_959 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1294 : BitVec 32 := Scalar.addi v1038 c0_i32_958
  let v1295 : Index := Scalar.indexCast v1294
  let c384_960 : Index := 384#32
  let c0_961 : Index := 0#32
  ![0, v1295.toNat, 384, 0]
def k0_off330 (i : grid0.Coords) (c0_i32_990 : BitVec 32) : Fin 4 → Nat :=
  let c0_991 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_595 : BitVec 32 := 0#32
  let v819 : BitVec 1 := Scalar.cmpi .sgt v403 c0_i32_595
  let v820 : BitVec 32 := Scalar.extui v819
  let c0_i32_596 : BitVec 32 := 0#32
  let v821 : BitVec 1 := Scalar.cmpi .slt v403 c0_i32_596
  let v822 : BitVec 32 := Scalar.extui v821
  let v823 : BitVec 32 := Scalar.subi v820 v822
  let c2_i32_594 : BitVec 32 := 2#32
  let c0_i32_597 : BitVec 32 := 0#32
  let v824 : BitVec 1 := Scalar.cmpi .sgt c2_i32_594 c0_i32_597
  let v825 : BitVec 32 := Scalar.extui v824
  let c0_i32_598 : BitVec 32 := 0#32
  let v826 : BitVec 1 := Scalar.cmpi .slt c2_i32_594 c0_i32_598
  let v827 : BitVec 32 := Scalar.extui v826
  let v828 : BitVec 32 := Scalar.subi v825 v827
  let v829 : BitVec 1 := Scalar.cmpi .ne v823 v828
  let v830 : BitVec 32 := Scalar.remsi v403 c2_i32_594
  let c0_i32_599 : BitVec 32 := 0#32
  let v831 : BitVec 1 := Scalar.cmpi .ne v830 c0_i32_599
  let v832 : BitVec 1 := Scalar.andi v829 v831
  let v818 : BitVec 32 := Scalar.divsi v403 c2_i32_594
  let c1_i32_600 : BitVec 32 := 1#32
  let v833 : BitVec 32 := Scalar.subi v818 c1_i32_600
  let v834 : BitVec 32 := Scalar.select v832 v833 v818
  let c0_i32_755 : BitVec 32 := 0#32
  let v1034 : BitVec 1 := Scalar.cmpi .eq v834 c0_i32_755
  let c2_i32_756 : BitVec 32 := 2#32
  let v1035 : BitVec 32 := Scalar.muli c2_i32_756 v834
  let c1_i32_757 : BitVec 32 := 1#32
  let v1036 : BitVec 32 := Scalar.subi v1035 c1_i32_757
  let c4_i32_758 : BitVec 32 := 4#32
  let v1037 : BitVec 32 := Scalar.muli v1036 c4_i32_758
  let v1038 : BitVec 32 := Scalar.select v1034 v372 v1037
  let v1335 : BitVec 32 := Scalar.addi v1038 c0_i32_990
  let v1336 : Index := Scalar.indexCast v1335
  let c448_992 : Index := 448#32
  let c0_993 : Index := 0#32
  ![0, v1336.toNat, 448, 0]
def k0_off331 (i : grid0.Coords) (c0_i32_1022 : BitVec 32) : Fin 4 → Nat :=
  let c0_1023 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1376 : BitVec 32 := Scalar.addi v843 c0_i32_1022
  let v1377 : Index := Scalar.indexCast v1376
  let c0_1024 : Index := 0#32
  let c0_1025 : Index := 0#32
  ![0, v1377.toNat, 0, 0]
def k0_off332 (i : grid0.Coords) (c0_i32_1054 : BitVec 32) : Fin 4 → Nat :=
  let c0_1055 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1417 : BitVec 32 := Scalar.addi v843 c0_i32_1054
  let v1418 : Index := Scalar.indexCast v1417
  let c64_1056 : Index := 64#32
  let c0_1057 : Index := 0#32
  ![0, v1418.toNat, 64, 0]
def k0_off333 (i : grid0.Coords) (c0_i32_1086 : BitVec 32) : Fin 4 → Nat :=
  let c0_1087 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1458 : BitVec 32 := Scalar.addi v843 c0_i32_1086
  let v1459 : Index := Scalar.indexCast v1458
  let c128_1088 : Index := 128#32
  let c0_1089 : Index := 0#32
  ![0, v1459.toNat, 128, 0]
def k0_off334 (i : grid0.Coords) (c0_i32_1118 : BitVec 32) : Fin 4 → Nat :=
  let c0_1119 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1499 : BitVec 32 := Scalar.addi v843 c0_i32_1118
  let v1500 : Index := Scalar.indexCast v1499
  let c192_1120 : Index := 192#32
  let c0_1121 : Index := 0#32
  ![0, v1500.toNat, 192, 0]
def k0_off335 (i : grid0.Coords) (c0_i32_1150 : BitVec 32) : Fin 4 → Nat :=
  let c0_1151 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1540 : BitVec 32 := Scalar.addi v843 c0_i32_1150
  let v1541 : Index := Scalar.indexCast v1540
  let c256_1152 : Index := 256#32
  let c0_1153 : Index := 0#32
  ![0, v1541.toNat, 256, 0]
def k0_off336 (i : grid0.Coords) (c0_i32_1182 : BitVec 32) : Fin 4 → Nat :=
  let c0_1183 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1581 : BitVec 32 := Scalar.addi v843 c0_i32_1182
  let v1582 : Index := Scalar.indexCast v1581
  let c320_1184 : Index := 320#32
  let c0_1185 : Index := 0#32
  ![0, v1582.toNat, 320, 0]
def k0_off337 (i : grid0.Coords) (c0_i32_1214 : BitVec 32) : Fin 4 → Nat :=
  let c0_1215 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1622 : BitVec 32 := Scalar.addi v843 c0_i32_1214
  let v1623 : Index := Scalar.indexCast v1622
  let c384_1216 : Index := 384#32
  let c0_1217 : Index := 0#32
  ![0, v1623.toNat, 384, 0]
def k0_off338 (i : grid0.Coords) (c0_i32_1246 : BitVec 32) : Fin 4 → Nat :=
  let c0_1247 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1663 : BitVec 32 := Scalar.addi v843 c0_i32_1246
  let v1664 : Index := Scalar.indexCast v1663
  let c448_1248 : Index := 448#32
  let c0_1249 : Index := 0#32
  ![0, v1664.toNat, 448, 0]
def k0_cond8 (i : grid0.Coords) : BitVec 1 :=
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c2_i32_612 : BitVec 32 := 2#32
  let v848 : BitVec 32 := Scalar.remsi v403 c2_i32_612
  let c0_i32_613 : BitVec 32 := 0#32
  let v849 : BitVec 1 := Scalar.cmpi .eq v848 c0_i32_613
  let v850 : BitVec 32 := Scalar.extui v849
  let c0_i32_614 : BitVec 32 := 0#32
  let v851 : BitVec 1 := Scalar.cmpi .ne v850 c0_i32_614
  v851

def k0_off339 (i : grid0.Coords) (c0_i32_687 : BitVec 32) : Fin 4 → Nat :=
  let c0_688 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v938 : BitVec 32 := Scalar.addi v843 c0_i32_687
  let v939 : Index := Scalar.indexCast v938
  let c0_689 : Index := 0#32
  let c0_690 : Index := 0#32
  ![0, v939.toNat, 0, 0]
def k0_off340 (i : grid0.Coords) (c0_i32_719 : BitVec 32) : Fin 4 → Nat :=
  let c0_720 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v979 : BitVec 32 := Scalar.addi v843 c0_i32_719
  let v980 : Index := Scalar.indexCast v979
  let c64_721 : Index := 64#32
  let c0_722 : Index := 0#32
  ![0, v980.toNat, 64, 0]
def k0_off341 (i : grid0.Coords) (c0_i32_751 : BitVec 32) : Fin 4 → Nat :=
  let c0_752 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1020 : BitVec 32 := Scalar.addi v843 c0_i32_751
  let v1021 : Index := Scalar.indexCast v1020
  let c128_753 : Index := 128#32
  let c0_754 : Index := 0#32
  ![0, v1021.toNat, 128, 0]
def k0_off342 (i : grid0.Coords) (c0_i32_783 : BitVec 32) : Fin 4 → Nat :=
  let c0_784 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1061 : BitVec 32 := Scalar.addi v843 c0_i32_783
  let v1062 : Index := Scalar.indexCast v1061
  let c192_785 : Index := 192#32
  let c0_786 : Index := 0#32
  ![0, v1062.toNat, 192, 0]
def k0_off343 (i : grid0.Coords) (c0_i32_815 : BitVec 32) : Fin 4 → Nat :=
  let c0_816 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1102 : BitVec 32 := Scalar.addi v843 c0_i32_815
  let v1103 : Index := Scalar.indexCast v1102
  let c256_817 : Index := 256#32
  let c0_818 : Index := 0#32
  ![0, v1103.toNat, 256, 0]
def k0_off344 (i : grid0.Coords) (c0_i32_847 : BitVec 32) : Fin 4 → Nat :=
  let c0_848 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1143 : BitVec 32 := Scalar.addi v843 c0_i32_847
  let v1144 : Index := Scalar.indexCast v1143
  let c320_849 : Index := 320#32
  let c0_850 : Index := 0#32
  ![0, v1144.toNat, 320, 0]
def k0_off345 (i : grid0.Coords) (c0_i32_879 : BitVec 32) : Fin 4 → Nat :=
  let c0_880 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1184 : BitVec 32 := Scalar.addi v843 c0_i32_879
  let v1185 : Index := Scalar.indexCast v1184
  let c384_881 : Index := 384#32
  let c0_882 : Index := 0#32
  ![0, v1185.toNat, 384, 0]
def k0_off346 (i : grid0.Coords) (c0_i32_911 : BitVec 32) : Fin 4 → Nat :=
  let c0_912 : Index := 0#32
  let arg1 : BitVec 32 := BitVec.ofNat 32 (i 1).val
  let c3_i32_207 : BitVec 32 := 3#32
  let v371 : BitVec 32 := Scalar.subi arg1 c3_i32_207
  let c0_i32_208 : BitVec 32 := 0#32
  let v372 : BitVec 32 := Scalar.maxsi v371 c0_i32_208
  let c4_i32_215 : BitVec 32 := 4#32
  let v385 : BitVec 32 := Scalar.addi v372 c4_i32_215
  let c1_i32_216 : BitVec 32 := 1#32
  let v386 : BitVec 32 := Scalar.subi v385 c1_i32_216
  let c0_i32_218 : BitVec 32 := 0#32
  let v388 : BitVec 1 := Scalar.cmpi .sgt v386 c0_i32_218
  let v389 : BitVec 32 := Scalar.extui v388
  let c0_i32_219 : BitVec 32 := 0#32
  let v390 : BitVec 1 := Scalar.cmpi .slt v386 c0_i32_219
  let v391 : BitVec 32 := Scalar.extui v390
  let v392 : BitVec 32 := Scalar.subi v389 v391
  let c4_i32_217 : BitVec 32 := 4#32
  let c0_i32_220 : BitVec 32 := 0#32
  let v393 : BitVec 1 := Scalar.cmpi .sgt c4_i32_217 c0_i32_220
  let v394 : BitVec 32 := Scalar.extui v393
  let c0_i32_221 : BitVec 32 := 0#32
  let v395 : BitVec 1 := Scalar.cmpi .slt c4_i32_217 c0_i32_221
  let v396 : BitVec 32 := Scalar.extui v395
  let v397 : BitVec 32 := Scalar.subi v394 v396
  let v398 : BitVec 1 := Scalar.cmpi .ne v392 v397
  let v399 : BitVec 32 := Scalar.remsi v386 c4_i32_217
  let c0_i32_222 : BitVec 32 := 0#32
  let v400 : BitVec 1 := Scalar.cmpi .ne v399 c0_i32_222
  let v401 : BitVec 1 := Scalar.andi v398 v400
  let v387 : BitVec 32 := Scalar.divsi v386 c4_i32_217
  let c1_i32_223 : BitVec 32 := 1#32
  let v402 : BitVec 32 := Scalar.subi v387 c1_i32_223
  let v403 : BitVec 32 := Scalar.select v401 v402 v387
  let c0_i32_606 : BitVec 32 := 0#32
  let v840 : BitVec 1 := Scalar.cmpi .eq v403 c0_i32_606
  let c1_i32_607 : BitVec 32 := 1#32
  let v841 : BitVec 32 := Scalar.subi v403 c1_i32_607
  let c4_i32_608 : BitVec 32 := 4#32
  let v842 : BitVec 32 := Scalar.muli v841 c4_i32_608
  let v843 : BitVec 32 := Scalar.select v840 v372 v842
  let v1225 : BitVec 32 := Scalar.addi v843 c0_i32_911
  let v1226 : Index := Scalar.indexCast v1225
  let c448_913 : Index := 448#32
  let c0_914 : Index := 0#32
  ![0, v1226.toNat, 448, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![arg0.toNat, c0_i32.toNat, c12_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S8x4096x512 : Shape := ⟨3, ![8, 4096, 512]⟩
abbrev S8x4096x1024 : Shape := ⟨3, ![8, 4096, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S8x4096x2560 : Shape := ⟨3, ![8, 4096, 2560]⟩
abbrev S8x4096x256 : Shape := ⟨3, ![8, 4096, 256]⟩
abbrev S512x1024 : Shape := ⟨2, ![512, 1024]⟩
abbrev S1024x1024 : Shape := ⟨2, ![1024, 1024]⟩
abbrev S256x1024 : Shape := ⟨2, ![256, 1024]⟩
abbrev S1x512x512 : Shape := ⟨3, ![1, 512, 512]⟩
abbrev S1x512x256 : Shape := ⟨3, ![1, 512, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 31
  | .vmem => 23
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S1x8x4096x256, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S8x4096x2560, .f32⟩
  | .hbm, ⟨15, _⟩ => ⟨S8x4096x512, .bf16⟩
  | .hbm, ⟨16, _⟩ => ⟨S8x4096x256, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S1x1024, .f32⟩
  | .hbm, ⟨30, _⟩ => ⟨S8x4096x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x256, .f32⟩
  | .local _ .vmem, ⟨13, _⟩ => ⟨S1x512x256, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S8x4096x256 : Shape := ⟨3, ![8, 4096, 256]⟩
abbrev S256x1024 : Shape := ⟨2, ![256, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S1x8x4096x256, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S8x4096x512, .f32⟩
  | .hbm, ⟨15, _⟩ => ⟨S8x4096x512, .f32⟩
  | .hbm, ⟨16, _⟩ => ⟨S_, .f32⟩
  | .hbm, ⟨17, _⟩ => ⟨S8x4096x512, .f32⟩
  | .hbm, ⟨18, _⟩ => ⟨S8x4096x512, .f32⟩
  | .hbm, ⟨19, _⟩ => ⟨S_, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S512x1024, .f32⟩
  | .hbm, ⟨25, _⟩ => ⟨S8x4096x1024, .f32⟩
  | .hbm, ⟨26, _⟩ => ⟨S512x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S1024x1024, .f32⟩
  | .hbm, ⟨48, _⟩ => ⟨S8x4096x1024, .f32⟩
  | .hbm, ⟨49, _⟩ => ⟨S8x4096x1024, .f32⟩
  | .hbm, ⟨50, _⟩ => ⟨S8x4096x256, .f32⟩
  | .hbm, ⟨51, _⟩ => ⟨S256x1024, .f32⟩
  | .hbm, ⟨52, _⟩ => ⟨S8x4096x1024, .f32⟩
  | .hbm, ⟨53, _⟩ => ⟨S1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S1024x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S8x4096x1, .f32⟩
  | .hbm, ⟨93, _⟩ => ⟨S8x4096x1024, .f32⟩
  | .hbm, ⟨94, _⟩ => ⟨S8x4096x1024, .f32⟩
  | .hbm, ⟨95, _⟩ => ⟨S1x1x1024, .f32⟩
  | .hbm, ⟨96, _⟩ => ⟨S8x4096x1024, .f32⟩
  | .hbm, ⟨97, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x6216 : Shape := ⟨3, ![1, 1024, 6216]⟩
abbrev S1x31x1x512 : Shape := ⟨4, ![1, 31, 1, 512]⟩
abbrev S1x512 : Shape := ⟨2, ![1, 512]⟩
abbrev S1024x6216 : Shape := ⟨2, ![1024, 6216]⟩
abbrev S1024x512 : Shape := ⟨2, ![1024, 512]⟩
abbrev S1024x64 : Shape := ⟨2, ![1024, 64]⟩
abbrev S1024x8 : Shape := ⟨2, ![1024, 8]⟩
abbrev S1024x1024 : Shape := ⟨2, ![1024, 1024]⟩
abbrev S1024x1664 : Shape := ⟨2, ![1024, 1664]⟩
abbrev S1024x2560 : Shape := ⟨2, ![1024, 2560]⟩
abbrev S512x1024 : Shape := ⟨2, ![512, 1024]⟩
abbrev S8x1024 : Shape := ⟨2, ![8, 1024]⟩
abbrev S_ : Shape := ⟨0, ![]⟩
abbrev S16x1024 : Shape := ⟨2, ![16, 1024]⟩
abbrev S1024 : Shape := ⟨1, ![1024]⟩
abbrev S31x1x512 : Shape := ⟨3, ![31, 1, 512]⟩
abbrev S31x512 : Shape := ⟨2, ![31, 512]⟩
abbrev S31x8x512 : Shape := ⟨3, ![31, 8, 512]⟩
abbrev S248x512 : Shape := ⟨2, ![248, 512]⟩
abbrev S512 : Shape := ⟨1, ![512]⟩
abbrev S8x4096x1664 : Shape := ⟨3, ![8, 4096, 1664]⟩
abbrev S8x4096x2560 : Shape := ⟨3, ![8, 4096, 2560]⟩
abbrev S8x32x512x128 : Shape := ⟨4, ![8, 32, 512, 128]⟩
abbrev S8x16x4096 : Shape := ⟨3, ![8, 16, 4096]⟩
abbrev S8x4096x512 : Shape := ⟨3, ![8, 4096, 512]⟩
abbrev S1x512x1024 : Shape := ⟨3, ![1, 512, 1024]⟩
abbrev S1x512x1664 : Shape := ⟨3, ![1, 512, 1664]⟩
abbrev S1x512x2560 : Shape := ⟨3, ![1, 512, 2560]⟩
abbrev S1x4x512x128 : Shape := ⟨4, ![1, 4, 512, 128]⟩
abbrev S1x16x512 : Shape := ⟨3, ![1, 16, 512]⟩
abbrev S1x512x512 : Shape := ⟨3, ![1, 512, 512]⟩
abbrev S552x512 : Shape := ⟨2, ![552, 512]⟩
abbrev S512x1 : Shape := ⟨2, ![512, 1]⟩
abbrev S32x512 : Shape := ⟨2, ![32, 512]⟩
abbrev S8x512 : Shape := ⟨2, ![8, 512]⟩
abbrev S512x512 : Shape := ⟨2, ![512, 512]⟩
abbrev S64x512 : Shape := ⟨2, ![64, 512]⟩
abbrev S72x512 : Shape := ⟨2, ![72, 512]⟩
abbrev S64 : Shape := ⟨1, ![64]⟩
abbrev S64x1 : Shape := ⟨2, ![64, 1]⟩
abbrev S1x64x512 : Shape := ⟨3, ![1, 64, 512]⟩
abbrev S512x1664 : Shape := ⟨2, ![512, 1664]⟩
abbrev S512x2560 : Shape := ⟨2, ![512, 2560]⟩
abbrev S512x128 : Shape := ⟨2, ![512, 128]⟩
abbrev S1x1x512x128 : Shape := ⟨4, ![1, 1, 512, 128]⟩
abbrev S16x512 : Shape := ⟨2, ![16, 512]⟩

abbrev nBuf : Space → Nat
  | .hbm => 49
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x6216, .f32⟩
  | .hbm, ⟨3, _⟩ => ⟨S1x31x1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x6216, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x64, .f32⟩
  | .hbm, ⟨14, _⟩ => ⟨S1024x8, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x1664, .f32⟩
  | .hbm, ⟨20, _⟩ => ⟨S1024x1664, .bf16⟩
  | .hbm, ⟨21, _⟩ => ⟨S1024x2560, .f32⟩
  | .hbm, ⟨22, _⟩ => ⟨S1024x2560, .bf16⟩
  | .hbm, ⟨23, _⟩ => ⟨S512x1024, .f32⟩
  | .hbm, ⟨24, _⟩ => ⟨S512x1024, .bf16⟩
  | .hbm, ⟨25, _⟩ => ⟨S8x1024, .f32⟩
  | .hbm, ⟨26, _⟩ => ⟨S_, .i32⟩
  | .hbm, ⟨27, _⟩ => ⟨S_, .f32⟩
  | .hbm, ⟨28, _⟩ => ⟨S16x1024, .f32⟩
  | .hbm, ⟨29, _⟩ => ⟨S16x1024, .bf16⟩
  | .hbm, ⟨30, _⟩ => ⟨S1024, .f32⟩
  | .hbm, ⟨31, _⟩ => ⟨S1x1024, .f32⟩
  | .hbm, ⟨32, _⟩ => ⟨S1024x1024, .bf16⟩
  | .hbm, ⟨33, _⟩ => ⟨S1024x512, .bf16⟩
  | .hbm, ⟨34, _⟩ => ⟨S31x1x512, .f32⟩
  | .hbm, ⟨35, _⟩ => ⟨S31x512, .f32⟩
  | .hbm, ⟨36, _⟩ => ⟨S31x8x512, .f32⟩
  | .hbm, ⟨37, _⟩ => ⟨S248x512, .f32⟩
  | .hbm, ⟨38, _⟩ => ⟨S512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S8x4096x1664, .bf16⟩
  | .hbm, ⟨45, _⟩ => ⟨S8x4096x2560, .f32⟩
  | .hbm, ⟨46, _⟩ => ⟨S8x32x512x128, .bf16⟩
  | .hbm, ⟨47, _⟩ => ⟨S8x16x4096, .f32⟩
  | .hbm, ⟨48, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1664, .bf16⟩
  | .local _ .vmem, ⟨4, _⟩ => ⟨S1024x1024, .bf16⟩
  | .local _ .vmem, ⟨5, _⟩ => ⟨S1024x512, .bf16⟩
  | .local _ .vmem, ⟨6, _⟩ => ⟨S1024x2560, .bf16⟩
  | .local _ .vmem, ⟨7, _⟩ => ⟨S512x1024, .bf16⟩
  | .local _ .vmem, ⟨8, _⟩ => ⟨S16x1024, .bf16⟩
  | .local _ .vmem, ⟨9, _⟩ => ⟨S248x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512x1664, .bf16⟩
  | .local _ .vmem, ⟨14, _⟩ => ⟨S1x512x1664, .bf16⟩
  | .local _ .vmem, ⟨15, _⟩ => ⟨S1x512x2560, .f32⟩
  | .local _ .vmem, ⟨16, _⟩ => ⟨S1x512x2560, .f32⟩
  | .local _ .vmem, ⟨17, _⟩ => ⟨S1x4x512x128, .bf16⟩
  | .local _ .vmem, ⟨18, _⟩ => ⟨S1x4x512x128, .bf16⟩
  | .local _ .vmem, ⟨19, _⟩ => ⟨S1x16x512, .f32⟩
  | .local _ .vmem, ⟨20, _⟩ => ⟨S1x16x512, .f32⟩
  | .local _ .vmem, ⟨21, _⟩ => ⟨S1x512x512, .bf16⟩
  | .local _ .vmem, ⟨22, _⟩ => ⟨S1x512x512, .bf16⟩
  | .local _ .vmem, ⟨23, _⟩ => ⟨S552x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_v35_3 : Ref sig .tc := ⟨.hbm, 47, rfl⟩
abbrev main_v35_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S248x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1664 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2560 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x4096x1024 : Shape := ⟨3, ![8, 4096, 1024]⟩
abbrev S1x1024 : Shape := ⟨2, ![1, 1024]⟩
abbrev S1x1024x6216 : Shape := ⟨3, ![1, 1024, 6216]⟩
abbrev S1x31x1x512 : Shape := ⟨4, ![1, 31, 1, 512]⟩
abbrev S1x512 : Shape := ⟨2, ![1, 512]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6216 : Shape := ⟨2, ![1024, 6216]⟩
abbrev S8x4096x6216 : Shape := ⟨3, ![8, 4096, 6216]⟩
abbrev S8x4096x512 : Shape := ⟨3, ![8, 4096, 512]⟩
abbrev S8x4096x64 : Shape := ⟨3, ![8, 4096, 64]⟩
abbrev S8x4096x8 : Shape := ⟨3, ![8, 4096, 8]⟩
abbrev S31x1x512 : Shape := ⟨3, ![31, 1, 512]⟩
abbrev S512 : Shape := ⟨1, ![512]⟩
abbrev S8x4126x512 : Shape := ⟨3, ![8, 4126, 512]⟩
abbrev S1x1x512 : Shape := ⟨3, ![1, 1, 512]⟩
abbrev S8x4096x1664 : Shape := ⟨3, ![8, 4096, 1664]⟩
abbrev S8x4096x2560 : Shape := ⟨3, ![8, 4096, 2560]⟩
abbrev S8x32x128x512 : Shape := ⟨4, ![8, 32, 128, 512]⟩
abbrev S8x32x512x128 : Shape := ⟨4, ![8, 32, 512, 128]⟩
abbrev S8x8x4096 : Shape := ⟨3, ![8, 8, 4096]⟩
abbrev S8x16x4096 : Shape := ⟨3, ![8, 16, 4096]⟩

abbrev nBuf : Space → Nat
  | .hbm => 331
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x6216, .f32⟩
  | 3 => ⟨S1x31x1x512, .f32⟩
  | 4 => ⟨S1x512, .f32⟩
  | 5 => ⟨S1x512, .f32⟩
  | 6 => ⟨S1x512, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S1024x6216, .f32⟩
  | 25 => ⟨S8x4096x6216, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S8x4096x64, .f32⟩
  | 32 => ⟨S8x4096x8, .f32⟩
  | 33 => ⟨S8x4096x1024, .f32⟩
  | 34 => ⟨S8x4096x512, .f32⟩
  | 35 => ⟨S8x4096x1024, .f32⟩
  | 36 => ⟨S8x4096x1024, .f32⟩
  | 37 => ⟨S8x4096x512, .f32⟩
  | 38 => ⟨S8x4096x512, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S8x4096x512, .f32⟩
  | 48 => ⟨S31x1x512, .f32⟩
  | 49 => ⟨S512, .f32⟩
  | 50 => ⟨S_, .i32⟩
  | 51 => ⟨S_, .f32⟩
  | 52 => ⟨S8x4126x512, .f32⟩
  | 53 => ⟨S8x4096x512, .f32⟩
  | 54 => ⟨S1x1x512, .f32⟩
  | 55 => ⟨S1x512, .f32⟩
  | 56 => ⟨S1x1x512, .f32⟩
  | 57 => ⟨S8x4096x512, .f32⟩
  | 58 => ⟨S8x4096x512, .f32⟩
  | 59 => ⟨S8x4096x512, .f32⟩
  | 60 => ⟨S1x1x512, .f32⟩
  | 61 => ⟨S1x512, .f32⟩
  | 62 => ⟨S1x1x512, .f32⟩
  | 63 => ⟨S8x4096x512, .f32⟩
  | 64 => ⟨S8x4096x512, .f32⟩
  | 65 => ⟨S8x4096x512, .f32⟩
  | 66 => ⟨S8x4096x512, .f32⟩
  | 67 => ⟨S1x1x512, .f32⟩
  | 68 => ⟨S1x512, .f32⟩
  | 69 => ⟨S1x1x512, .f32⟩
  | 70 => ⟨S8x4096x512, .f32⟩
  | 71 => ⟨S8x4096x512, .f32⟩
  | 72 => ⟨S8x4096x512, .f32⟩
  | 73 => ⟨S8x4096x512, .f32⟩
  | 74 => ⟨S1x1x512, .f32⟩
  | 75 => ⟨S1x512, .f32⟩
  | 76 => ⟨S1x1x512, .f32⟩
  | 77 => ⟨S8x4096x512, .f32⟩
  | 78 => ⟨S8x4096x512, .f32⟩
  | 79 => ⟨S8x4096x512, .f32⟩
  | 80 => ⟨S8x4096x512, .f32⟩
  | 81 => ⟨S1x1x512, .f32⟩
  | 82 => ⟨S1x512, .f32⟩
  | 83 => ⟨S1x1x512, .f32⟩
  | 84 => ⟨S8x4096x512, .f32⟩
  | 85 => ⟨S8x4096x512, .f32⟩
  | 86 => ⟨S8x4096x512, .f32⟩
  | 87 => ⟨S8x4096x512, .f32⟩
  | 88 => ⟨S1x1x512, .f32⟩
  | 89 => ⟨S1x512, .f32⟩
  | 90 => ⟨S1x1x512, .f32⟩
  | 91 => ⟨S8x4096x512, .f32⟩
  | 92 => ⟨S8x4096x512, .f32⟩
  | 93 => ⟨S8x4096x512, .f32⟩
  | 94 => ⟨S8x4096x512, .f32⟩
  | 95 => ⟨S1x1x512, .f32⟩
  | 96 => ⟨S1x512, .f32⟩
  | 97 => ⟨S1x1x512, .f32⟩
  | 98 => ⟨S8x4096x512, .f32⟩
  | 99 => ⟨S8x4096x512, .f32⟩
  | 100 => ⟨S8x4096x512, .f32⟩
  | 101 => ⟨S8x4096x512, .f32⟩
  | 102 => ⟨S1x1x512, .f32⟩
  | 103 => ⟨S1x512, .f32⟩
  | 104 => ⟨S1x1x512, .f32⟩
  | 105 => ⟨S8x4096x512, .f32⟩
  | 106 => ⟨S8x4096x512, .f32⟩
  | 107 => ⟨S8x4096x512, .f32⟩
  | 108 => ⟨S8x4096x512, .f32⟩
  | 109 => ⟨S1x1x512, .f32⟩
  | 110 => ⟨S1x512, .f32⟩
  | 111 => ⟨S1x1x512, .f32⟩
  | 112 => ⟨S8x4096x512, .f32⟩
  | 113 => ⟨S8x4096x512, .f32⟩
  | 114 => ⟨S8x4096x512, .f32⟩
  | 115 => ⟨S8x4096x512, .f32⟩
  | 116 => ⟨S1x1x512, .f32⟩
  | 117 => ⟨S1x512, .f32⟩
  | 118 => ⟨S1x1x512, .f32⟩
  | 119 => ⟨S8x4096x512, .f32⟩
  | 120 => ⟨S8x4096x512, .f32⟩
  | 121 => ⟨S8x4096x512, .f32⟩
  | 122 => ⟨S8x4096x512, .f32⟩
  | 123 => ⟨S1x1x512, .f32⟩
  | 124 => ⟨S1x512, .f32⟩
  | 125 => ⟨S1x1x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S1x1x512, .f32⟩
  | 3 => ⟨S1x512, .f32⟩
  | 4 => ⟨S1x1x512, .f32⟩
  | 5 => ⟨S8x4096x512, .f32⟩
  | 6 => ⟨S8x4096x512, .f32⟩
  | 7 => ⟨S8x4096x512, .f32⟩
  | 8 => ⟨S8x4096x512, .f32⟩
  | 9 => ⟨S1x1x512, .f32⟩
  | 10 => ⟨S1x512, .f32⟩
  | 11 => ⟨S1x1x512, .f32⟩
  | 12 => ⟨S8x4096x512, .f32⟩
  | 13 => ⟨S8x4096x512, .f32⟩
  | 14 => ⟨S8x4096x512, .f32⟩
  | 15 => ⟨S8x4096x512, .f32⟩
  | 16 => ⟨S1x1x512, .f32⟩
  | 17 => ⟨S1x512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S1x1x512, .f32⟩
  | 24 => ⟨S1x512, .f32⟩
  | 25 => ⟨S1x1x512, .f32⟩
  | 26 => ⟨S8x4096x512, .f32⟩
  | 27 => ⟨S8x4096x512, .f32⟩
  | 28 => ⟨S8x4096x512, .f32⟩
  | 29 => ⟨S8x4096x512, .f32⟩
  | 30 => ⟨S1x1x512, .f32⟩
  | 31 => ⟨S1x512, .f32⟩
  | 32 => ⟨S1x1x512, .f32⟩
  | 33 => ⟨S8x4096x512, .f32⟩
  | 34 => ⟨S8x4096x512, .f32⟩
  | 35 => ⟨S8x4096x512, .f32⟩
  | 36 => ⟨S8x4096x512, .f32⟩
  | 37 => ⟨S1x1x512, .f32⟩
  | 38 => ⟨S1x512, .f32⟩
  | 39 => ⟨S1x1x512, .f32⟩
  | 40 => ⟨S8x4096x512, .f32⟩
  | 41 => ⟨S8x4096x512, .f32⟩
  | 42 => ⟨S8x4096x512, .f32⟩
  | 43 => ⟨S8x4096x512, .f32⟩
  | 44 => ⟨S1x1x512, .f32⟩
  | 45 => ⟨S1x512, .f32⟩
  | 46 => ⟨S1x1x512, .f32⟩
  | 47 => ⟨S8x4096x512, .f32⟩
  | 48 => ⟨S8x4096x512, .f32⟩
  | 49 => ⟨S8x4096x512, .f32⟩
  | 50 => ⟨S8x4096x512, .f32⟩
  | 51 => ⟨S1x1x512, .f32⟩
  | 52 => ⟨S1x512, .f32⟩
  | 53 => ⟨S1x1x512, .f32⟩
  | 54 => ⟨S8x4096x512, .f32⟩
  | 55 => ⟨S8x4096x512, .f32⟩
  | 56 => ⟨S8x4096x512, .f32⟩
  | 57 => ⟨S8x4096x512, .f32⟩
  | 58 => ⟨S1x1x512, .f32⟩
  | 59 => ⟨S1x512, .f32⟩
  | 60 => ⟨S1x1x512, .f32⟩
  | 61 => ⟨S8x4096x512, .f32⟩
  | 62 => ⟨S8x4096x512, .f32⟩
  | 63 => ⟨S8x4096x512, .f32⟩
  | 64 => ⟨S8x4096x512, .f32⟩
  | 65 => ⟨S1x1x512, .f32⟩
  | 66 => ⟨S1x512, .f32⟩
  | 67 => ⟨S1x1x512, .f32⟩
  | 68 => ⟨S8x4096x512, .f32⟩
  | 69 => ⟨S8x4096x512, .f32⟩
  | 70 => ⟨S8x4096x512, .f32⟩
  | 71 => ⟨S8x4096x512, .f32⟩
  | 72 => ⟨S1x1x512, .f32⟩
  | 73 => ⟨S1x512, .f32⟩
  | 74 => ⟨S1x1x512, .f32⟩
  | 75 => ⟨S8x4096x512, .f32⟩
  | 76 => ⟨S8x4096x512, .f32⟩
  | 77 => ⟨S8x4096x512, .f32⟩
  | 78 => ⟨S8x4096x512, .f32⟩
  | 79 => ⟨S1x1x512, .f32⟩
  | 80 => ⟨S1x512, .f32⟩
  | 81 => ⟨S1x1x512, .f32⟩
  | 82 => ⟨S8x4096x512, .f32⟩
  | 83 => ⟨S8x4096x512, .f32⟩
  | 84 => ⟨S8x4096x512, .f32⟩
  | 85 => ⟨S8x4096x512, .f32⟩
  | 86 => ⟨S1x1x512, .f32⟩
  | 87 => ⟨S1x512, .f32⟩
  | 88 => ⟨S1x1x512, .f32⟩
  | 89 => ⟨S8x4096x512, .f32⟩
  | 90 => ⟨S8x4096x512, .f32⟩
  | 91 => ⟨S8x4096x512, .f32⟩
  | 92 => ⟨S8x4096x512, .f32⟩
  | 93 => ⟨S1x1x512, .f32⟩
  | 94 => ⟨S1x512, .f32⟩
  | 95 => ⟨S1x1x512, .f32⟩
  | 96 => ⟨S8x4096x512, .f32⟩
  | 97 => ⟨S8x4096x512, .f32⟩
  | 98 => ⟨S8x4096x512, .f32⟩
  | 99 => ⟨S8x4096x512, .f32⟩
  | 100 => ⟨S1x1x512, .f32⟩
  | 101 => ⟨S1x512, .f32⟩
  | 102 => ⟨S1x1x512, .f32⟩
  | 103 => ⟨S8x4096x512, .f32⟩
  | 104 => ⟨S8x4096x512, .f32⟩
  | 105 => ⟨S8x4096x512, .f32⟩
  | 106 => ⟨S8x4096x512, .f32⟩
  | 107 => ⟨S1x1x512, .f32⟩
  | 108 => ⟨S1x512, .f32⟩
  | 109 => ⟨S1x1x512, .f32⟩
  | 110 => ⟨S8x4096x512, .f32⟩
  | 111 => ⟨S8x4096x512, .f32⟩
  | 112 => ⟨S8x4096x512, .f32⟩
  | 113 => ⟨S8x4096x512, .f32⟩
  | 114 => ⟨S1x1x512, .f32⟩
  | 115 => ⟨S1x512, .f32⟩
  | 116 => ⟨S1x1x512, .f32⟩
  | 117 => ⟨S8x4096x512, .f32⟩
  | 118 => ⟨S8x4096x512, .f32⟩
  | 119 => ⟨S8x4096x512, .f32⟩
  | 120 => ⟨S8x4096x512, .f32⟩
  | 121 => ⟨S1x1x512, .f32⟩
  | 122 => ⟨S1x512, .f32⟩
  | 123 => ⟨S1x1x512, .f32⟩
  | 124 => ⟨S8x4096x512, .f32⟩
  | 125 => ⟨S8x4096x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S1x1x512, .f32⟩
  | 1 => ⟨S1x512, .f32⟩
  | 2 => ⟨S1x1x512, .f32⟩
  | 3 => ⟨S8x4096x512, .f32⟩
  | 4 => ⟨S8x4096x512, .f32⟩
  | 5 => ⟨S8x4096x512, .f32⟩
  | 6 => ⟨S8x4096x512, .f32⟩
  | 7 => ⟨S1x1x512, .f32⟩
  | 8 => ⟨S1x512, .f32⟩
  | 9 => ⟨S1x1x512, .f32⟩
  | 10 => ⟨S8x4096x512, .f32⟩
  | 11 => ⟨S8x4096x512, .f32⟩
  | 12 => ⟨S8x4096x512, .f32⟩
  | 13 => ⟨S1x1x512, .f32⟩
  | 14 => ⟨S8x4096x512, .f32⟩
  | 15 => ⟨S8x4096x512, .f32⟩
  | 16 => ⟨S512, .f32⟩
  | 17 => ⟨S512, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S8x4096x512, .f32⟩
  | 25 => ⟨S8x4096x512, .f32⟩
  | 26 => ⟨S8x4096x512, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S1x1x512, .f32⟩
  | 43 => ⟨S8x4096x512, .f32⟩
  | 44 => ⟨S8x4096x512, .f32⟩
  | 45 => ⟨S8x4096x512, .f32⟩
  | 46 => ⟨S8x4096x512, .f32⟩
  | 47 => ⟨S_, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x512, .f32⟩
  | 54 => ⟨S8x4096x512, .f32⟩
  | 55 => ⟨S8x4096x512, .f32⟩
  | 56 => ⟨S_, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S8x4096x512, .f32⟩
  | 63 => ⟨S8x4096x512, .f32⟩
  | 64 => ⟨S8x4096x1664, .f32⟩
  | 65 => ⟨S8x4096x1664, .bf16⟩
  | 66 => ⟨S8x4096x2560, .f32⟩
  | 67 => ⟨S8x32x128x512, .f32⟩
  | 68 => ⟨S8x32x512x128, .f32⟩
  | 69 => ⟨S8x32x512x128, .bf16⟩
  | 70 => ⟨S8x8x4096, .f32⟩
  | 71 => ⟨S_, .i32⟩
  | 72 => ⟨S_, .f32⟩
  | 73 => ⟨S8x16x4096, .f32⟩
  | 74 => ⟨S8x4096x512, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_cst_4 : Ref sig .tc := ⟨.hbm, 274, rfl⟩
abbrev main_v260 : Ref sig .tc := ⟨.hbm, 275, rfl⟩
abbrev main_v261 : Ref sig .tc := ⟨.hbm, 276, rfl⟩
abbrev main_cst_5 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_cst_6 : Ref sig .tc := ⟨.hbm, 283, rfl⟩
abbrev main_v267 : Ref sig .tc := ⟨.hbm, 284, rfl⟩
abbrev main_v268 : Ref sig .tc := ⟨.hbm, 285, rfl⟩
abbrev main_cst_7 : Ref sig .tc := ⟨.hbm, 286, rfl⟩
abbrev main_v269 : Ref sig .tc := ⟨.hbm, 287, rfl⟩
abbrev main_v270 : Ref sig .tc := ⟨.hbm, 288, rfl⟩
abbrev main_cst_8 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_call1_v0 : Ref sig .tc := ⟨.hbm, 301, rfl⟩
abbrev main_call1_v1 : Ref sig .tc := ⟨.hbm, 302, rfl⟩
abbrev main_call1_cst : Ref sig .tc := ⟨.hbm, 303, rfl⟩
abbrev main_call1_v2 : Ref sig .tc := ⟨.hbm, 304, rfl⟩
abbrev main_call1_v3 : Ref sig .tc := ⟨.hbm, 305, rfl⟩
abbrev main_call1_cst_0 : Ref sig .tc := ⟨.hbm, 306, rfl⟩
abbrev main_call1_v4 : Ref sig .tc := ⟨.hbm, 307, rfl⟩
abbrev main_call1_v5 : Ref sig .tc := ⟨.hbm, 308, rfl⟩
abbrev main_v282 : Ref sig .tc := ⟨.hbm, 309, rfl⟩
abbrev main_call2_v0 : Ref sig .tc := ⟨.hbm, 310, rfl⟩
abbrev main_call2_v1 : Ref sig .tc := ⟨.hbm, 311, rfl⟩
abbrev main_call2_cst : Ref sig .tc := ⟨.hbm, 312, rfl⟩
abbrev main_call2_v2 : Ref sig .tc := ⟨.hbm, 313, rfl⟩
abbrev main_call2_v3 : Ref sig .tc := ⟨.hbm, 314, rfl⟩
abbrev main_call2_cst_0 : Ref sig .tc := ⟨.hbm, 315, rfl⟩
abbrev main_call2_v4 : Ref sig .tc := ⟨.hbm, 316, rfl⟩
abbrev main_call2_v5 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_c_9 : Ref sig .tc := ⟨.hbm, 327, rfl⟩
abbrev main_call3_v0 : Ref sig .tc := ⟨.hbm, 328, rfl⟩
abbrev main_v292 : Ref sig .tc := ⟨.hbm, 329, rfl⟩
abbrev main_v293 : Ref sig .tc := ⟨.hbm, 330, rfl⟩

abbrev nD : Nat := 1
abbrev τ : Topo := Topo.v7x

variable {F : FTy → Type} [FloatOps F]
-- ==== Proof.Keeps.lean ====
/- Programs that load and store inside buffers they own, and so leave the ownership as they found it. Hand-written,
   untrusted. No value is named: a loaded value is any value, a stored buffer is left at some contents. -/
module

public import proofs.«01_k».proof.Kernel
public import Idealize.ShloMosaic.Lib.Tactic
public import Idealize.ShloMosaic.Lib.Pipeline.Kit

@[expose] public section

noncomputable section

namespace Cert.Proof.Attn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Facts]

local notation "𝕄" => MT nD τ sig Unit (Elt F) ℕ (UR sig nD τ) ℕ

/-- The weakest precondition of a program of core `c` under the kernel's bodies, its post the same whatever it returns. -/
abbrev runs (c : Dev nD) {α : Type} (p : Prog (TpuEff nD τ sig (Elt F) Λ₀ .tc) α) (R : sProp 𝕄) : sProp 𝕄 :=
  wp frame (wpE (defs₀ (F := F)) Variants.none (c : Thread nD τ) none) Set.univ p fun _ => R

/-- `p` runs from `R` and gives `R` back. -/
structure Keeps (c : Dev nD) (R : sProp 𝕄) {α : Type} (p : Prog (TpuEff nD τ sig (Elt F) Λ₀ .tc) α) : Prop where
  run : R ⊢ runs c p R

/-- `R` holds the memref at some contents, and takes it back at those. -/
def Reads (c : Dev nD) (R : sProp 𝕄) {sp : Space} {s : Shape} {e : EltTy} (m : Memref sig .tc sp s e) : Prop :=
  R ⊢ iprop(∃ X, owns (c : Thread nD τ) m fullShare X ∗ (owns (c : Thread nD τ) m fullShare X -∗ R))

/-- `R` holds the memref at some contents, and takes it back at any. -/
def Writes (c : Dev nD) (R : sProp 𝕄) {sp : Space} {s : Shape} {e : EltTy} (m : Memref sig .tc sp s e) : Prop :=
  R ⊢ iprop((∃ X, owns (c : Thread nD τ) m fullShare X) ∗ (∀ X, owns (c : Thread nD τ) m fullShare X -∗ R))

variable {c : Dev nD} {R : sProp (MT nD τ sig Unit (Elt F) ℕ (UR sig nD τ) ℕ)}

theorem Writes.reads {sp : Space} {s : Shape} {e : EltTy} {m : Memref sig .tc sp s e} (h : Writes (F := F) c R m) :
    Reads (F := F) c R m := by
  unfold Reads
  unfold Writes at h
  refine BIBase.Entails.trans h ?_
  iintro ⟨⟨%X, H⟩, K⟩
  iexists X
  isplitl [H]
  · iexact H
  · iapply K

/-- A buffer owned at some contents. -/
theorem Writes.here {sp : Space} {s : Shape} {e : EltTy} {m : Memref sig .tc sp s e} :
    Writes (F := F) c iprop(∃ X, owns (c : Thread nD τ) m fullShare X) m := by
  unfold Writes
  iintro H
  isplitl [H]
  · iexact H
  · iintro %X H; iexists X; iexact H

/-- A whole buffer's cells at some contents. -/
theorem Writes.whole (b : Ref sig .tc) :
    Writes (F := F) c iprop(∃ f : Buf (Elt F) ((c : Thread nD τ).loc b), ((c : Thread nD τ).loc b) ↦{fullShare} f) (Memref.whole b) := by
  unfold Writes
  iintro ⟨%f, H⟩
  isplitl [H]
  · iexists f
    rw [owns_whole]
    iexact H
  · iintro %X H
    iexists X
    rw [owns_whole]
    exact BIBase.Entails.refl

theorem Writes.left {sp : Space} {s : Shape} {e : EltTy} {m : Memref sig .tc sp s e}
    {A B : sProp (MT nD τ sig Unit (Elt F) ℕ (UR sig nD τ) ℕ)} (h : Writes (F := F) c A m) : Writes (F := F) c iprop(A ∗ B) m := by
  unfold Writes at h ⊢
  refine BIBase.Entails.trans (Laws.sep_mono h BIBase.Entails.refl) ?_
  iintro ⟨⟨H, K⟩, HB⟩
  isplitl [H]
  · iexact H
  · iintro %X H
    isplitl [K H]
    · iapply K $$ %X H
    · iexact HB

theorem Writes.right {sp : Space} {s : Shape} {e : EltTy} {m : Memref sig .tc sp s e}
    {A B : sProp (MT nD τ sig Unit (Elt F) ℕ (UR sig nD τ) ℕ)} (h : Writes (F := F) c B m) : Writes (F := F) c iprop(A ∗ B) m := by
  unfold Writes at h ⊢
  refine BIBase.Entails.trans (Laws.sep_mono BIBase.Entails.refl h) ?_
  iintro ⟨HB, ⟨H, K⟩⟩
  isplitl [H]
  · iexact H
  · iintro %X H
    isplitl [HB]
    · iexact HB
    · iapply K $$ %X H

theorem Keeps.ret {α : Type} (a : α) : Keeps c R (Pure.pure a : Prog (TpuEff nD τ sig (Elt F) Λ₀ .tc) α) :=
  ⟨le_wp_ret _ _ _ a fun _ => R⟩

theorem Keeps.bind {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) :=
  ⟨by
    unfold runs
    rw [wp_bind]
    exact hp.run.trans (wp_mono _ _ _ fun a => (hk a).run)⟩

theorem Keeps.load {cs : CoreSpace} {s : Shape} {e : EltTy} {m : Memref sig .tc cs s e} {r : LoadRect s} {hl : m.view.LoadsAt r}
    (h : Reads (F := F) c R m) :
    Keeps (F := F) c R (Prog.lift (.load m r hl)) :=
  ⟨by
    unfold Reads owns at h
    refine BIBase.Entails.trans h ?_
    iintro ⟨%X, ⟨%f, %hf, H⟩, K⟩
    iapply (wp_load Variants.none (c : Thread nD τ) none Set.univ (View.setOn_subset_set _ _)) $$ H
    iintro H
    iapply (le_wp_ret _ _ _ _ _)
    iapply K
    iexists f
    isplitr
    · ipureintro; exact hf
    · iexact H⟩

theorem Keeps.smemLoad {s : Shape} {e : EltTy} {m : Memref sig .tc .smem s e} {r : Rect s} {h1 : r.shape.numel = 1} {hp : e.packing = 1}
    (h : Reads (F := F) c R m) : Keeps (F := F) c R (smemLoad m r h1 hp) :=
  ⟨by
    unfold Reads owns at h
    refine BIBase.Entails.trans h ?_
    iintro ⟨%X, ⟨%f, %hf, H⟩, K⟩
    iapply (wp_load Variants.none (c : Thread nD τ) none Set.univ (View.setOn_subset_set _ _)) $$ H
    iintro H
    iapply (le_wp_ret _ _ _ _ _)
    iapply K
    iexists f
    isplitr
    · ipureintro; exact hf
    · iexact H⟩

theorem Keeps.store {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    (h : Writes (F := F) c R m) :
    Keeps (F := F) c R (Prog.lift (.store m r w Mk hx hm)) :=
  ⟨by
    unfold Writes owns at h
    refine BIBase.Entails.trans h ?_
    iintro ⟨⟨%X, %f, %hf, H⟩, K⟩
    iapply (wp_store (m := m) (r := r) (f := f) (S := m.view.set) Variants.none (c : Thread nD τ) none Set.univ ((View.setOn_subset_set _ _).trans (View.set_slice_subset _ _))) $$ H
    iintro H
    iapply (le_wp_ret _ _ _ _ _)
    iapply K
    iexists (m.access r).write (Elt F) f w Mk
    isplitr
    · ipureintro; rfl
    · iexact H⟩

theorem Keeps.dite {α : Type} {P : Prop} [Decidable P] {p : P → Prog (TpuEff nD τ sig (Elt F) Λ₀ .tc) α}
    {q : ¬ P → Prog (TpuEff nD τ sig (Elt F) Λ₀ .tc) α} (hp : ∀ h, Keeps c R (p h)) (hq : ∀ h, Keeps c R (q h)) :
    Keeps c R (if h : P then p h else q h) := by
  by_cases h : P
  · rw [dif_pos h]; exact hp h
  · rw [dif_neg h]; exact hq h

theorem Keeps.loop {w : Nat} {σ : Type} {l : Scf.Loop w} {hok : l.OK} {init : σ}
    {body : Fin l.trips → σ → Prog (TpuEff nD τ sig (Elt F) Λ₀ .tc) σ} (h : ∀ k acc, Keeps c R (body k acc)) :
    Keeps c R (l.for hok init body) :=
  ⟨by
    refine BIBase.Entails.trans ?_ (Scf.wp_for _ _ _ l.lb l.ub l.st hok init body (fun _ _ => R) fun k acc => (h k acc).run)
    iintro H
    isplitl [H]
    · iexact H
    · iintro %acc H; iexact H⟩

/-- The memrefs the kernel's body is called with at a grid point. -/
structure Bufs where
  i : grid0.Coords
  arg2 : Memref sig .tc .smem S32x8 .f32
  harg2 : arg2.IsWhole
  arg3 : Memref sig .tc .vmem S2x128x128 .i32
  harg3 : arg3.IsWhole
  arg4 : Memref sig .tc .vmem S1x128x512 .bf16
  harg4 : arg4.IsWhole
  arg5 : Memref sig .tc .vmem S1x128x512 .bf16
  harg5 : arg5.IsWhole
  arg6 : Memref sig .tc .vmem S1x16x128 .f32
  harg6 : arg6.IsWhole
  arg7 : Memref sig .tc .vmem S1x4096x128 .bf16
  harg7 : arg7.IsWhole
  arg8 : Memref sig .tc .vmem S1x4096x512 .bf16
  harg8 : arg8.IsWhole
  arg9 : Memref sig .tc .vmem S1x32x512x128 .bf16
  harg9 : arg9.IsWhole
  arg10 : Memref sig .tc .vmem S1x128x512 .f32
  harg10 : arg10.IsWhole
  arg11 : Memref sig .tc .vmem S4096x128 .i32
  harg11 : arg11.IsWhole
  arg12 : Memref sig .tc .vmem S32x128x128 .i32
  harg12 : arg12.IsWhole
  arg13 : Memref sig .tc .vmem S4096x128 .bf16
  harg13 : arg13.IsWhole
  arg14 : Memref sig .tc .vmem S512x128 .bf16
  harg14 : arg14.IsWhole
  arg15 : Memref sig .tc .vmem S3x8x128x128 .f32
  harg15 : arg15.IsWhole
  arg16 : Memref sig .tc .vmem S4x256x128 .bf16
  harg16 : arg16.IsWhole
  arg17 : Memref sig .tc .vmem S4x256x256 .bf16
  harg17 : arg17.IsWhole
  arg18 : Memref sig .tc .vmem S8x512x128 .f32
  harg18 : arg18.IsWhole
  arg19 : Memref sig .tc .vmem S8x512x128 .f32
  harg19 : arg19.IsWhole
  arg20 : Memref sig .tc .vmem S8x128 .f32
  harg20 : arg20.IsWhole
  arg21 : Memref sig .tc .vmem S8x128 .f32
  harg21 : arg21.IsWhole
  arg22 : Memref sig .tc .vmem S8x128 .f32
  harg22 : arg22.IsWhole
  arg23 : Memref sig .tc .vmem S8x80x128 .f32
  harg23 : arg23.IsWhole
  arg24 : Memref sig .tc .vmem S512x128 .f32
  harg24 : arg24.IsWhole

/-- A part of the body at those memrefs. -/
abbrev Bufs.call {γ : grid0.Coords → Type 1} (B : Bufs) (f : (i : grid0.Coords) → (arg2 : Memref sig .tc .smem S32x8 .f32) → (harg2 : arg2.IsWhole) → (arg3 : Memref sig .tc .vmem S2x128x128 .i32) → (harg3 : arg3.IsWhole) → (arg4 : Memref sig .tc .vmem S1x128x512 .bf16) → (harg4 : arg4.IsWhole) → (arg5 : Memref sig .tc .vmem S1x128x512 .bf16) → (harg5 : arg5.IsWhole) → (arg6 : Memref sig .tc .vmem S1x16x128 .f32) → (harg6 : arg6.IsWhole) → (arg7 : Memref sig .tc .vmem S1x4096x128 .bf16) → (harg7 : arg7.IsWhole) → (arg8 : Memref sig .tc .vmem S1x4096x512 .bf16) → (harg8 : arg8.IsWhole) → (arg9 : Memref sig .tc .vmem S1x32x512x128 .bf16) → (harg9 : arg9.IsWhole) → (arg10 : Memref sig .tc .vmem S1x128x512 .f32) → (harg10 : arg10.IsWhole) → (arg11 : Memref sig .tc .vmem S4096x128 .i32) → (harg11 : arg11.IsWhole) → (arg12 : Memref sig .tc .vmem S32x128x128 .i32) → (harg12 : arg12.IsWhole) → (arg13 : Memref sig .tc .vmem S4096x128 .bf16) → (harg13 : arg13.IsWhole) → (arg14 : Memref sig .tc .vmem S512x128 .bf16) → (harg14 : arg14.IsWhole) → (arg15 : Memref sig .tc .vmem S3x8x128x128 .f32) → (harg15 : arg15.IsWhole) → (arg16 : Memref sig .tc .vmem S4x256x128 .bf16) → (harg16 : arg16.IsWhole) → (arg17 : Memref sig .tc .vmem S4x256x256 .bf16) → (harg17 : arg17.IsWhole) → (arg18 : Memref sig .tc .vmem S8x512x128 .f32) → (harg18 : arg18.IsWhole) → (arg19 : Memref sig .tc .vmem S8x512x128 .f32) → (harg19 : arg19.IsWhole) → (arg20 : Memref sig .tc .vmem S8x128 .f32) → (harg20 : arg20.IsWhole) → (arg21 : Memref sig .tc .vmem S8x128 .f32) → (harg21 : arg21.IsWhole) → (arg22 : Memref sig .tc .vmem S8x128 .f32) → (harg22 : arg22.IsWhole) → (arg23 : Memref sig .tc .vmem S8x80x128 .f32) → (harg23 : arg23.IsWhole) → (arg24 : Memref sig .tc .vmem S512x128 .f32) → (harg24 : arg24.IsWhole) → γ i) : γ B.i :=
  f B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24

/-- `R` holds every buffer the body is called with. -/
structure Held (c : Dev nD) (R : sProp (MT nD τ sig Unit (Elt F) ℕ (UR sig nD τ) ℕ)) (B : Bufs) : Prop where
  w2 : Writes (F := F) c R B.arg2
  w3 : Writes (F := F) c R B.arg3
  w4 : Writes (F := F) c R B.arg4
  w5 : Writes (F := F) c R B.arg5
  w6 : Writes (F := F) c R B.arg6
  w7 : Writes (F := F) c R B.arg7
  w8 : Writes (F := F) c R B.arg8
  w9 : Writes (F := F) c R B.arg9
  w10 : Writes (F := F) c R B.arg10
  w11 : Writes (F := F) c R B.arg11
  w12 : Writes (F := F) c R B.arg12
  w13 : Writes (F := F) c R B.arg13
  w14 : Writes (F := F) c R B.arg14
  w15 : Writes (F := F) c R B.arg15
  w16 : Writes (F := F) c R B.arg16
  w17 : Writes (F := F) c R B.arg17
  w18 : Writes (F := F) c R B.arg18
  w19 : Writes (F := F) c R B.arg19
  w20 : Writes (F := F) c R B.arg20
  w21 : Writes (F := F) c R B.arg21
  w22 : Writes (F := F) c R B.arg22
  w23 : Writes (F := F) c R B.arg23
  w24 : Writes (F := F) c R B.arg24

end Cert.Proof.Attn
-- ==== Proof.Body.lean ====
/- The kernel's body keeps every buffer it is called with: the regions of its loops and branches first, each a lemma of its
   own, then the stretches that contain them, then the body. Hand-written, untrusted. A value a region takes is any value. -/
module

public import proofs.«01_k».proof.Proof.Keeps
@[expose] public section
noncomputable section
namespace Cert.Proof.Attn
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [BitOps F] [Facts]
variable {c : Dev nD} {R : sProp (MT nD τ sig Unit (Elt F) ℕ (UR sig nD τ) ℕ)} {B : Bufs}
set_option maxRecDepth 100000
set_option maxHeartbeats 0
/-- Region 11 of the body keeps its buffers, whatever values it is handed. -/
theorem k11 (H : Held (F := F) c R B) {a0 a1} : Keeps (F := F) c R (B.call k0_part11 a0 a1) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_
  all_goals exact Keeps.smemLoad (F := F) (Writes.reads w2)

/-- Region 104 of the body keeps its buffers, whatever values it is handed. -/
theorem k104 (H : Held (F := F) c R B) {a0 a1 a2 a3 a4 a5 a6 a7 a8 a9 a10} : Keeps (F := F) c R (B.call k0_part104 a0 a1 a2 a3 a4 a5 a6 a7 a8 a9 a10) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 105 of the body keeps its buffers, whatever values it is handed. -/
theorem k105 (H : Held (F := F) c R B) {a0 a1 a2 a3 a4 a5 a6 a7 a8 a9 a10 a11 a12 a13 a14 a15 a16 a17 a18 a19 a20 a21 a22 a23 a24 a25 a26 a27 a28 a29 a30 a31 a32 a33 a34 a35 a36 a37} : Keeps (F := F) c R (B.call k0_part105 a0 a1 a2 a3 a4 a5 a6 a7 a8 a9 a10 a11 a12 a13 a14 a15 a16 a17 a18 a19 a20 a21 a22 a23 a24 a25 a26 a27 a28 a29 a30 a31 a32 a33 a34 a35 a36 a37) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 192 of the body keeps its buffers, whatever values it is handed. -/
theorem k192 (H : Held (F := F) c R B) {a0 a1 a2 a3 a4 a5 a6 a7 a8 a9 a10} : Keeps (F := F) c R (B.call k0_part192 a0 a1 a2 a3 a4 a5 a6 a7 a8 a9 a10) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 193 of the body keeps its buffers, whatever values it is handed. -/
theorem k193 (H : Held (F := F) c R B) {a0 a1 a2 a3 a4 a5 a6 a7 a8 a9 a10 a11 a12 a13 a14 a15 a16 a17 a18 a19 a20 a21 a22 a23 a24 a25 a26 a27 a28 a29 a30 a31 a32 a33 a34 a35 a36 a37} : Keeps (F := F) c R (B.call k0_part193 a0 a1 a2 a3 a4 a5 a6 a7 a8 a9 a10 a11 a12 a13 a14 a15 a16 a17 a18 a19 a20 a21 a22 a23 a24 a25 a26 a27 a28 a29 a30 a31 a32 a33 a34 a35 a36 a37) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 237 of the body keeps its buffers, whatever values it is handed. -/
theorem k237 (H : Held (F := F) c R B) {a0 a1 a2 a3 a4 a5 a6 a7 a8 a9} : Keeps (F := F) c R (B.call k0_part237 a0 a1 a2 a3 a4 a5 a6 a7 a8 a9) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 281 of the body keeps its buffers, whatever values it is handed. -/
theorem k281 (H : Held (F := F) c R B) {a0 a1 a2 a3 a4 a5 a6 a7 a8 a9 a10 a11} : Keeps (F := F) c R (B.call k0_part281 a0 a1 a2 a3 a4 a5 a6 a7 a8 a9 a10 a11) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 304 of the body keeps its buffers, whatever values it is handed. -/
theorem k304 (H : Held (F := F) c R B) {a0 a1 a2 a3 a4 a5 a6 a7 a8 a9 a10 a11} : Keeps (F := F) c R (B.call k0_part304 a0 a1 a2 a3 a4 a5 a6 a7 a8 a9 a10 a11) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 324 of the body keeps its buffers, whatever values it is handed. -/
theorem k324 (H : Held (F := F) c R B) {a0 a1 a2 a3 a4 a5 a6 a7 a8 a9 a10 a11 a12 a13 a14 a15 a16 a17 a18 a19 a20} : Keeps (F := F) c R (B.call k0_part324 a0 a1 a2 a3 a4 a5 a6 a7 a8 a9 a10 a11 a12 a13 a14 a15 a16 a17 a18 a19 a20) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 351 of the body keeps its buffers, whatever values it is handed. -/
theorem k351 (H : Held (F := F) c R B) {a0 a1 a2 a3 a4} : Keeps (F := F) c R (B.call k0_part351 a0 a1 a2 a3 a4) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Region 378 of the body keeps its buffers, whatever values it is handed. -/
theorem k378 (H : Held (F := F) c R B) {a0 a1 a2 a3 a4} : Keeps (F := F) c R (B.call k0_part378 a0 a1 a2 a3 a4) := by
  have ⟨w2, w3, w4, w5, w6, w7, w8, w9, w10, w11, w12, w13, w14, w15, w16, w17, w18, w19, w20, w21, w22, w23, w24⟩ := H
  repeat' first
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Stretch 412 of the body, which holds regions proved above, keeps its buffers. -/
theorem k412 (H : Held (F := F) c R B) : Keeps (F := F) c R (B.call k0_part412) := by
  have ⟨w2, w3, w4, w5, w6, w7, w8, w9, w10, w11, w12, w13, w14, w15, w16, w17, w18, w19, w20, w21, w22, w23, w24⟩ := H
  repeat' first
    | with_reducible exact k11 H
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_
  all_goals exact Keeps.smemLoad (F := F) (Writes.reads w2)

/-- Stretch 418 of the body, which holds regions proved above, keeps its buffers. -/
theorem k418 (H : Held (F := F) c R B) {a0 a1 a2 a3 a4 a5 a6 a7 a8 a9 a10 a11 a12 a13 a14 a15 a16} : Keeps (F := F) c R (B.call k0_part418 a0 a1 a2 a3 a4 a5 a6 a7 a8 a9 a10 a11 a12 a13 a14 a15 a16) := by
  have ⟨w2, w3, w4, w5, w6, w7, w8, w9, w10, w11, w12, w13, w14, w15, w16, w17, w18, w19, w20, w21, w22, w23, w24⟩ := H
  repeat' first
    | with_reducible exact k104 H
    | with_reducible exact k105 H
    | with_reducible exact k192 H
    | with_reducible exact k193 H
    | with_reducible exact k237 H
    | with_reducible exact k281 H
    | with_reducible exact k304 H
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Stretch 422 of the body, which holds regions proved above, keeps its buffers. -/
theorem k422 (H : Held (F := F) c R B) {a0 a1 a2 a3 a4 a5 a6 a7 a8 a9 a10 a11 a12 a13 a14 a15 a16 a17 a18 a19 a20 a21 a22 a23 a24 a25 a26 a27 a28 a29 a30 a31 a32 a33} : Keeps (F := F) c R (B.call k0_part422 a0 a1 a2 a3 a4 a5 a6 a7 a8 a9 a10 a11 a12 a13 a14 a15 a16 a17 a18 a19 a20 a21 a22 a23 a24 a25 a26 a27 a28 a29 a30 a31 a32 a33) := by
  have ⟨w2, w3, w4, w5, w6, w7, w8, w9, w10, w11, w12, w13, w14, w15, w16, w17, w18, w19, w20, w21, w22, w23, w24⟩ := H
  repeat' first
    | with_reducible exact k324 H
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- Stretch 437 of the body, which holds regions proved above, keeps its buffers. -/
theorem k437 (H : Held (F := F) c R B) {a0 a1 a2 a3 a4 a5} : Keeps (F := F) c R (B.call k0_part437 a0 a1 a2 a3 a4 a5) := by
  have ⟨w2, w3, w4, w5, w6, w7, w8, w9, w10, w11, w12, w13, w14, w15, w16, w17, w18, w19, w20, w21, w22, w23, w24⟩ := H
  repeat' first
    | with_reducible exact k351 H
    | with_reducible exact k378 H
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

/-- The whole body runs from its buffers and gives every one of them back, at some contents. -/
theorem keeps_body (H : Held (F := F) c R B) : Keeps (F := F) c R (B.call (cc0_sparse_attn (F := F))) := by
  have ⟨w2, w3, w4, w5, w6, w7, w8, w9, w10, w11, w12, w13, w14, w15, w16, w17, w18, w19, w20, w21, w22, w23, w24⟩ := H
  repeat' first
    | with_reducible exact k412 H
    | with_reducible exact k418 H
    | with_reducible exact k422 H
    | with_reducible exact k437 H
    | with_reducible exact Keeps.ret (F := F) _
    | with_reducible exact Keeps.load (Writes.reads (by assumption))
    | with_reducible exact Keeps.store (by assumption)
    | with_reducible refine Keeps.dite (F := F) (fun _ => ?_) fun _ => ?_
    | with_reducible refine Keeps.loop (F := F) fun _ _ => ?_
    | with_reducible refine Keeps.bind (F := F) ?_ fun _ => ?_
    | refine Keeps.bind (F := F) ?_ fun _ => ?_
    | exact Keeps.ret (F := F) _
    | refine Keeps.dite (F := F) (fun _ => ?_) fun _ => ?_

end Cert.Proof.Attn
-- ==== Proof.Attn.lean ====
/- The sparse attention keeps its arguments and leaves every semaphore at zero. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Body
public import Idealize.ShloMosaic.Adequacy
public import Idealize.ShloMosaic.Init

@[expose] public section

noncomputable section

namespace Cert.Proof.Attn

open Cert.Kernel
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [BitOps F]

/-- The memrefs the pipeline calls the body with at a point. -/
def bufs (t : Fin cfg0.N) : Bufs where
  i := grid0.coords t
  arg2 := win0_0.stage (cfg0.slots t 0)
  harg2 := Gen.hstage0_0 ((cfg0.slots t 0).cast Gen.nbuf0_0)
  arg3 := win0_1.stage (cfg0.slots t 1)
  harg3 := Gen.hstage0_1 ((cfg0.slots t 1).cast Gen.nbuf0_1)
  arg4 := win0_2.stage (cfg0.slots t 2)
  harg4 := Gen.hstage0_2 ((cfg0.slots t 2).cast Gen.nbuf0_2)
  arg5 := win0_3.stage (cfg0.slots t 3)
  harg5 := Gen.hstage0_3 ((cfg0.slots t 3).cast Gen.nbuf0_3)
  arg6 := win0_4.stage (cfg0.slots t 4)
  harg6 := Gen.hstage0_4 ((cfg0.slots t 4).cast Gen.nbuf0_4)
  arg7 := win0_5.stage (cfg0.slots t 5)
  harg7 := Gen.hstage0_5 ((cfg0.slots t 5).cast Gen.nbuf0_5)
  arg8 := win0_6.stage (cfg0.slots t 6)
  harg8 := Gen.hstage0_6 ((cfg0.slots t 6).cast Gen.nbuf0_6)
  arg9 := win0_7.stage (cfg0.slots t 7)
  harg9 := Gen.hstage0_7 ((cfg0.slots t 7).cast Gen.nbuf0_7)
  arg10 := win0_8.stage (cfg0.slots t 8)
  harg10 := Gen.hstage0_8 ((cfg0.slots t 8).cast Gen.nbuf0_8)
  arg11 := Memref.whole cc0_scratch0
  harg11 := Memref.isWhole_whole _
  arg12 := Memref.whole cc0_scratch1
  harg12 := Memref.isWhole_whole _
  arg13 := Memref.whole cc0_scratch2
  harg13 := Memref.isWhole_whole _
  arg14 := Memref.whole cc0_scratch3
  harg14 := Memref.isWhole_whole _
  arg15 := Memref.whole cc0_scratch4
  harg15 := Memref.isWhole_whole _
  arg16 := Memref.whole cc0_scratch5
  harg16 := Memref.isWhole_whole _
  arg17 := Memref.whole cc0_scratch6
  harg17 := Memref.isWhole_whole _
  arg18 := Memref.whole cc0_scratch7
  harg18 := Memref.isWhole_whole _
  arg19 := Memref.whole cc0_scratch8
  harg19 := Memref.isWhole_whole _
  arg20 := Memref.whole cc0_scratch9
  harg20 := Memref.isWhole_whole _
  arg21 := Memref.whole cc0_scratch10
  harg21 := Memref.isWhole_whole _
  arg22 := Memref.whole cc0_scratch11
  harg22 := Memref.isWhole_whole _
  arg23 := Memref.whole cc0_scratch12
  harg23 := Memref.isWhole_whole _
  arg24 := Memref.whole cc0_scratch13
  harg24 := Memref.isWhole_whole _

/-- What the launch hands the pipeline on a core: each array as the host code leaves it, the scratch and the register at
    anything; a point may leave anything in its blocks. -/
def rdat (m : (ℓ : Loc nD τ sig) → Buf (Elt F) ℓ) (c : Dev nD) : RDat τ (Elt F) Unit ℕ (UR sig nD τ) ℕ cfg0 c where
  A w := Gen.V m c (arrRef spec0 w)
  after _ _ _ _ := True
  Φ _ := ΦA spec0 c
  q w := shareOf spec0 w
  owed _ := 0
  recorded _ := Set.univ

/-- What the body holds at a point: the scratch and the register, what the core owes, and each window's buffer. -/
def held (m : (ℓ : Loc nD τ sig) → Buf (Elt F) ℓ) (c : Dev nD) (t : Fin cfg0.N) : sProp (MT nD τ sig Unit (Elt F) ℕ (UR sig nD τ) ℕ) :=
  iprop(ΦA spec0 c ∗ (rdat m c).owesAt () t.castSucc
    ∗ bigSep Finset.univ fun w => iprop(∃ X, owns (c : Thread nD τ) ((cfg0.win w).stage (cfg0.slots t w)) fullShare X))

/-- It holds every buffer the body is called with. -/
theorem held_bufs (m : (ℓ : Loc nD τ sig) → Buf (Elt F) ℓ) (c : Dev nD) (t : Fin cfg0.N) : Held (F := F) c (held m c t) (bufs t) := by
  unfold held ΦA
  rw [Gen.scopedRest0_eq, Gen.bigSep_W0]
  exact ⟨.right (.right (.left .here)),
    .right (.right (.right (.left .here))),
    .right (.right (.right (.right (.left .here)))),
    .right (.right (.right (.right (.right (.left .here))))),
    .right (.right (.right (.right (.right (.right (.left .here)))))),
    .right (.right (.right (.right (.right (.right (.right (.left .here))))))),
    .right (.right (.right (.right (.right (.right (.right (.right (.left .here)))))))),
    .right (.right (.right (.right (.right (.right (.right (.right (.right (.left .here))))))))),
    .right (.right (.right (.right (.right (.right (.right (.right (.right (.right .here))))))))),
    .left (.left (.left (.whole cc0_scratch0))),
    .left (.left (.right (.left (.whole cc0_scratch1)))),
    .left (.left (.right (.right (.left (.whole cc0_scratch2))))),
    .left (.left (.right (.right (.right (.left (.whole cc0_scratch3)))))),
    .left (.left (.right (.right (.right (.right (.left (.whole cc0_scratch4))))))),
    .left (.left (.right (.right (.right (.right (.right (.left (.whole cc0_scratch5)))))))),
    .left (.left (.right (.right (.right (.right (.right (.right (.left (.whole cc0_scratch6))))))))),
    .left (.left (.right (.right (.right (.right (.right (.right (.right (.left (.whole cc0_scratch7)))))))))),
    .left (.left (.right (.right (.right (.right (.right (.right (.right (.right (.left (.whole cc0_scratch8))))))))))),
    .left (.left (.right (.right (.right (.right (.right (.right (.right (.right (.right (.left (.whole cc0_scratch9)))))))))))),
    .left (.left (.right (.right (.right (.right (.right (.right (.right (.right (.right (.right (.left (.whole cc0_scratch10))))))))))))),
    .left (.left (.right (.right (.right (.right (.right (.right (.right (.right (.right (.right (.right (.left (.whole cc0_scratch11)))))))))))))),
    .left (.left (.right (.right (.right (.right (.right (.right (.right (.right (.right (.right (.right (.right (.left (.whole cc0_scratch12))))))))))))))),
    .left (.left (.right (.right (.right (.right (.right (.right (.right (.right (.right (.right (.right (.right (.right (.whole cc0_scratch13)))))))))))))))⟩

/-- The body at a point, as the pipeline calls it. -/
theorem body_at (c : Dev nD) (m : (ℓ : Loc nD τ sig) → Buf (Elt F) ℓ) : (rdat m c).BodyObligation (defs₀ (F := F)) Variants.none () Set.univ := by
  intro t Y _
  have hrun := (keeps_body (held_bufs m c t)).run
  refine BIBase.Entails.trans ?_ (BIBase.Entails.trans hrun ?_)
  · unfold held
    refine Laws.sep_mono BIBase.Entails.refl (Laws.sep_mono BIBase.Entails.refl (bigSep_mono fun w _ => ?_))
    have h : BIBase.Entails (owns (c : Thread nD τ) ((cfg0.win w).stage (cfg0.slots t w)) fullShare (Y w) : sProp (MT nD τ sig Unit (Elt F) ℕ (UR sig nD τ) ℕ))
        iprop(∃ X, owns (c : Thread nD τ) ((cfg0.win w).stage (cfg0.slots t w)) fullShare X) := by
      iintro H
      iexists (Y w)
      iexact H
    exact h
  · refine wp_mono _ _ _ fun _ => ?_
    unfold held
    refine Laws.sep_mono BIBase.Entails.refl (Laws.sep_mono BIBase.Entails.refl (bigSep_mono fun w _ => ?_))
    have h : BIBase.Entails (iprop(∃ X, owns (c : Thread nD τ) ((cfg0.win w).stage (cfg0.slots t w)) fullShare X) : sProp (MT nD τ sig Unit (Elt F) ℕ (UR sig nD τ) ℕ))
        iprop(∃ X, ⌜(rdat m c).after w t (Y w) X⌝ ∗ owns (c : Thread nD τ) ((cfg0.win w).stage (cfg0.slots t w)) fullShare X) := by
      iintro ⟨%X, H⟩
      iexists X
      isplitr
      · ipureintro; trivial
      · iexact H
    exact h

set_option maxHeartbeats 4000000 in
/-- Every run of the program over any float carrier keeps the four arguments and ends with every semaphore at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  RDat.θ_run_frame_track_shared cfgs 0 Gen.launch₀0 defs₀ Variants.none (rdat m) m ρ main (fun c => body_at c m)
    (fun _ _ _ => rfl) (fun _ _ => rfl) (Gen.V m) (Gen.hmain m Variants.none) (fun _ _ => rfl)
    (fun _ => BIBase.Entails.refl) (fun _ => BIBase.Entails.refl) _
    (fun _ h => ⟨fun c => ⟨(RDat.FramePost.arr_in h.1 c 6 rfl).trans (Gen.V_main_arg0 m c),
      (RDat.FramePost.arr_in h.1 c 4 rfl).trans (Gen.V_main_arg1 m c),
      (RDat.FramePost.arr_in h.1 c 7 rfl).trans (Gen.V_main_arg2 m c),
      (RDat.FramePost.arr_in h.1 c 0 rfl).trans (Gen.V_main_arg3 m c)⟩, h.2⟩)

/-- The frame of the sparse attention. -/
theorem quiescent : Cert.quiescent_Kernel := fun m ρ _ => run_main (F := Bits) m ρ

end Cert.Proof.Attn

end
-- ==== Proof.MergeIn.lean ====
/-
  What the merge kernel reads: each input window's block at a grid point, read at an index, as an element of an
  argument of the call. The grid point `t` works on rows `512 * (t % 8) …` of batch `t / 8`; the gates and the
  attention's `z` are three column ranges of one concatenated array; the weights are whole arrays.
-/
module

public import proofs.«01_k».proof.Proof.Gen.Kernel2Ideal.Value
public import Idealize.ShloMosaic.Lib.Pointwise

@[expose] public section

noncomputable section

namespace Cert.Proof.MergeIn

open Cert.Kernel2Ideal Cert.Kernel2Ideal.Gen Idealize.ShloMosaic Idealize.ShloMosaic.TcCoe

/-- Two indices of three coordinates are equal when the coordinates are. -/
theorem eq3 {n : Fin 3 → ℕ} {x y : (⟨3, n⟩ : Shape).Idx} (h0 : (x 0).val = (y 0).val) (h1 : (x 1).val = (y 1).val)
    (h2 : (x 2).val = (y 2).val) : x = y :=
  funext fun a => Fin.ext (match a with | ⟨0, _⟩ => h0 | ⟨1, _⟩ => h1 | ⟨2, _⟩ => h2)

/-- Two indices of two coordinates are equal when the coordinates are. -/
theorem eq2 {n : Fin 2 → ℕ} {x y : (⟨2, n⟩ : Shape).Idx} (h0 : (x 0).val = (y 0).val) (h1 : (x 1).val = (y 1).val) : x = y :=
  funext fun a => Fin.ext (match a with | ⟨0, _⟩ => h0 | ⟨1, _⟩ => h1)

/-! ## The host lines read at an index -/

theorem cat_a (u v : Vec Ideal S8x4096x1024 .f32) (w : Vec Ideal S8x4096x512 .f32) (b : Fin 8) (q : Fin 4096) (j : Fin 1024) :
    concatenate S8x4096x2560 2 [⟨S8x4096x1024, u⟩, ⟨S8x4096x1024, v⟩, ⟨S8x4096x512, w⟩] concatenates_S8x4096x1024_S8x4096x1024_S8x4096x512_S8x4096x2560_d2 (ix3 b q ⟨j.val, by omega⟩) = u (ix3 b q j) := by
  pointwise

theorem cat_b (u v : Vec Ideal S8x4096x1024 .f32) (w : Vec Ideal S8x4096x512 .f32) (b : Fin 8) (q : Fin 4096) (j : Fin 1024) :
    concatenate S8x4096x2560 2 [⟨S8x4096x1024, u⟩, ⟨S8x4096x1024, v⟩, ⟨S8x4096x512, w⟩] concatenates_S8x4096x1024_S8x4096x1024_S8x4096x512_S8x4096x2560_d2 (ix3 b q ⟨1024 + j.val, by omega⟩) = v (ix3 b q j) := by
  pointwise

theorem cat_z (u v : Vec Ideal S8x4096x1024 .f32) (w : Vec Ideal S8x4096x512 .f32) (b : Fin 8) (q : Fin 4096) (j : Fin 512) :
    concatenate S8x4096x2560 2 [⟨S8x4096x1024, u⟩, ⟨S8x4096x1024, v⟩, ⟨S8x4096x512, w⟩] concatenates_S8x4096x1024_S8x4096x1024_S8x4096x512_S8x4096x2560_d2 (ix3 b q ⟨2048 + j.val, by omega⟩) = w (ix3 b q j) := by
  pointwise
  have h1 : ¬ (2048 + j.val < 1024) := by omega
  have h2 : ¬ (2048 + j.val - 1024 < 1024) := by omega
  have e : (⟨2048 + j.val - 1024 - 1024, by omega⟩ : Fin 512) = j := Fin.ext (by dsimp only; omega)
  rw [dif_neg h1, dif_neg h2, e]

theorem cast512 (w : FVec Ideal S1x512x1024 .f32) (k : Fin 512) (j : Fin 1024) :
    truncf .bf16 (shapeCast S512x1024 w shapeCasts_S1x512x1024_S512x1024) bitsLt_bf16_f32 (ix2 k j) = w (ix3 0 k j) := by
  pointwise

theorem cast1024 (w : FVec Ideal S1x1024x1024 .f32) (k : Fin 1024) (j : Fin 1024) :
    truncf .bf16 (shapeCast S1024x1024 w shapeCasts_S1x1024x1024_S1024x1024) bitsLt_bf16_f32 (ix2 k j) = w (ix3 0 k j) := by
  pointwise

theorem cast256 (w : FVec Ideal S1x256x1024 .f32) (k : Fin 256) (j : Fin 1024) :
    truncf .bf16 (shapeCast S256x1024 w shapeCasts_S1x256x1024_S256x1024) bitsLt_bf16_f32 (ix2 k j) = w (ix3 0 k j) := by
  pointwise

theorem castp (w : FVec Ideal S1x8x4096x256 .f32) (b : Fin 8) (q : Fin 4096) (j : Fin 256) :
    shapeCast S8x4096x256 w shapeCasts_S1x8x4096x256_S8x4096x256 (ix3 b q j) = w (ix4 0 b q j) := by
  pointwise

theorem castng (w : FVec Ideal S1x1024 .f32) (j : Fin 1024) :
    shapeCast S1x1024 (shapeCast S1024 w shapeCasts_S1x1024_S1024) shapeCasts_S1024_S1x1024 (ix2 0 j) = w (ix2 0 j) := by
  pointwise

theorem castfg (w : FVec Ideal S1024 .f32) (j : Fin 1024) :
    shapeCast S1x1024 w shapeCasts_S1024_S1x1024 (ix2 0 j) = w (ix1 j) := by
  pointwise

variable (m : (ℓ : Loc nD τ sig) → Buf (Elt Ideal) ℓ) (c : Dev nD)

/-! ## The arrays the host lines make -/

theorem V_cat : V m c main_v0 = (concatenate S8x4096x2560 2 [⟨S8x4096x1024, (m ((c : Thread nD τ).loc main_arg3) : Vec Ideal S8x4096x1024 .f32)⟩, ⟨S8x4096x1024, (m ((c : Thread nD τ).loc main_arg4) : Vec Ideal S8x4096x1024 .f32)⟩, ⟨S8x4096x512, (m ((c : Thread nD τ).loc main_arg1) : Vec Ideal S8x4096x512 .f32)⟩] concatenates_S8x4096x1024_S8x4096x1024_S8x4096x512_S8x4096x2560_d2 : Vec Ideal S8x4096x2560 .f32) := by
  show StableHlo.after hostOps0 (fun b => m (c, b)) main_v0 = _
  after_results_simp <;> rfl

theorem V_cz : V m c main_v1 = (truncf .bf16 (m ((c : Thread nD τ).loc main_arg2) : FVec Ideal S8x4096x512 .f32) bitsLt_bf16_f32 : FVec Ideal S8x4096x512 .bf16) := by
  show StableHlo.after hostOps0 (fun b => m (c, b)) main_v1 = _
  after_results_simp <;> rfl

theorem V_p : V m c main_v2 = (shapeCast S8x4096x256 (m ((c : Thread nD τ).loc main_arg6) : FVec Ideal S1x8x4096x256 .f32) shapeCasts_S1x8x4096x256_S8x4096x256 : FVec Ideal S8x4096x256 .f32) := by
  show StableHlo.after hostOps0 (fun b => m (c, b)) main_v2 = _
  after_results_simp <;> rfl

theorem V_wa : V m c main_v4 = (truncf .bf16 (shapeCast S512x1024 (m ((c : Thread nD τ).loc main_arg7) : FVec Ideal S1x512x1024 .f32) shapeCasts_S1x512x1024_S512x1024) bitsLt_bf16_f32 : FVec Ideal S512x1024 .bf16) := by
  show StableHlo.after hostOps0 (fun b => m (c, b)) main_v4 = _
  after_results_simp <;> rfl

theorem V_wb : V m c main_v6 = (truncf .bf16 (shapeCast S512x1024 (m ((c : Thread nD τ).loc main_arg8) : FVec Ideal S1x512x1024 .f32) shapeCasts_S1x512x1024_S512x1024) bitsLt_bf16_f32 : FVec Ideal S512x1024 .bf16) := by
  show StableHlo.after hostOps0 (fun b => m (c, b)) main_v6 = _
  after_results_simp <;> rfl

theorem V_wo : V m c main_v8 = (truncf .bf16 (shapeCast S1024x1024 (m ((c : Thread nD τ).loc main_arg9) : FVec Ideal S1x1024x1024 .f32) shapeCasts_S1x1024x1024_S1024x1024) bitsLt_bf16_f32 : FVec Ideal S1024x1024 .bf16) := by
  show StableHlo.after hostOps0 (fun b => m (c, b)) main_v8 = _
  after_results_simp <;> rfl

theorem V_ng : V m c main_v10 = (shapeCast S1x1024 (shapeCast S1024 (m ((c : Thread nD τ).loc main_arg10) : FVec Ideal S1x1024 .f32) shapeCasts_S1x1024_S1024) shapeCasts_S1024_S1x1024 : FVec Ideal S1x1024 .f32) := by
  show StableHlo.after hostOps0 (fun b => m (c, b)) main_v10 = _
  after_results_simp <;> rfl

theorem V_wg : V m c main_v12 = (truncf .bf16 (shapeCast S1024x1024 (m ((c : Thread nD τ).loc main_arg11) : FVec Ideal S1x1024x1024 .f32) shapeCasts_S1x1024x1024_S1024x1024) bitsLt_bf16_f32 : FVec Ideal S1024x1024 .bf16) := by
  show StableHlo.after hostOps0 (fun b => m (c, b)) main_v12 = _
  after_results_simp <;> rfl

theorem V_wp : V m c main_v14 = (truncf .bf16 (shapeCast S256x1024 (m ((c : Thread nD τ).loc main_arg12) : FVec Ideal S1x256x1024 .f32) shapeCasts_S1x256x1024_S256x1024) bitsLt_bf16_f32 : FVec Ideal S256x1024 .bf16) := by
  show StableHlo.after hostOps0 (fun b => m (c, b)) main_v14 = _
  after_results_simp <;> rfl

theorem V_fg : V m c main_v15 = (shapeCast S1x1024 (m ((c : Thread nD τ).loc main_arg13) : FVec Ideal S1024 .f32) shapeCasts_S1024_S1x1024 : FVec Ideal S1x1024 .f32) := by
  show StableHlo.after hostOps0 (fun b => m (c, b)) main_v15 = _
  after_results_simp <;> rfl

/-! ## The blocks -/

/-- Where the windows that move with the grid stand at point `t`: the batch and the tile of rows, and the block of columns. -/
theorem idx : ∀ t : Fin grid0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 4)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 1)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = t.val % 8 ∧ win0_6.index t (2 : Fin 3) = 0)
    ∧ (win0_14.index t (0 : Fin 3) = t.val / 8 ∧ win0_14.index t (1 : Fin 3) = t.val % 8 ∧ win0_14.index t (2 : Fin 3) = 0) := by
  decide +kernel

/-- The windows of the weights stand at the whole arrays. -/
theorem idxw : ∀ t : Fin grid0.N,
    (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0)
    ∧ (win0_11.index t (0 : Fin 2) = 0 ∧ win0_11.index t (1 : Fin 2) = 0) ∧ (win0_12.index t (0 : Fin 2) = 0 ∧ win0_12.index t (1 : Fin 2) = 0)
    ∧ (win0_13.index t (0 : Fin 2) = 0 ∧ win0_13.index t (1 : Fin 2) = 0) := by
  decide +kernel

section Rows

variable (t : Fin cfg0.N) (r : Fin 512) (b : Fin 8) (q : Fin 4096) (hb : b.val = t.val / 8) (hq : q.val = 512 * (t.val % 8) + r.val)
include hb hq

theorem attn (j : Fin 512) : iblk m c 0 t (ix3 0 r j) = m ((c : Thread nD τ).loc main_arg0) (ix3 b q j) := by
  obtain ⟨e0, e1, e2⟩ := (idx t).1
  refine Eq.trans (congrArg (V m c main_arg0) (eq3 ?_ ?_ ?_)) (congrFun (V_main_arg0 m c) _)
  · show win0_0.index t (0 : Fin 3) * 1 + 1 * 0 = b.val; omega
  · show win0_0.index t (1 : Fin 3) * 512 + 1 * r.val = q.val; omega
  · show win0_0.index t (2 : Fin 3) * 512 + 1 * j.val = j.val; omega

theorem z (j : Fin 512) : iblk m c 1 t (ix3 0 r j) = m ((c : Thread nD τ).loc main_arg1) (ix3 b q j) := by
  obtain ⟨e0, e1, e2⟩ := (idx t).2.1
  have h : iblk m c 1 t (ix3 0 r j) = V m c main_v0 (ix3 b q ⟨2048 + j.val, by omega⟩) := by
    refine congrArg (V m c main_v0) (eq3 ?_ ?_ ?_)
    · show win0_1.index t (0 : Fin 3) * 1 + 1 * 0 = b.val; omega
    · show win0_1.index t (1 : Fin 3) * 512 + 1 * r.val = q.val; omega
    · show win0_1.index t (2 : Fin 3) * 512 + 1 * j.val = 2048 + j.val; omega
  exact h.trans ((congrFun (V_cat m c) _).trans (cat_z _ _ _ b q j))

theorem cz (j : Fin 512) : iblk m c 2 t (ix3 0 r j) = m ((c : Thread nD τ).loc main_arg2) (ix3 b q j) := by
  obtain ⟨e0, e1, e2⟩ := (idx t).2.2.1
  refine Eq.trans (congrArg (V m c main_v1) (eq3 (y := ix3 b q j) ?_ ?_ ?_)) ((congrFun (V_cz m c) _).trans (rfl))
  · show win0_2.index t (0 : Fin 3) * 1 + 1 * 0 = b.val; omega
  · show win0_2.index t (1 : Fin 3) * 512 + 1 * r.val = q.val; omega
  · show win0_2.index t (2 : Fin 3) * 512 + 1 * j.val = j.val; omega

theorem ga (j : Fin 1024) : X0_3 m c t (ix3 0 r j) = m ((c : Thread nD τ).loc main_arg3) (ix3 b q j) := by
  obtain ⟨e0, e1, e2⟩ := (idx t).2.2.2.1
  have h : X0_3 m c t (ix3 0 r j) = V m c main_v0 (ix3 b q ⟨j.val, by omega⟩) := by
    unfold X0_3 Pipeline.Window.fill
    rw [dif_pos (moved0_3 t _)]
    refine congrArg (V m c main_v0) (eq3 ?_ ?_ ?_)
    · show win0_3.index t (0 : Fin 3) * 1 + 1 * 0 = b.val; omega
    · show win0_3.index t (1 : Fin 3) * 512 + 1 * r.val = q.val; omega
    · show win0_3.index t (2 : Fin 3) * 1024 + 1 * j.val = j.val; omega
  exact h.trans ((congrFun (V_cat m c) _).trans (cat_a _ _ _ b q j))

theorem gb (j : Fin 1024) : X0_4 m c t (ix3 0 r j) = m ((c : Thread nD τ).loc main_arg4) (ix3 b q j) := by
  obtain ⟨e0, e1, e2⟩ := (idx t).2.2.2.2.1
  have h : X0_4 m c t (ix3 0 r j) = V m c main_v0 (ix3 b q ⟨1024 + j.val, by omega⟩) := by
    unfold X0_4 Pipeline.Window.fill
    rw [dif_pos (moved0_4 t _)]
    refine congrArg (V m c main_v0) (eq3 ?_ ?_ ?_)
    · show win0_4.index t (0 : Fin 3) * 1 + 1 * 0 = b.val; omega
    · show win0_4.index t (1 : Fin 3) * 512 + 1 * r.val = q.val; omega
    · show win0_4.index t (2 : Fin 3) * 1024 + 1 * j.val = 1024 + j.val; omega
  exact h.trans ((congrFun (V_cat m c) _).trans (cat_b _ _ _ b q j))

theorem x (j : Fin 1024) : iblk m c 5 t (ix3 0 r j) = m ((c : Thread nD τ).loc main_arg5) (ix3 b q j) := by
  obtain ⟨e0, e1, e2⟩ := (idx t).2.2.2.2.2.1
  refine Eq.trans (congrArg (V m c main_arg5) (eq3 ?_ ?_ ?_)) (congrFun (V_main_arg5 m c) _)
  · show win0_5.index t (0 : Fin 3) * 1 + 1 * 0 = b.val; omega
  · show win0_5.index t (1 : Fin 3) * 512 + 1 * r.val = q.val; omega
  · show win0_5.index t (2 : Fin 3) * 1024 + 1 * j.val = j.val; omega

theorem p (j : Fin 256) : iblk m c 6 t (ix3 0 r j) = m ((c : Thread nD τ).loc main_arg6) (ix4 0 b q j) := by
  obtain ⟨e0, e1, e2⟩ := (idx t).2.2.2.2.2.2.1
  refine Eq.trans (congrArg (V m c main_v2) (eq3 (y := ix3 b q j) ?_ ?_ ?_)) ((congrFun (V_p m c) _).trans (castp _ b q j))
  · show win0_6.index t (0 : Fin 3) * 1 + 1 * 0 = b.val; omega
  · show win0_6.index t (1 : Fin 3) * 512 + 1 * r.val = q.val; omega
  · show win0_6.index t (2 : Fin 3) * 256 + 1 * j.val = j.val; omega

end Rows

theorem wa (t : Fin cfg0.N) (k : Fin 512) (j : Fin 1024) : iblk m c 7 t (ix2 k j) = m ((c : Thread nD τ).loc main_arg7) (ix3 0 k j) := by
  obtain ⟨e0, e1⟩ := (idxw t).1
  refine Eq.trans (congrArg (V m c main_v4) (eq2 (y := ix2 k j) ?_ ?_)) ((congrFun (V_wa m c) _).trans (cast512 _ k j))
  · show win0_7.index t (0 : Fin 2) * 512 + 1 * k.val = k.val; omega
  · show win0_7.index t (1 : Fin 2) * 1024 + 1 * j.val = j.val; omega

theorem wb (t : Fin cfg0.N) (k : Fin 512) (j : Fin 1024) : iblk m c 8 t (ix2 k j) = m ((c : Thread nD τ).loc main_arg8) (ix3 0 k j) := by
  obtain ⟨e0, e1⟩ := (idxw t).2.1
  refine Eq.trans (congrArg (V m c main_v6) (eq2 (y := ix2 k j) ?_ ?_)) ((congrFun (V_wb m c) _).trans (cast512 _ k j))
  · show win0_8.index t (0 : Fin 2) * 512 + 1 * k.val = k.val; omega
  · show win0_8.index t (1 : Fin 2) * 1024 + 1 * j.val = j.val; omega

theorem wo (t : Fin cfg0.N) (k : Fin 1024) (j : Fin 1024) : iblk m c 9 t (ix2 k j) = m ((c : Thread nD τ).loc main_arg9) (ix3 0 k j) := by
  obtain ⟨e0, e1⟩ := (idxw t).2.2.1
  refine Eq.trans (congrArg (V m c main_v8) (eq2 (y := ix2 k j) ?_ ?_)) ((congrFun (V_wo m c) _).trans (cast1024 _ k j))
  · show win0_9.index t (0 : Fin 2) * 1024 + 1 * k.val = k.val; omega
  · show win0_9.index t (1 : Fin 2) * 1024 + 1 * j.val = j.val; omega

theorem ng (t : Fin cfg0.N) (j : Fin 1024) : iblk m c 10 t (ix2 0 j) = m ((c : Thread nD τ).loc main_arg10) (ix2 0 j) := by
  obtain ⟨e0, e1⟩ := (idxw t).2.2.2.1
  refine Eq.trans (congrArg (V m c main_v10) (eq2 (y := ix2 0 j) ?_ ?_)) ((congrFun (V_ng m c) _).trans (castng _ j))
  · show win0_10.index t (0 : Fin 2) * 1 + 1 * 0 = 0; omega
  · show win0_10.index t (1 : Fin 2) * 1024 + 1 * j.val = j.val; omega

theorem wg (t : Fin cfg0.N) (k : Fin 1024) (j : Fin 1024) : iblk m c 11 t (ix2 k j) = m ((c : Thread nD τ).loc main_arg11) (ix3 0 k j) := by
  obtain ⟨e0, e1⟩ := (idxw t).2.2.2.2.1
  refine Eq.trans (congrArg (V m c main_v12) (eq2 (y := ix2 k j) ?_ ?_)) ((congrFun (V_wg m c) _).trans (cast1024 _ k j))
  · show win0_11.index t (0 : Fin 2) * 1024 + 1 * k.val = k.val; omega
  · show win0_11.index t (1 : Fin 2) * 1024 + 1 * j.val = j.val; omega

theorem wp (t : Fin cfg0.N) (k : Fin 256) (j : Fin 1024) : iblk m c 12 t (ix2 k j) = m ((c : Thread nD τ).loc main_arg12) (ix3 0 k j) := by
  obtain ⟨e0, e1⟩ := (idxw t).2.2.2.2.2.1
  refine Eq.trans (congrArg (V m c main_v14) (eq2 (y := ix2 k j) ?_ ?_)) ((congrFun (V_wp m c) _).trans (cast256 _ k j))
  · show win0_12.index t (0 : Fin 2) * 256 + 1 * k.val = k.val; omega
  · show win0_12.index t (1 : Fin 2) * 1024 + 1 * j.val = j.val; omega

theorem fg (t : Fin cfg0.N) (j : Fin 1024) : iblk m c 13 t (ix2 0 j) = m ((c : Thread nD τ).loc main_arg13) (ix1 j) := by
  obtain ⟨e0, e1⟩ := (idxw t).2.2.2.2.2.2
  refine Eq.trans (congrArg (V m c main_v15) (eq2 (y := ix2 0 j) ?_ ?_)) ((congrFun (V_fg m c) _).trans (castfg _ j))
  · show win0_13.index t (0 : Fin 2) * 1 + 1 * 0 = 0; omega
  · show win0_13.index t (1 : Fin 2) * 1024 + 1 * j.val = j.val; omega

end Cert.Proof.MergeIn

end
-- ==== Proof.MergeRef.lean ====
/-
  The reference of the merge: its one composed term cut into the stages of the layer (the two branches, the merged
  residual stream, the normalization, the embedding through its gate), each stage read at an index.
-/
module

public import proofs.«01_k».proof.Proof.Gen.Reference2Ideal.Run
public import Idealize.ShloMosaic.Lib.Pointwise

@[expose] public section

noncomputable section

namespace Cert.Proof.MergeRef

open Cert.Reference2Ideal Cert.Reference2Ideal.Gen Idealize.ShloMosaic

/-- An array of the layer at the width of a branch. -/
abbrev A512 := FVec Ideal S8x4096x512 .f32
/-- An array of the layer at the width of the model. -/
abbrev A1024 := FVec Ideal S8x4096x1024 .f32

/-- The logistic function of every element. -/
def sg (g : A1024) : A1024 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf g)))

/-- The attention branch before its gate. -/
def ya (a z : A512) (w : FVec Ideal S1x512x1024 .f32) : A1024 :=
  Host.dotGeneral dot_S8x4096x512_S512x1024_S8x4096x1024_2_0_01_1_n_n none (mulf a (mulf z (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf z)))))) (shapeCast _ w shapeCasts_S1x512x1024_S512x1024)

/-- The convolution branch before its gate. -/
def yb (cz : A512) (w : FVec Ideal S1x512x1024 .f32) : A1024 :=
  Host.dotGeneral dot_S8x4096x512_S512x1024_S8x4096x1024_2_0_01_1_n_n none cz (shapeCast _ w shapeCasts_S1x512x1024_S512x1024)

/-- The residual stream after the merge of the branches. -/
def h (x ga gb a b : A1024) (w : FVec Ideal S1x1024x1024 .f32) : A1024 :=
  addf x (Host.dotGeneral dot_S8x4096x1024_S1024x1024_S8x4096x1024_2_0_01_1_n_n none (addf (mulf (sg ga) a) (mulf (sg gb) b)) (shapeCast _ w shapeCasts_S1x1024x1024_S1024x1024))

/-- A row divided by its root mean square, times the gain. -/
def rms (x : A1024) (g : FVec Ideal S1024 .f32) : A1024 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The per-layer embedding added through its gate. -/
def emb (x : A1024) (g : FVec Ideal S1024 .f32) (wg : FVec Ideal S1x1024x1024 .f32) (p : FVec Ideal S1x8x4096x256 .f32) (wp : FVec Ideal S1x256x1024 .f32) : A1024 :=
  addf x (mulf (sg (Host.dotGeneral dot_S8x4096x1024_S1024x1024_S8x4096x1024_2_0_01_1_n_n none (rms x g) (shapeCast _ wg shapeCasts_S1x1024x1024_S1024x1024))) (Host.dotGeneral dot_S8x4096x256_S256x1024_S8x4096x1024_2_0_01_1_n_n none (shapeCast _ p shapeCasts_S1x8x4096x256_S8x4096x256) (shapeCast _ wp shapeCasts_S1x256x1024_S256x1024)))

variable (m : (ℓ : Loc nD τ sig) → Buf (Elt Ideal) ℓ) (c : Dev nD)

/-- The reference's result from the arguments. -/
def out (a z cz : A512) (ga gb x : A1024) (p : FVec Ideal S1x8x4096x256 .f32) (wa wb : FVec Ideal S1x512x1024 .f32)
    (wo : FVec Ideal S1x1024x1024 .f32) (ng : FVec Ideal S1x1024 .f32) (wg : FVec Ideal S1x1024x1024 .f32)
    (wp : FVec Ideal S1x256x1024 .f32) (fg : FVec Ideal S1024 .f32) : A1024 :=
  rms (emb (h x ga gb (ya a z wa) (yb cz wb) wo) (shapeCast _ ng shapeCasts_S1x1024_S1024) wg p wp) fg

theorem res_eq : Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show Value.res_main_v63 m c = _
  unfold Value.res_main_v63 out emb h rms ya yb sg
  rfl

/-! ## The stages read at an index -/

theorem ya_apply (a z : A512) (w : FVec Ideal S1x512x1024 .f32) (b : Fin 8) (q : Fin 4096) (j : Fin 1024) :
    ya a z w (ix3 b q j) = ∑ k : Fin 512, a (ix3 b q k) * (z (ix3 b q k) * Ideal.div 1 (1 + Ideal.exp (-z (ix3 b q k)))) * w (ix3 0 k j) := by
  pointwise [ya]

theorem yb_apply (a : A512) (w : FVec Ideal S1x512x1024 .f32) (b : Fin 8) (q : Fin 4096) (j : Fin 1024) :
    yb a w (ix3 b q j) = ∑ k : Fin 512, a (ix3 b q k) * w (ix3 0 k j) := by
  pointwise [yb]

theorem h_apply (x ga gb y y' : A1024) (w : FVec Ideal S1x1024x1024 .f32) (b : Fin 8) (q : Fin 4096) (j : Fin 1024) :
    h x ga gb y y' w (ix3 b q j) = x (ix3 b q j) + ∑ k : Fin 1024, (Ideal.div 1 (1 + Ideal.exp (-ga (ix3 b q k))) * y (ix3 b q k)
      + Ideal.div 1 (1 + Ideal.exp (-gb (ix3 b q k))) * y' (ix3 b q k)) * w (ix3 0 k j) := by
  pointwise [h, sg]

theorem rms_apply (x : A1024) (g : FVec Ideal S1024 .f32) (b : Fin 8) (q : Fin 4096) (j : Fin 1024) :
    rms x g (ix3 b q j) = x (ix3 b q j) * Ideal.rsqrt (Ideal.div (∑ k : Fin 1024, x (ix3 b q k) * x (ix3 b q k))
      (Ideal.ofBits FTy.f32 1149239296#32) + Ideal.ofBits FTy.f32 897988541#32) * g (ix1 j) := by
  pointwise [rms]

theorem emb_apply (x : A1024) (g : FVec Ideal S1024 .f32) (wg : FVec Ideal S1x1024x1024 .f32) (p : FVec Ideal S1x8x4096x256 .f32)
    (wp : FVec Ideal S1x256x1024 .f32) (b : Fin 8) (q : Fin 4096) (j : Fin 1024) :
    emb x g wg p wp (ix3 b q j) = x (ix3 b q j) + Ideal.div 1 (1 + Ideal.exp (-∑ k : Fin 1024, rms x g (ix3 b q k) * wg (ix3 0 k j)))
      * ∑ k : Fin 256, p (ix4 0 b q k) * wp (ix3 0 k j) := by
  pointwise [emb, sg]

end Cert.Proof.MergeRef

end
-- ==== Proof.Merge.lean ====
/-
  The merge kernel against its reference: what one grid point leaves in its output block is the reference's result
  at the block's rows, stage by stage, and the blocks tile the array.
-/
module

public import proofs.«01_k».proof.Proof.MergeIn
public import proofs.«01_k».proof.Proof.MergeRef
public import Idealize.ShloMosaic.Lib.Pipeline.ValueKit
public import proofs.«01_k».proof.Defs

@[expose] public section

noncomputable section

namespace Cert.Proof.Merge

open Cert.Kernel2Ideal Cert.Kernel2Ideal.Gen Idealize.ShloMosaic Idealize.ShloMosaic.TcCoe
open Cert.Proof

/-! ## The kernel's values read at an index of the block -/

theorem branch_b (v17 : Vec Ideal S1x512x512 .bf16) (v19 : Vec Ideal S512x1024 .bf16) (r : Fin 512) (j : Fin 1024) :
    k0_pay2 v17 v19 (ix2 r j) = ∑ k : Fin 512, v17 (ix3 0 r k) * v19 (ix2 k j) := by
  pointwise [k0_pay2]

theorem branch_a (v0 v2 : Vec Ideal S1x512x512 .f32) (v14 : Vec Ideal S512x1024 .bf16) (v22 : Vec Ideal S1x512x1024 .f32) (r : Fin 512) (j : Fin 1024) :
    k0_pay3 v0 v2 v14 v22 (ix2 r j) = Ideal.div 1 (1 + Ideal.exp (0 - v22 (ix3 0 r j)))
      * ∑ k : Fin 512, v2 (ix3 0 r k) * (v0 (ix3 0 r k) * Ideal.div 1 (1 + Ideal.exp (0 - v0 (ix3 0 r k)))) * v14 (ix2 k j) := by
  pointwise [k0_pay3]

theorem resid (v21 v31 : FVec Ideal S512x1024 .f32) (v32 v43 : Vec Ideal S1x512x1024 .f32) (v46 : Vec Ideal S1024x1024 .bf16) (r : Fin 512) (j : Fin 1024) :
    k0_pay4 v21 v31 v32 v43 v46 (ix2 r j) = v43 (ix3 0 r j)
      + ∑ k : Fin 1024, (v31 (ix2 r k) + Ideal.div 1 (1 + Ideal.exp (0 - v32 (ix3 0 r k))) * v21 (ix2 r k)) * v46 (ix2 k j) := by
  pointwise [k0_pay4]

theorem embed (v50 : Vec Ideal S1x512x256 .f32) (v53 : Vec Ideal S256x1024 .bf16) (r : Fin 512) (j : Fin 1024) :
    k0_pay5 v50 v53 (ix2 r j) = ∑ k : Fin 256, v50 (ix3 0 r k) * v53 (ix2 k j) := by
  pointwise [k0_pay5]

theorem normed (v21 v31 : FVec Ideal S512x1024 .f32) (v32 v43 : Vec Ideal S1x512x1024 .f32) (v46 : Vec Ideal S1024x1024 .bf16) (v56 : Vec Ideal S1x1024 .f32) (r : Fin 512) (j : Fin 1024) :
    k0_pay6 v21 v31 v32 v43 v46 v56 (ix2 r j) = k0_pay4 v21 v31 v32 v43 v46 (ix2 r j)
      * Ideal.rsqrt (Ideal.div (∑ k : Fin 1024, k0_pay4 v21 v31 v32 v43 v46 (ix2 r k) * k0_pay4 v21 v31 v32 v43 v46 (ix2 r k))
          (Ideal.ofBits FTy.f32 1149239296#32) + Ideal.ofBits FTy.f32 897988541#32) * v56 (ix2 0 j) := by
  pointwise [k0_pay6]

theorem final (v49 v55 : FVec Ideal S512x1024 .f32) (v70 : FVec Ideal S512x1024 .bf16) (v71 : Vec Ideal S1024x1024 .bf16) (v83 : Vec Ideal S1x1024 .f32) (r : Fin 512) (j : Fin 1024)
    (e : Fin 1024 → EReal) (he : ∀ k, e k = v49 (ix2 r k) + Ideal.div 1 (1 + Ideal.exp (0 - ∑ i : Fin 1024, v70 (ix2 r i) * v71 (ix2 i k))) * v55 (ix2 r k)) :
    k0_pay1 v49 v55 v70 v71 v83 (ix3 0 r j) = e j * Ideal.rsqrt (Ideal.div (∑ k : Fin 1024, e k * e k)
          (Ideal.ofBits FTy.f32 1149239296#32) + Ideal.ofBits FTy.f32 897988541#32) * v83 (ix2 0 j) := by
  pointwise [k0_pay1]
  simp only [he]

/-! ## One block -/

variable (m : (ℓ : Loc nD τ sig) → Buf (Elt Ideal) ℓ) (c : Dev nD)

/-- The logistic function of one element. -/
def gate (g : MergeRef.A1024) (b : Fin 8) (q : Fin 4096) (j : Fin 1024) : EReal := Ideal.div 1 (1 + Ideal.exp (-g (ix3 b q j)))

/-- The residual stream after the merge at the kernel's arguments. -/
def hAt : MergeRef.A1024 := MergeRef.h (m ((c : Thread nD τ).loc main_arg5)) (m ((c : Thread nD τ).loc main_arg3)) (m ((c : Thread nD τ).loc main_arg4)) (MergeRef.ya (m ((c : Thread nD τ).loc main_arg0)) (m ((c : Thread nD τ).loc main_arg1)) (m ((c : Thread nD τ).loc main_arg7))) (MergeRef.yb (m ((c : Thread nD τ).loc main_arg2)) (m ((c : Thread nD τ).loc main_arg8))) (m ((c : Thread nD τ).loc main_arg9))

/-- The residual stream after the embedding at the kernel's arguments. -/
def eAt : MergeRef.A1024 := MergeRef.emb (hAt m c) (shapeCast _ (m ((c : Thread nD τ).loc main_arg10)) Cert.Reference2Ideal.Gen.shapeCasts_S1x1024_S1024) (m ((c : Thread nD τ).loc main_arg11)) (m ((c : Thread nD τ).loc main_arg6)) (m ((c : Thread nD τ).loc main_arg12))

/-- The reference's result at the kernel's arguments. -/
def spec : MergeRef.A1024 := MergeRef.rms (eAt m c) (m ((c : Thread nD τ).loc main_arg13))

theorem gain (g : FVec Ideal S1x1024 .f32) (j : Fin 1024) :
    (shapeCast _ g Cert.Reference2Ideal.Gen.shapeCasts_S1x1024_S1024 : FVec Ideal Cert.Reference2Ideal.S1024 .f32) (ix1 j) = g (ix2 0 j) := by
  pointwise []

section Block

variable (t : Fin cfg0.N) (r : Fin 512) (b : Fin 8) (q : Fin 4096) (hb : b.val = t.val / 8) (hq : q.val = 512 * (t.val % 8) + r.val)
include hb hq

theorem yb_at (j : Fin 1024) : k0_pay2 (iblk m c 2 t) (iblk m c 8 t) (ix2 r j) = MergeRef.yb (m ((c : Thread nD τ).loc main_arg2)) (m ((c : Thread nD τ).loc main_arg8)) (ix3 b q j) := by
  rw [branch_b, MergeRef.yb_apply]
  simp only [MergeIn.cz m c t r b q hb hq, MergeIn.wb]

theorem ya_at (j : Fin 1024) : k0_pay3 (iblk m c 1 t) (iblk m c 0 t) (iblk m c 7 t) (X0_3 m c t) (ix2 r j)
    = gate (m ((c : Thread nD τ).loc main_arg3)) b q j * MergeRef.ya (m ((c : Thread nD τ).loc main_arg0)) (m ((c : Thread nD τ).loc main_arg1)) (m ((c : Thread nD τ).loc main_arg7)) (ix3 b q j) := by
  rw [branch_a, MergeRef.ya_apply]
  simp only [MergeIn.z m c t r b q hb hq, MergeIn.attn m c t r b q hb hq, MergeIn.ga m c t r b q hb hq, MergeIn.wa, zero_sub, gate]

theorem h_at (j : Fin 1024) : k0_pay4 (k0_pay2 (iblk m c 2 t) (iblk m c 8 t))
      (k0_pay3 (iblk m c 1 t) (iblk m c 0 t) (iblk m c 7 t) (X0_3 m c t)) (X0_4 m c t) (iblk m c 5 t) (iblk m c 9 t) (ix2 r j) = hAt m c (ix3 b q j) := by
  unfold hAt
  rw [resid, MergeRef.h_apply]
  simp only [yb_at m c t r b q hb hq, ya_at m c t r b q hb hq, MergeIn.gb m c t r b q hb hq, MergeIn.x m c t r b q hb hq, MergeIn.wo, zero_sub, gate]

theorem e_at (j : Fin 1024) : eAt m c (ix3 b q j) = k0_pay4 (k0_pay2 (iblk m c 2 t) (iblk m c 8 t))
      (k0_pay3 (iblk m c 1 t) (iblk m c 0 t) (iblk m c 7 t) (X0_3 m c t)) (X0_4 m c t) (iblk m c 5 t) (iblk m c 9 t) (ix2 r j)
    + Ideal.div 1 (1 + Ideal.exp (0 - ∑ i : Fin 1024, k0_pay6 (k0_pay2 (iblk m c 2 t) (iblk m c 8 t))
        (k0_pay3 (iblk m c 1 t) (iblk m c 0 t) (iblk m c 7 t) (X0_3 m c t)) (X0_4 m c t) (iblk m c 5 t) (iblk m c 9 t)
        (iblk m c 10 t) (ix2 r i) * iblk m c 11 t (ix2 i j))) * k0_pay5 (iblk m c 6 t) (iblk m c 12 t) (ix2 r j) := by
  unfold eAt
  rw [embed, MergeRef.emb_apply]
  simp only [normed, MergeRef.rms_apply, gain, h_at m c t r b q hb hq, MergeIn.p m c t r b q hb hq, MergeIn.ng, MergeIn.wg, MergeIn.wp, zero_sub]

/-- What a grid point leaves in its output block. -/
theorem block (j : Fin 1024) : (dats m 0 c).flushed 14 t (ix3 0 r j) = spec m c (ix3 b q j) := by
  rw [Value.flushed14_A]
  show out0_A_14 c _ _ _ _ _ _ _ _ _ _ _ _ _ _ _ _ _ _ _ _ _ _ _ _ _ _ _ _ _ _ _ _ _ _ _ _ _ _ _ _ _ _ _ _ _ (ix3 0 r j) = _
  frame_out
  unfold spec
  rw [final _ _ _ _ _ r j (fun k => eAt m c (ix3 b q k)) (fun k => e_at m c t r b q hb hq k), MergeRef.rms_apply, MergeIn.fg]

end Block

/-- The array the kernel leaves. -/
theorem array : (dats m 0 c).arrAt 14 cfg0.N = spec m c := by
  funext i
  obtain ⟨b, q, j, rfl⟩ : ∃ (b : Fin 8) (q : Fin 4096) (j : Fin 1024), i = ix3 b q j := ⟨_, _, _, eq_ix3 i⟩
  have ht : 8 * b.val + q.val / 512 < cfg0.N := by
    show _ < 64
    omega
  obtain ⟨e0, e1, e2⟩ := (MergeIn.idx ⟨8 * b.val + q.val / 512, ht⟩).2.2.2.2.2.2.2
  have h := congrFun (Value.blocks14 m c ⟨8 * b.val + q.val / 512, ht⟩ (flush0_14 _)) (ix3 0 ⟨q.val % 512, by omega⟩ j)
  rw [block m c _ _ b q (by dsimp only; omega) (by dsimp only; omega) j] at h
  refine Eq.trans (congrArg ((dats m 0 c).arrAt 14 cfg0.N) (MergeIn.eq3 ?_ ?_ ?_)) h
  · show b.val = win0_14.index ⟨8 * b.val + q.val / 512, ht⟩ (0 : Fin 3) * 1 + 1 * 0
    dsimp only at e0; omega
  · show q.val = win0_14.index ⟨8 * b.val + q.val / 512, ht⟩ (1 : Fin 3) * 512 + 1 * (q.val % 512)
    dsimp only at e1; omega
  · show j.val = win0_14.index ⟨8 * b.val + q.val / 512, ht⟩ (2 : Fin 3) * 1024 + 1 * j.val
    omega

/-! ## The claim -/

/-- The kernel and the reference end with the same result. -/
theorem algebraic : Cert.algebraic_Kernel2Ideal_Reference2Ideal := by
  intro m ρ m' ρ' _ hm
  refine ⟨fun c => spec m c, ?_, ?_⟩
  · refine (θ_run Cert.Kernel2Ideal.defs _ _).mono (fun r h c => ?_) (Value.run_blocks m ρ)
    obtain ⟨h0, ha⟩ := h c
    exact ⟨h0.trans (array m c), ha⟩
  · refine (θ_run Cert.Reference2Ideal.defs _ _).mono (fun r h c => ?_) (Cert.Reference2Ideal.Value.run m' ρ')
    obtain ⟨h0, ha⟩ := h c
    refine ⟨h0.trans ?_, ha⟩
    obtain ⟨a0, a1, a2, a3, a4, a5, a6, a7, a8, a9, a10, a11, a12, a13⟩ := hm c
    refine (MergeRef.res_eq m' c).trans ?_
    rw [a0, a1, a2, a3, a4, a5, a6, a7, a8, a9, a10, a11, a12, a13]
    rfl

end Cert.Proof.Merge

end
-- ==== Proof.ProjRef.lean ====
/-
  The reference of the projections and the short convolution: its composed terms cut into the stages of the layer
  (the normalized rows, their product with the wide weight, the gated linear unit, the convolution, the layer
  normalization, the gate), each stage read at an index.
-/
module

public import proofs.«01_k».proof.Proof.Gen.Reference3Ideal.Run
public import Idealize.ShloMosaic.Lib.Pointwise

@[expose] public section

noncomputable section

namespace Cert.Proof.ProjRef

open Cert.Reference3Ideal Cert.Reference3Ideal.Gen Idealize.ShloMosaic

/-- An array of the layer at the width of a branch. -/
abbrev A512 := FVec Ideal S8x4096x512 .f32
/-- An array of the layer at the width of the model. -/
abbrev A1024 := FVec Ideal S8x4096x1024 .f32
/-- An array of the layer at the width of all projections. -/
abbrev A6216 := FVec Ideal S8x4096x6216 .f32

/-- A row divided by its root mean square, times the gain. -/
def rms (x : A1024) (g : FVec Ideal S1x1024 .f32) : A1024 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

/-- All projections of the normalized rows. -/
def proj (x : A1024) (g : FVec Ideal S1x1024 .f32) (w : FVec Ideal S1x1024x6216 .f32) : A6216 :=
  Host.dotGeneral dot_S8x4096x1024_S1024x6216_S8x4096x6216_2_0_01_1_n_n none (rms x g) (shapeCast _ w shapeCasts_S1x1024x6216_S1024x6216)

/-- The columns of the queries and keys, and twice the index key. -/
def nat (p : A6216) : FVec Ideal S8x4096x1664 .bf16 :=
  truncf .bf16 (concatenate S8x4096x1664 2 [⟨S8x4096x512, (extractStridedSlice S8x4096x512 ![0, 0, 0] p slices_S8x4096x6216_S8x4096x512_0_0_0 : A512)⟩, ⟨S8x4096x512, (extractStridedSlice S8x4096x512 ![0, 0, 512] p slices_S8x4096x6216_S8x4096x512_0_0_512 : A512)⟩, ⟨S8x4096x512, (extractStridedSlice S8x4096x512 ![0, 0, 2048] p slices_S8x4096x6216_S8x4096x512_0_0_2048 : A512)⟩, ⟨S8x4096x64, (extractStridedSlice S8x4096x64 ![0, 0, 2560] p slices_S8x4096x6216_S8x4096x64_0_0_2560 : FVec Ideal S8x4096x64 .f32)⟩, ⟨S8x4096x64, (extractStridedSlice S8x4096x64 ![0, 0, 2560] p slices_S8x4096x6216_S8x4096x64_0_0_2560 : FVec Ideal S8x4096x64 .f32)⟩] concatenates_S8x4096x512_S8x4096x512_S8x4096x512_S8x4096x64_S8x4096x64_S8x4096x1664_d2 : FVec Ideal S8x4096x1664 .f32) bitsLt_bf16_f32

/-- The columns of the gates and of the attention's `z`. -/
def ew (p : A6216) : FVec Ideal S8x4096x2560 .f32 :=
  concatenate S8x4096x2560 2 [⟨S8x4096x1024, (extractStridedSlice S8x4096x1024 ![0, 0, 4168] p slices_S8x4096x6216_S8x4096x1024_0_0_4168 : A1024)⟩, ⟨S8x4096x1024, (extractStridedSlice S8x4096x1024 ![0, 0, 5192] p slices_S8x4096x6216_S8x4096x1024_0_0_5192 : A1024)⟩, ⟨S8x4096x512, (extractStridedSlice S8x4096x512 ![0, 0, 1536] p slices_S8x4096x6216_S8x4096x512_0_0_1536 : A512)⟩] concatenates_S8x4096x1024_S8x4096x1024_S8x4096x512_S8x4096x2560_d2

/-- The values, in blocks of 128 rows, each block transposed. -/
def vt (p : A6216) : FVec Ideal S8x32x512x128 .bf16 :=
  truncf .bf16 (transpose S8x32x512x128 [0, 1, 3, 2] (shapeCast S8x32x128x512 (extractStridedSlice S8x4096x512 ![0, 0, 1024] p slices_S8x4096x6216_S8x4096x512_0_0_1024 : A512) shapeCasts_S8x4096x512_S8x32x128x512) transposes_S8x32x128x512_S8x32x512x128_0_1_3_2) bitsLt_bf16_f32

/-- The index weights transposed, with eight rows of zeros below. -/
def wt (p : A6216) : FVec Ideal S8x16x4096 .f32 :=
  pad S8x16x4096 ![0, 0, 0] ![0, 8, 0] ![0, 0, 0] (transpose S8x8x4096 [0, 2, 1] (extractStridedSlice S8x4096x8 ![0, 0, 2624] p slices_S8x4096x6216_S8x4096x8_0_0_2624 : FVec Ideal S8x4096x8 .f32) transposes_S8x4096x8_S8x8x4096_0_2_1) (sitofp .f32 (constantI S_ 32 0#32)) pads_S8x8x4096_S8x16x4096_000_080_000 h_S_

/-- A number times its logistic function. -/
def silu (y : A512) : A512 :=
  mulf y (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf y))))

/-- The gated linear unit of the convolution's branch. -/
def glu (p : A6216) : A512 :=
  mulf (extractStridedSlice S8x4096x512 ![0, 0, 0] (extractStridedSlice S8x4096x1024 ![0, 0, 2632] p slices_S8x4096x6216_S8x4096x1024_0_0_2632 : A1024) slices_S8x4096x1024_S8x4096x512_0_0_0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 512] (extractStridedSlice S8x4096x1024 ![0, 0, 2632] p slices_S8x4096x6216_S8x4096x1024_0_0_2632 : A1024) slices_S8x4096x1024_S8x4096x512_0_0_512)))))

/-- Thirty rows of zeros before the first row. -/
def up (u : A512) : FVec Ideal S8x4126x512 .f32 :=
  pad S8x4126x512 ![0, 30, 0] ![0, 0, 0] ![0, 0, 0] u (sitofp .f32 (constantI S_ 32 0#32)) pads_S8x4096x512_S8x4126x512_000_3000_000 h_S_

theorem slices_rows (k : Fin 31) : S8x4126x512.Slices ![0, k.val, 0] S8x4096x512 := by
  revert k; decide

theorem slices_taps (k : Fin 31) : S31x1x512.Slices ![k.val, 0, 0] S1x1x512 := by
  revert k; decide

/-- One tap of the convolution: the shifted rows times the tap's weights. -/
def tap (u : FVec Ideal S8x4126x512 .f32) (w : FVec Ideal S1x31x1x512 .f32) (k : Fin 31) : A512 :=
  mulf (extractStridedSlice S8x4096x512 ![0, k.val, 0] u (slices_rows k)) (broadcastInDim S8x4096x512 ![0, 1, 2] bcast_S1x1x512_S8x4096x512_0_1_2 (broadcastInDim S1x1x512 ![1, 2] bcast_S1x512_S1x1x512_1_2 (shapeCast S1x512 (extractStridedSlice S1x1x512 ![k.val, 0, 0] (shapeCast S31x1x512 w shapeCasts_S1x31x1x512_S31x1x512) (slices_taps k)) shapeCasts_S1x1x512_S1x512)))

/-- The sum of the first taps. -/
def taps (u : FVec Ideal S8x4126x512 .f32) (w : FVec Ideal S1x31x1x512 .f32) : (n : ℕ) → n < 31 → A512
  | 0, h => tap u w ⟨0, h⟩
  | n + 1, h => addf (taps u w n (by omega)) (tap u w ⟨n + 1, h⟩)

/-- The convolution with its bias. -/
def conv (u : FVec Ideal S8x4126x512 .f32) (w : FVec Ideal S1x31x1x512 .f32) (b : FVec Ideal S1x512 .f32) : A512 :=
  addf (taps u w 30 (by omega)) (broadcastInDim S8x4096x512 ![0, 1, 2] bcast_S1x1x512_S8x4096x512_0_1_2 (broadcastInDim S1x1x512 ![2] bcast_S512_S1x1x512_2 (shapeCast _ b shapeCasts_S1x512_S512)))

/-- A row less its mean. -/
def centred (y : A512) : A512 :=
  subf y (broadcastInDim S8x4096x512 ![0, 1, 2] bcast_S8x4096x1_S8x4096x512_0_1_2 (Host.divf (broadcastInDim S8x4096x1 ![0, 1] bcast_S8x4096_S8x4096x1_0_1 (Host.reduceAdd y (constant S_ .f32 0x00000000#32) reducesTo_S8x4096x512_S8x4096_d2 h_S_)) (broadcastInDim S8x4096x1 ![] bcast_S_S8x4096x1 (constant S_ .f32 0x44000000#32))))

/-- A centred row divided by its deviation, times the gain, plus the shift. -/
def scaled (y : A512) (g b : FVec Ideal S1x512 .f32) : A512 :=
  addf (mulf (mulf y (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf y y) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 (shapeCast _ g shapeCasts_S1x512_S512)))) (broadcastInDim S8x4096x512 ![0, 1, 2] bcast_S1x1x512_S8x4096x512_0_1_2 (broadcastInDim S1x1x512 ![2] bcast_S512_S1x1x512_2 (shapeCast _ b shapeCasts_S1x512_S512)))

/-- The convolution branch from the projections. -/
def cz (p : A6216) (w : FVec Ideal S1x31x1x512 .f32) (cb lg lb : FVec Ideal S1x512 .f32) : FVec Ideal S8x4096x512 .bf16 :=
  truncf .bf16 (mulf (silu (scaled (centred (conv (up (glu p)) w cb)) lg lb)) (silu (extractStridedSlice S8x4096x512 ![0, 0, 3656] p slices_S8x4096x6216_S8x4096x512_0_0_3656))) bitsLt_bf16_f32

/-! ## The stages read at an index -/

theorem rms_apply (x : A1024) (g : FVec Ideal S1x1024 .f32) (b : Fin 8) (q : Fin 4096) (j : Fin 1024) :
    rms x g (ix3 b q j) = x (ix3 b q j) * Ideal.rsqrt (Ideal.div (∑ k : Fin 1024, x (ix3 b q k) * x (ix3 b q k))
      (Ideal.ofBits FTy.f32 1149239296#32) + Ideal.ofBits FTy.f32 897988541#32) * g (ix2 0 j) := by
  pointwise [rms]

theorem proj_apply (x : A1024) (g : FVec Ideal S1x1024 .f32) (w : FVec Ideal S1x1024x6216 .f32) (b : Fin 8) (q : Fin 4096) (n : Fin 6216) :
    proj x g w (ix3 b q n) = ∑ k : Fin 1024, rms x g (ix3 b q k) * w (ix3 0 k n) := by
  pointwise [proj]

/-- The projections' column of a column of the first output. -/
def ncol (n : Fin 1664) : Fin 6216 := ⟨if n.val < 1024 then n.val else if n.val < 1600 then n.val + 1024 else n.val + 960, by split_ifs <;> omega⟩

/-- The projections' column of a column of the second output. -/
def ecol (n : Fin 2560) : Fin 6216 := ⟨if n.val < 2048 then n.val + 4168 else n.val - 512, by split_ifs <;> omega⟩

theorem nat_apply (p : A6216) (b : Fin 8) (q : Fin 4096) (n : Fin 1664) : nat p (ix3 b q n) = p (ix3 b q (ncol n)) := by
  pointwise [nat]
  unfold ncol
  split_ifs <;> first | omega | exact congrArg (fun i => p (ix3 b q i)) (Fin.ext (by dsimp only; split_ifs <;> omega))

theorem ew_apply (p : A6216) (b : Fin 8) (q : Fin 4096) (n : Fin 2560) : ew p (ix3 b q n) = p (ix3 b q (ecol n)) := by
  pointwise [ew]
  unfold ecol
  split_ifs <;> first | omega | exact congrArg (fun i => p (ix3 b q i)) (Fin.ext (by dsimp only; split_ifs <;> omega))

theorem vt_apply (p : A6216) (b : Fin 8) (a : Fin 32) (n : Fin 512) (l : Fin 128) :
    vt p (ix4 b a n l) = p (ix3 b ⟨a.val * 128 + l.val, by omega⟩ ⟨1024 + n.val, by omega⟩) := by
  pointwise [vt]

/-- The integer zero as an extended real. -/
theorem zero_int : (FloatOps.sitofp FTy.f32 0#32 : Ideal FTy.f32) = (0 : EReal) := by
  simp [FloatOps.sitofp]

theorem wt_low (p : A6216) (b : Fin 8) (i : Fin 16) (hi : i.val < 8) (q : Fin 4096) :
    wt p (ix3 b i q) = p (ix3 b q ⟨2624 + i.val, by omega⟩) := by
  pointwise [wt]
  rw [dif_pos hi]

theorem wt_high (p : A6216) (b : Fin 8) (i : Fin 16) (hi : ¬ i.val < 8) (q : Fin 4096) : wt p (ix3 b i q) = 0 := by
  pointwise [wt]
  rw [dif_neg hi, zero_int]

theorem glu_apply (p : A6216) (b : Fin 8) (q : Fin 4096) (j : Fin 512) :
    glu p (ix3 b q j) = p (ix3 b q ⟨2632 + j.val, by omega⟩) * Ideal.div 1 (1 + Ideal.exp (-p (ix3 b q ⟨2632 + (512 + j.val), by omega⟩))) := by
  pointwise [glu]

theorem up_low (u : A512) (b : Fin 8) (n : Fin 4126) (hn : n.val < 30) (j : Fin 512) : up u (ix3 b n j) = 0 := by
  pointwise [up]
  rw [dif_neg (by omega), zero_int]

theorem up_high (u : A512) (b : Fin 8) (n : Fin 4126) (hn : ¬ n.val < 30) (j : Fin 512) : up u (ix3 b n j) = u (ix3 b ⟨n.val - 30, by omega⟩ j) := by
  pointwise [up]
  rw [dif_pos (by omega)]

theorem tap_apply (u : FVec Ideal S8x4126x512 .f32) (w : FVec Ideal S1x31x1x512 .f32) (k : Fin 31) (b : Fin 8) (q : Fin 4096) (j : Fin 512) :
    tap u w k (ix3 b q j) = u (ix3 b ⟨k.val + q.val, by omega⟩ j) * w (ix4 0 k 0 j) := by
  pointwise [tap]

/-- The taps' sum at an index: the shifted rows times the weights, summed. -/
theorem taps_apply (u : FVec Ideal S8x4126x512 .f32) (w : FVec Ideal S1x31x1x512 .f32) (b : Fin 8) (q : Fin 4096) (j : Fin 512) :
    ∀ (n : ℕ) (h : n < 31), taps u w n h (ix3 b q j)
      = ∑ k : Fin (n + 1), u (ix3 b ⟨k.val + q.val, by omega⟩ j) * w (ix4 0 ⟨k.val, by omega⟩ 0 j)
  | 0, h => by
    rw [Fin.sum_univ_one]
    exact tap_apply u w 0 b q j
  | n + 1, h => by
    rw [Fin.sum_univ_castSucc]
    refine Eq.trans ?_ (congrArg₂ (· + ·) (taps_apply u w b q j n (by omega)) (tap_apply u w ⟨n + 1, h⟩ b q j))
    rfl

theorem centred_apply (y : A512) (b : Fin 8) (q : Fin 4096) (j : Fin 512) :
    centred y (ix3 b q j) = y (ix3 b q j) - Ideal.div (∑ k : Fin 512, y (ix3 b q k)) (Ideal.ofBits FTy.f32 1140850688#32) := by
  pointwise [centred]

theorem scaled_apply (y : A512) (g s : FVec Ideal S1x512 .f32) (b : Fin 8) (q : Fin 4096) (j : Fin 512) :
    scaled y g s (ix3 b q j) = y (ix3 b q j) * Ideal.rsqrt (Ideal.div (∑ k : Fin 512, y (ix3 b q k) * y (ix3 b q k))
      (Ideal.ofBits FTy.f32 1140850688#32) + Ideal.ofBits FTy.f32 897988541#32) * g (ix2 0 j) + s (ix2 0 j) := by
  pointwise [scaled]

theorem conv_apply (u : FVec Ideal S8x4126x512 .f32) (w : FVec Ideal S1x31x1x512 .f32) (s : FVec Ideal S1x512 .f32) (b : Fin 8) (q : Fin 4096) (j : Fin 512) :
    conv u w s (ix3 b q j) = taps u w 30 (by omega) (ix3 b q j) + s (ix2 0 j) := by
  pointwise [conv]

theorem cz_apply (p : A6216) (w : FVec Ideal S1x31x1x512 .f32) (cb lg lb : FVec Ideal S1x512 .f32) (b : Fin 8) (q : Fin 4096) (j : Fin 512)
    (y z : EReal) (hy : scaled (centred (conv (up (glu p)) w cb)) lg lb (ix3 b q j) = y) (hz : p (ix3 b q ⟨3656 + j.val, by omega⟩) = z) :
    cz p w cb lg lb (ix3 b q j) = y * Ideal.div 1 (1 + Ideal.exp (-y)) * (z * Ideal.div 1 (1 + Ideal.exp (-z))) := by
  subst hy hz
  pointwise [cz, silu]

/-! ## The reference's results -/

theorem res_proj (V : Valuation τ sig (Elt Ideal)) : Value.res_main_v15 V = proj (V (Proc.devRef .tc main_arg0)) (V (Proc.devRef .tc main_arg1)) (V (Proc.devRef .tc main_arg2)) := rfl

theorem res_conv (V : Valuation τ sig (Elt Ideal)) : Value.res_main_v257 V = conv (up (glu (Value.res_main_v15 V))) (V (Proc.devRef .tc main_arg3)) (V (Proc.devRef .tc main_arg4)) := by
  unfold Value.res_main_v257 Value.res_main_v191 Value.res_main_v114
  rfl

end Cert.Proof.ProjRef

end
-- ==== Proof.ProjIn.lean ====
/-
  What the projections' kernel reads: each input window's block at a grid point, read at an index, as an element of
  an argument of the call. The grid point `t` works on rows `512 * (t % 8) …` of batch `t / 8`; the weights are
  column ranges of the one wide weight, joined, transposed or padded by the host.
-/
module

public import proofs.«01_k».proof.Proof.Gen.Kernel3Ideal.Value
public import proofs.«01_k».proof.Proof.MergeIn
public import proofs.«01_k».proof.Proof.ProjRef
public import Idealize.ShloMosaic.Lib.Pointwise

@[expose] public section

noncomputable section

namespace Cert.Proof.ProjIn

open Cert.Kernel3Ideal Cert.Kernel3Ideal.Gen Idealize.ShloMosaic Idealize.ShloMosaic.TcCoe
open Cert.Proof.MergeIn (eq2 eq3)
open Cert.Proof.ProjRef (ncol ecol)

/-! ## The host lines -/

/-- The wide weight as a matrix. -/
def wide (w : FVec Ideal S1x1024x6216 .f32) : FVec Ideal S1024x6216 .f32 := shapeCast S1024x6216 w shapeCasts_S1x1024x6216_S1024x6216

/-- The weight of the first output. -/
def wnat (w : FVec Ideal S1024x6216 .f32) : FVec Ideal S1024x1664 .bf16 :=
  truncf .bf16 (concatenate S1024x1664 1 [⟨S1024x512, (extractStridedSlice S1024x512 ![0, 0] w slices_S1024x6216_S1024x512_0_0 : FVec Ideal S1024x512 .f32)⟩, ⟨S1024x512, (extractStridedSlice S1024x512 ![0, 512] w slices_S1024x6216_S1024x512_0_512 : FVec Ideal S1024x512 .f32)⟩, ⟨S1024x512, (extractStridedSlice S1024x512 ![0, 2048] w slices_S1024x6216_S1024x512_0_2048 : FVec Ideal S1024x512 .f32)⟩, ⟨S1024x64, (extractStridedSlice S1024x64 ![0, 2560] w slices_S1024x6216_S1024x64_0_2560 : FVec Ideal S1024x64 .f32)⟩, ⟨S1024x64, (extractStridedSlice S1024x64 ![0, 2560] w slices_S1024x6216_S1024x64_0_2560 : FVec Ideal S1024x64 .f32)⟩] concatenates_S1024x512_S1024x512_S1024x512_S1024x64_S1024x64_S1024x1664_d1 : FVec Ideal S1024x1664 .f32) bitsLt_bf16_f32

/-- The weight of the second output. -/
def wew (w : FVec Ideal S1024x6216 .f32) : FVec Ideal S1024x2560 .bf16 :=
  truncf .bf16 (concatenate S1024x2560 1 [⟨S1024x1024, (extractStridedSlice S1024x1024 ![0, 4168] w slices_S1024x6216_S1024x1024_0_4168 : FVec Ideal S1024x1024 .f32)⟩, ⟨S1024x1024, (extractStridedSlice S1024x1024 ![0, 5192] w slices_S1024x6216_S1024x1024_0_5192 : FVec Ideal S1024x1024 .f32)⟩, ⟨S1024x512, (extractStridedSlice S1024x512 ![0, 1536] w slices_S1024x6216_S1024x512_0_1536 : FVec Ideal S1024x512 .f32)⟩] concatenates_S1024x1024_S1024x1024_S1024x512_S1024x2560_d1 : FVec Ideal S1024x2560 .f32) bitsLt_bf16_f32

/-- The values' weight, transposed. -/
def wvt (w : FVec Ideal S1024x6216 .f32) : FVec Ideal S512x1024 .bf16 :=
  truncf .bf16 (transpose S512x1024 [1, 0] (extractStridedSlice S1024x512 ![0, 1024] w slices_S1024x6216_S1024x512_0_1024 : FVec Ideal S1024x512 .f32) transposes_S1024x512_S512x1024_1_0 : FVec Ideal S512x1024 .f32) bitsLt_bf16_f32

/-- The index weights' weight, transposed, with eight rows of zeros below. -/
def wwt (w : FVec Ideal S1024x6216 .f32) : FVec Ideal S16x1024 .bf16 :=
  truncf .bf16 (pad S16x1024 ![0, 0] ![8, 0] ![0, 0] (transpose S8x1024 [1, 0] (extractStridedSlice S1024x8 ![0, 2624] w slices_S1024x6216_S1024x8_0_2624 : FVec Ideal S1024x8 .f32) transposes_S1024x8_S8x1024_1_0 : FVec Ideal S8x1024 .f32) (sitofp .f32 (constantI S_ 32 0#32) : FVec Ideal S_ .f32) pads_S8x1024_S16x1024_080_000 h_S_ : FVec Ideal S16x1024 .f32) bitsLt_bf16_f32

/-- The gated linear unit's weight. -/
def wglu (w : FVec Ideal S1024x6216 .f32) : FVec Ideal S1024x1024 .bf16 :=
  truncf .bf16 (extractStridedSlice S1024x1024 ![0, 2632] w slices_S1024x6216_S1024x1024_0_2632 : FVec Ideal S1024x1024 .f32) bitsLt_bf16_f32

/-- The convolution's gate's weight. -/
def wzb (w : FVec Ideal S1024x6216 .f32) : FVec Ideal S1024x512 .bf16 :=
  truncf .bf16 (extractStridedSlice S1024x512 ![0, 3656] w slices_S1024x6216_S1024x512_0_3656 : FVec Ideal S1024x512 .f32) bitsLt_bf16_f32

/-- The convolution's taps, each eight times. -/
def taps (w : FVec Ideal S1x31x1x512 .f32) : FVec Ideal S248x512 .f32 :=
  shapeCast S248x512 (broadcastInDim S31x8x512 ![0, 2] bcast_S31x512_S31x8x512_0_2 (shapeCast S31x512 (shapeCast S31x1x512 w shapeCasts_S1x31x1x512_S31x1x512) shapeCasts_S31x1x512_S31x512)) shapeCasts_S31x8x512_S248x512

theorem wnat_apply (w : FVec Ideal S1x1024x6216 .f32) (k : Fin 1024) (n : Fin 1664) : wnat (wide w) (ix2 k n) = w (ix3 0 k (ncol n)) := by
  pointwise [wnat, wide]
  unfold ncol
  split_ifs <;> first | omega | exact congrArg (fun i => w (ix3 0 k i)) (Fin.ext (by dsimp only; split_ifs <;> omega))

theorem wew_apply (w : FVec Ideal S1x1024x6216 .f32) (k : Fin 1024) (n : Fin 2560) : wew (wide w) (ix2 k n) = w (ix3 0 k (ecol n)) := by
  pointwise [wew, wide]
  unfold ecol
  split_ifs <;> first | omega | exact congrArg (fun i => w (ix3 0 k i)) (Fin.ext (by dsimp only; split_ifs <;> omega))

theorem wvt_apply (w : FVec Ideal S1x1024x6216 .f32) (n : Fin 512) (k : Fin 1024) : wvt (wide w) (ix2 n k) = w (ix3 0 k ⟨1024 + n.val, by omega⟩) := by
  pointwise [wvt, wide]

theorem wwt_low (w : FVec Ideal S1x1024x6216 .f32) (i : Fin 16) (hi : i.val < 8) (k : Fin 1024) : wwt (wide w) (ix2 i k) = w (ix3 0 k ⟨2624 + i.val, by omega⟩) := by
  pointwise [wwt, wide]
  rw [dif_pos hi]

theorem wwt_high (w : FVec Ideal S1x1024x6216 .f32) (i : Fin 16) (hi : ¬ i.val < 8) (k : Fin 1024) : wwt (wide w) (ix2 i k) = 0 := by
  pointwise [wwt, wide]
  rw [dif_neg hi, ProjRef.zero_int]

theorem wglu_apply (w : FVec Ideal S1x1024x6216 .f32) (k n : Fin 1024) : wglu (wide w) (ix2 k n) = w (ix3 0 k ⟨2632 + n.val, by omega⟩) := by
  pointwise [wglu, wide]

theorem wzb_apply (w : FVec Ideal S1x1024x6216 .f32) (k : Fin 1024) (n : Fin 512) : wzb (wide w) (ix2 k n) = w (ix3 0 k ⟨3656 + n.val, by omega⟩) := by
  pointwise [wzb, wide]

theorem taps_apply (w : FVec Ideal S1x31x1x512 .f32) (k : Fin 31) (s : Fin 8) (j : Fin 512) : taps w (ix2 ⟨8 * k.val + s.val, by omega⟩ j) = w (ix4 0 k 0 j) := by
  pointwise [taps]

theorem gain_apply (w : FVec Ideal S1x1024 .f32) (j : Fin 1024) :
    shapeCast S1x1024 (shapeCast S1024 w shapeCasts_S1x1024_S1024) shapeCasts_S1024_S1x1024 (ix2 0 j) = w (ix2 0 j) := by
  pointwise

theorem row_apply (w : FVec Ideal S1x512 .f32) (j : Fin 512) :
    shapeCast S1x512 (shapeCast S512 w shapeCasts_S1x512_S512) shapeCasts_S512_S1x512 (ix2 0 j) = w (ix2 0 j) := by
  pointwise

variable (m : (ℓ : Loc nD τ sig) → Buf (Elt Ideal) ℓ) (c : Dev nD)

/-! ## The arrays the host lines make -/

theorem V_wnat : V m c main_v13 = (wnat (wide (m ((c : Thread nD τ).loc main_arg2))) : FVec Ideal S1024x1664 .bf16) := by
  show StableHlo.after (List.flatten [hostOps0, hostOps0_1, hostOps0_2]) (fun b => m (c, b)) main_v13 = _
  simp only [hostOps0, hostOps0_1, hostOps0_2, List.flatten_cons, List.flatten_nil, List.append_nil, List.cons_append, List.nil_append]
  after_results_simp <;> rfl

theorem V_wew : V m c main_v15 = (wew (wide (m ((c : Thread nD τ).loc main_arg2))) : FVec Ideal S1024x2560 .bf16) := by
  show StableHlo.after (List.flatten [hostOps0, hostOps0_1, hostOps0_2]) (fun b => m (c, b)) main_v15 = _
  simp only [hostOps0, hostOps0_1, hostOps0_2, List.flatten_cons, List.flatten_nil, List.append_nil, List.cons_append, List.nil_append]
  after_results_simp <;> rfl

theorem V_wvt : V m c main_v17 = (wvt (wide (m ((c : Thread nD τ).loc main_arg2))) : FVec Ideal S512x1024 .bf16) := by
  show StableHlo.after (List.flatten [hostOps0, hostOps0_1, hostOps0_2]) (fun b => m (c, b)) main_v17 = _
  simp only [hostOps0, hostOps0_1, hostOps0_2, List.flatten_cons, List.flatten_nil, List.append_nil, List.cons_append, List.nil_append]
  after_results_simp <;> rfl

theorem V_wwt : V m c main_v20 = (wwt (wide (m ((c : Thread nD τ).loc main_arg2))) : FVec Ideal S16x1024 .bf16) := by
  show StableHlo.after (List.flatten [hostOps0, hostOps0_1, hostOps0_2]) (fun b => m (c, b)) main_v20 = _
  simp only [hostOps0, hostOps0_1, hostOps0_2, List.flatten_cons, List.flatten_nil, List.append_nil, List.cons_append, List.nil_append]
  after_results_simp <;> rfl

theorem V_wglu : V m c main_v23 = (wglu (wide (m ((c : Thread nD τ).loc main_arg2))) : FVec Ideal S1024x1024 .bf16) := by
  show StableHlo.after (List.flatten [hostOps0, hostOps0_1, hostOps0_2]) (fun b => m (c, b)) main_v23 = _
  simp only [hostOps0, hostOps0_1, hostOps0_2, List.flatten_cons, List.flatten_nil, List.append_nil, List.cons_append, List.nil_append]
  after_results_simp <;> rfl

theorem V_wzb : V m c main_v24 = (wzb (wide (m ((c : Thread nD τ).loc main_arg2))) : FVec Ideal S1024x512 .bf16) := by
  show StableHlo.after (List.flatten [hostOps0, hostOps0_1, hostOps0_2]) (fun b => m (c, b)) main_v24 = _
  simp only [hostOps0, hostOps0_1, hostOps0_2, List.flatten_cons, List.flatten_nil, List.append_nil, List.cons_append, List.nil_append]
  after_results_simp <;> rfl

theorem V_taps : V m c main_v28 = (taps (m ((c : Thread nD τ).loc main_arg3)) : FVec Ideal S248x512 .f32) := by
  show StableHlo.after (List.flatten [hostOps0, hostOps0_1, hostOps0_2]) (fun b => m (c, b)) main_v28 = _
  simp only [hostOps0, hostOps0_1, hostOps0_2, List.flatten_cons, List.flatten_nil, List.append_nil, List.cons_append, List.nil_append]
  after_results_simp <;> rfl

theorem V_g : V m c main_v22 = (shapeCast S1x1024 (shapeCast S1024 (m ((c : Thread nD τ).loc main_arg1) : FVec Ideal S1x1024 .f32) shapeCasts_S1x1024_S1024) shapeCasts_S1024_S1x1024 : FVec Ideal S1x1024 .f32) := by
  show StableHlo.after (List.flatten [hostOps0, hostOps0_1, hostOps0_2]) (fun b => m (c, b)) main_v22 = _
  simp only [hostOps0, hostOps0_1, hostOps0_2, List.flatten_cons, List.flatten_nil, List.append_nil, List.cons_append, List.nil_append]
  after_results_simp <;> rfl

theorem V_cb : V m c main_v30 = (shapeCast S1x512 (shapeCast S512 (m ((c : Thread nD τ).loc main_arg4) : FVec Ideal S1x512 .f32) shapeCasts_S1x512_S512) shapeCasts_S512_S1x512 : FVec Ideal S1x512 .f32) := by
  show StableHlo.after (List.flatten [hostOps0, hostOps0_1, hostOps0_2]) (fun b => m (c, b)) main_v30 = _
  simp only [hostOps0, hostOps0_1, hostOps0_2, List.flatten_cons, List.flatten_nil, List.append_nil, List.cons_append, List.nil_append]
  after_results_simp <;> rfl

theorem V_lg : V m c main_v32 = (shapeCast S1x512 (shapeCast S512 (m ((c : Thread nD τ).loc main_arg5) : FVec Ideal S1x512 .f32) shapeCasts_S1x512_S512) shapeCasts_S512_S1x512 : FVec Ideal S1x512 .f32) := by
  show StableHlo.after (List.flatten [hostOps0, hostOps0_1, hostOps0_2]) (fun b => m (c, b)) main_v32 = _
  simp only [hostOps0, hostOps0_1, hostOps0_2, List.flatten_cons, List.flatten_nil, List.append_nil, List.cons_append, List.nil_append]
  after_results_simp <;> rfl

theorem V_lb : V m c main_v34 = (shapeCast S1x512 (shapeCast S512 (m ((c : Thread nD τ).loc main_arg6) : FVec Ideal S1x512 .f32) shapeCasts_S1x512_S512) shapeCasts_S512_S1x512 : FVec Ideal S1x512 .f32) := by
  show StableHlo.after (List.flatten [hostOps0, hostOps0_1, hostOps0_2]) (fun b => m (c, b)) main_v34 = _
  simp only [hostOps0, hostOps0_1, hostOps0_2, List.flatten_cons, List.flatten_nil, List.append_nil, List.cons_append, List.nil_append]
  after_results_simp <;> rfl

/-! ## The blocks -/

/-- Where the windows that move with the grid stand at point `t`: the batch and the tile of rows. -/
theorem idx : ∀ t : Fin grid0.N,
    (win0_0.index t (0 : Fin 3) = t.val / 8 ∧ win0_0.index t (1 : Fin 3) = t.val % 8 ∧ win0_0.index t (2 : Fin 3) = 0)
    ∧ (win0_12.index t (0 : Fin 3) = t.val / 8 ∧ win0_12.index t (1 : Fin 3) = t.val % 8 ∧ win0_12.index t (2 : Fin 3) = 0)
    ∧ (win0_13.index t (0 : Fin 3) = t.val / 8 ∧ win0_13.index t (1 : Fin 3) = t.val % 8 ∧ win0_13.index t (2 : Fin 3) = 0)
    ∧ (win0_14.index t (0 : Fin 4) = t.val / 8 ∧ win0_14.index t (1 : Fin 4) = t.val % 8 ∧ win0_14.index t (2 : Fin 4) = 0 ∧ win0_14.index t (3 : Fin 4) = 0)
    ∧ (win0_15.index t (0 : Fin 3) = t.val / 8 ∧ win0_15.index t (1 : Fin 3) = 0 ∧ win0_15.index t (2 : Fin 3) = t.val % 8)
    ∧ (win0_16.index t (0 : Fin 3) = t.val / 8 ∧ win0_16.index t (1 : Fin 3) = t.val % 8 ∧ win0_16.index t (2 : Fin 3) = 0) := by
  decide +kernel

/-- The windows of the weights stand at the whole arrays. -/
theorem idxw : ∀ t : Fin grid0.N, ∀ a : Fin 2,
    win0_1.index t a = 0 ∧ win0_2.index t a = 0 ∧ win0_3.index t a = 0 ∧ win0_4.index t a = 0 ∧ win0_5.index t a = 0 ∧ win0_6.index t a = 0
    ∧ win0_7.index t a = 0 ∧ win0_8.index t a = 0 ∧ win0_9.index t a = 0 ∧ win0_10.index t a = 0 ∧ win0_11.index t a = 0 := by
  decide +kernel

theorem x (t : Fin cfg0.N) (r : Fin 512) (b : Fin 8) (q : Fin 4096) (hb : b.val = t.val / 8) (hq : q.val = 512 * (t.val % 8) + r.val) (j : Fin 1024) :
    iblk m c 0 t (ix3 0 r j) = m ((c : Thread nD τ).loc main_arg0) (ix3 b q j) := by
  obtain ⟨e0, e1, e2⟩ := (idx t).1
  refine Eq.trans (congrArg (V m c main_arg0) (eq3 ?_ ?_ ?_)) (congrFun (V_main_arg0 m c) _)
  · show win0_0.index t (0 : Fin 3) * 1 + 1 * 0 = b.val; omega
  · show win0_0.index t (1 : Fin 3) * 512 + 1 * r.val = q.val; omega
  · show win0_0.index t (2 : Fin 3) * 1024 + 1 * j.val = j.val; omega

/-- An element of an array read through a window that stands at the whole array. -/
theorem whole {n : Fin 2 → ℕ} {α : Type} (A : (⟨2, n⟩ : Shape).Idx → α) (ix i : (⟨2, n⟩ : Shape).Idx) (o : Fin 2 → ℕ) (ho : ∀ a, o a = 0)
    (h : ∀ a, (ix a).val = o a * n a + 1 * (i a).val) : A ix = A i :=
  congrArg A (funext fun a => Fin.ext (by rw [h a, ho a]; omega))

theorem g (t : Fin cfg0.N) (j : Fin 1024) : iblk m c 1 t (ix2 0 j) = m ((c : Thread nD τ).loc main_arg1) (ix2 0 j) :=
  (whole (V m c main_v22) _ (ix2 0 j) (win0_1.index t) (fun a => (idxw t a).1) (fun _ => rfl)).trans ((congrFun (V_g m c) _).trans (gain_apply _ j))

theorem nat (t : Fin cfg0.N) (k : Fin 1024) (n : Fin 1664) : iblk m c 2 t (ix2 k n) = m ((c : Thread nD τ).loc main_arg2) (ix3 0 k (ncol n)) :=
  (whole (V m c main_v13) _ (ix2 k n) (win0_2.index t) (fun a => (idxw t a).2.1) (fun _ => rfl)).trans ((congrFun (V_wnat m c) _).trans (wnat_apply _ k n))

theorem glu (t : Fin cfg0.N) (k n : Fin 1024) : iblk m c 3 t (ix2 k n) = m ((c : Thread nD τ).loc main_arg2) (ix3 0 k ⟨2632 + n.val, by omega⟩) :=
  (whole (V m c main_v23) _ (ix2 k n) (win0_3.index t) (fun a => (idxw t a).2.2.1) (fun _ => rfl)).trans ((congrFun (V_wglu m c) _).trans (wglu_apply _ k n))

theorem zb (t : Fin cfg0.N) (k : Fin 1024) (n : Fin 512) : iblk m c 4 t (ix2 k n) = m ((c : Thread nD τ).loc main_arg2) (ix3 0 k ⟨3656 + n.val, by omega⟩) :=
  (whole (V m c main_v24) _ (ix2 k n) (win0_4.index t) (fun a => (idxw t a).2.2.2.1) (fun _ => rfl)).trans ((congrFun (V_wzb m c) _).trans (wzb_apply _ k n))

theorem ew (t : Fin cfg0.N) (k : Fin 1024) (n : Fin 2560) : iblk m c 5 t (ix2 k n) = m ((c : Thread nD τ).loc main_arg2) (ix3 0 k (ecol n)) :=
  (whole (V m c main_v15) _ (ix2 k n) (win0_5.index t) (fun a => (idxw t a).2.2.2.2.1) (fun _ => rfl)).trans ((congrFun (V_wew m c) _).trans (wew_apply _ k n))

theorem vt (t : Fin cfg0.N) (n : Fin 512) (k : Fin 1024) : iblk m c 6 t (ix2 n k) = m ((c : Thread nD τ).loc main_arg2) (ix3 0 k ⟨1024 + n.val, by omega⟩) :=
  (whole (V m c main_v17) _ (ix2 n k) (win0_6.index t) (fun a => (idxw t a).2.2.2.2.2.1) (fun _ => rfl)).trans ((congrFun (V_wvt m c) _).trans (wvt_apply _ n k))

theorem wt_low (t : Fin cfg0.N) (i : Fin 16) (hi : i.val < 8) (k : Fin 1024) : iblk m c 7 t (ix2 i k) = m ((c : Thread nD τ).loc main_arg2) (ix3 0 k ⟨2624 + i.val, by omega⟩) :=
  (whole (V m c main_v20) _ (ix2 i k) (win0_7.index t) (fun a => (idxw t a).2.2.2.2.2.2.1) (fun _ => rfl)).trans ((congrFun (V_wwt m c) _).trans (wwt_low _ i hi k))

theorem wt_high (t : Fin cfg0.N) (i : Fin 16) (hi : ¬ i.val < 8) (k : Fin 1024) : iblk m c 7 t (ix2 i k) = (0 : EReal) :=
  (whole (V m c main_v20) _ (ix2 i k) (win0_7.index t) (fun a => (idxw t a).2.2.2.2.2.2.1) (fun _ => rfl)).trans ((congrFun (V_wwt m c) _).trans (wwt_high _ i hi k))

theorem cw (t : Fin cfg0.N) (k : Fin 31) (s : Fin 8) (j : Fin 512) : iblk m c 8 t (ix2 ⟨8 * k.val + s.val, by omega⟩ j) = m ((c : Thread nD τ).loc main_arg3) (ix4 0 k 0 j) :=
  (whole (V m c main_v28) _ (ix2 ⟨8 * k.val + s.val, by omega⟩ j) (win0_8.index t) (fun a => (idxw t a).2.2.2.2.2.2.2.1) (fun _ => rfl)).trans ((congrFun (V_taps m c) _).trans (taps_apply _ k s j))

theorem cb (t : Fin cfg0.N) (j : Fin 512) : iblk m c 9 t (ix2 0 j) = m ((c : Thread nD τ).loc main_arg4) (ix2 0 j) :=
  (whole (V m c main_v30) _ (ix2 0 j) (win0_9.index t) (fun a => (idxw t a).2.2.2.2.2.2.2.2.1) (fun _ => rfl)).trans ((congrFun (V_cb m c) _).trans (row_apply _ j))

theorem lg (t : Fin cfg0.N) (j : Fin 512) : iblk m c 10 t (ix2 0 j) = m ((c : Thread nD τ).loc main_arg5) (ix2 0 j) :=
  (whole (V m c main_v32) _ (ix2 0 j) (win0_10.index t) (fun a => (idxw t a).2.2.2.2.2.2.2.2.2.1) (fun _ => rfl)).trans ((congrFun (V_lg m c) _).trans (row_apply _ j))

theorem lb (t : Fin cfg0.N) (j : Fin 512) : iblk m c 11 t (ix2 0 j) = m ((c : Thread nD τ).loc main_arg6) (ix2 0 j) :=
  (whole (V m c main_v34) _ (ix2 0 j) (win0_11.index t) (fun a => (idxw t a).2.2.2.2.2.2.2.2.2.2) (fun _ => rfl)).trans ((congrFun (V_lb m c) _).trans (row_apply _ j))

end Cert.Proof.ProjIn

end
-- ==== Proof.Proj.lean ====
/-
  The projections' kernel against its reference: what one grid point leaves in the blocks of the four outputs that
  are products of the normalized rows with columns of the wide weight, and the arrays those blocks tile.
-/
module

public import proofs.«01_k».proof.Proof.ProjIn
public import Idealize.ShloMosaic.Lib.Pipeline.ValueKit

@[expose] public section

noncomputable section

namespace Cert.Proof.Proj

open Cert.Kernel3Ideal Cert.Kernel3Ideal.Gen Idealize.ShloMosaic Idealize.ShloMosaic.TcCoe
open Cert.Proof
open Cert.Proof.MergeIn (eq2 eq3)

/-! ## The kernel's values read at an index of the block -/

theorem normed (x : Vec Ideal S1x512x1024 .f32) (g : Vec Ideal S1x1024 .f32) (r : Fin 512) (j : Fin 1024) :
    k0_pay7 x g (ix2 r j) = x (ix3 0 r j) * Ideal.rsqrt (Ideal.div (∑ k : Fin 1024, x (ix3 0 r k) * x (ix3 0 r k))
      (Ideal.ofBits FTy.f32 1149239296#32) + Ideal.ofBits FTy.f32 897988541#32) * g (ix2 0 j) := by
  pointwise [k0_pay7]

theorem nat_pay (h : FVec Ideal S512x1024 .bf16) (w : Vec Ideal S1024x1664 .bf16) (r : Fin 512) (n : Fin 1664) :
    k0_pay147 h w (ix3 0 r n) = ∑ k : Fin 1024, h (ix2 r k) * w (ix2 k n) := by
  pointwise [k0_pay147]

theorem ew_pay (h : FVec Ideal S512x1024 .bf16) (w : Vec Ideal S1024x2560 .bf16) (r : Fin 512) (n : Fin 2560) :
    k0_pay148 h w (ix3 0 r n) = ∑ k : Fin 1024, h (ix2 r k) * w (ix2 k n) := by
  pointwise [k0_pay148]

theorem vt_pay (h : FVec Ideal S512x1024 .bf16) (w : Vec Ideal S512x1024 .bf16) (n r : Fin 512) :
    k0_pay149 h w (ix2 n r) = ∑ k : Fin 1024, w (ix2 n k) * h (ix2 r k) := by
  pointwise [k0_pay149]

theorem wt_pay (h : FVec Ideal S512x1024 .bf16) (w : Vec Ideal S16x1024 .bf16) (i : Fin 16) (r : Fin 512) :
    k0_pay6 h w (ix3 0 i r) = ∑ k : Fin 1024, w (ix2 i k) * h (ix2 r k) := by
  pointwise [k0_pay6]

/-- The four pieces of the values' block: 128 columns each of one product. -/
theorem vt_cut (v : FVec Ideal S512x512 .f32) (n : Fin 512) (l : Fin 128) :
    k0_pay2 v (ix4 0 0 n l) = v (ix2 n ⟨l.val, by omega⟩) ∧ k0_pay3 v (ix4 0 0 n l) = v (ix2 n ⟨128 + l.val, by omega⟩)
    ∧ k0_pay4 v (ix4 0 0 n l) = v (ix2 n ⟨256 + l.val, by omega⟩) ∧ k0_pay5 v (ix4 0 0 n l) = v (ix2 n ⟨384 + l.val, by omega⟩) := by
  refine ⟨?_, ?_, ?_, ?_⟩
  · pointwise [k0_pay2, k0_pay1]
  · pointwise [k0_pay3, k0_pay1]
  · pointwise [k0_pay4, k0_pay1]
  · pointwise [k0_pay5, k0_pay1]

/-- The values' block as one function: block `a`, column `n`, row `l` of the block is the product at `128 a + l`. -/
def vtG (v : FVec Ideal S512x512 .f32) : S1x4x512x128.Idx → Elt Ideal .bf16 := fun i => v (ix2 (i 2) ⟨128 * (i 1).val + (i 3).val, by
  have h1 : (i 1).val < 4 := (i 1).isLt
  have h3 : (i 3).val < 128 := (i 3).isLt
  omega⟩)

variable (m : (ℓ : Loc nD τ sig) → Buf (Elt Ideal) ℓ) (c : Dev nD)

/-- The reference's projections at the kernel's arguments. -/
def P : ProjRef.A6216 := ProjRef.proj (m ((c : Thread nD τ).loc main_arg0)) (m ((c : Thread nD τ).loc main_arg1)) (m ((c : Thread nD τ).loc main_arg2))

section Block

variable (t : Fin cfg0.N) (r : Fin 512) (b : Fin 8) (q : Fin 4096) (hb : b.val = t.val / 8) (hq : q.val = 512 * (t.val % 8) + r.val)
include hb hq

theorem h_at (k : Fin 1024) : k0_pay7 (iblk m c 0 t) (iblk m c 1 t) (ix2 r k)
    = ProjRef.rms (m ((c : Thread nD τ).loc main_arg0)) (m ((c : Thread nD τ).loc main_arg1)) (ix3 b q k) := by
  rw [normed, ProjRef.rms_apply]
  simp only [ProjIn.x m c t r b q hb hq, ProjIn.g]

theorem nat_at (n : Fin 1664) : k0_pay147 (k0_pay7 (iblk m c 0 t) (iblk m c 1 t)) (iblk m c 2 t) (ix3 0 r n) = ProjRef.nat (P m c) (ix3 b q n) := by
  unfold P
  rw [nat_pay, ProjRef.nat_apply, ProjRef.proj_apply]
  simp only [h_at m c t r b q hb hq, ProjIn.nat]

theorem ew_at (n : Fin 2560) : k0_pay148 (k0_pay7 (iblk m c 0 t) (iblk m c 1 t)) (iblk m c 5 t) (ix3 0 r n) = ProjRef.ew (P m c) (ix3 b q n) := by
  unfold P
  rw [ew_pay, ProjRef.ew_apply, ProjRef.proj_apply]
  simp only [h_at m c t r b q hb hq, ProjIn.ew]

theorem vt_at (n : Fin 512) : k0_pay149 (k0_pay7 (iblk m c 0 t) (iblk m c 1 t)) (iblk m c 6 t) (ix2 n r) = P m c (ix3 b q ⟨1024 + n.val, by omega⟩) := by
  unfold P
  rw [vt_pay, ProjRef.proj_apply]
  simp only [h_at m c t r b q hb hq, ProjIn.vt]
  exact Finset.sum_congr rfl fun _ _ => mul_comm _ _

theorem wt_at (i : Fin 16) : k0_pay6 (k0_pay7 (iblk m c 0 t) (iblk m c 1 t)) (iblk m c 7 t) (ix3 0 i r) = ProjRef.wt (P m c) (ix3 b i q) := by
  unfold P
  rw [wt_pay]
  by_cases hi : i.val < 8
  · rw [ProjRef.wt_low _ b i hi, ProjRef.proj_apply]
    simp only [h_at m c t r b q hb hq, ProjIn.wt_low m c t i hi]
    exact Finset.sum_congr rfl fun _ _ => mul_comm _ _
  · rw [ProjRef.wt_high _ b i hi]
    simp only [ProjIn.wt_high m c t i hi]
    exact Finset.sum_eq_zero fun _ _ => zero_mul _

/-- What a grid point leaves in the first output's block. -/
theorem nat_block (n : Fin 1664) : (dats m 0 c).flushed 12 t (ix3 0 r n) = ProjRef.nat (P m c) (ix3 b q n) := by
  rw [← nat_at m c t r b q hb hq n]
  by_cases h : t.val % 8 = 0
  · rw [Value.flushed12_A m c t h (by omega)]
    show out0_A_12 c _ _ _ _ _ _ _ _ _ _ _ _ _ _ _ _ _ _ _ _ _ _ _ _ _ _ _ _ _ _ _ _ _ _ _ _ _ _ _ _ _ _ _ _ _ _ _ _ _ _ _ (ix3 0 r n) = _
    frame_out
  · rw [Value.flushed12_B m c t h (by omega)]
    show out0_B_12 c _ _ _ _ _ _ _ _ _ _ _ _ _ _ _ _ _ _ _ _ _ _ _ _ _ _ _ _ _ _ _ _ _ _ _ _ _ _ _ _ _ _ _ _ _ _ _ _ _ _ _ _ (ix3 0 r n) = _
    frame_out

/-- What a grid point leaves in the second output's block. -/
theorem ew_block (n : Fin 2560) : (dats m 0 c).flushed 13 t (ix3 0 r n) = ProjRef.ew (P m c) (ix3 b q n) := by
  rw [← ew_at m c t r b q hb hq n]
  by_cases h : t.val % 8 = 0
  · rw [Value.flushed13_A m c t h (by omega)]
    show out0_A_13 c _ _ _ _ _ _ _ _ _ _ _ _ _ _ _ _ _ _ _ _ _ _ _ _ _ _ _ _ _ _ _ _ _ _ _ _ _ _ _ _ _ _ _ _ _ _ _ _ _ _ _ (ix3 0 r n) = _
    frame_out
  · rw [Value.flushed13_B m c t h (by omega)]
    show out0_B_13 c _ _ _ _ _ _ _ _ _ _ _ _ _ _ _ _ _ _ _ _ _ _ _ _ _ _ _ _ _ _ _ _ _ _ _ _ _ _ _ _ _ _ _ _ _ _ _ _ _ _ _ _ (ix3 0 r n) = _
    frame_out

/-- What a grid point leaves in the fourth output's block. -/
theorem wt_block (i : Fin 16) : (dats m 0 c).flushed 15 t (ix3 0 i r) = ProjRef.wt (P m c) (ix3 b i q) := by
  rw [← wt_at m c t r b q hb hq i]
  by_cases h : t.val % 8 = 0
  · rw [Value.flushed15_A m c t h (by omega)]
    show out0_A_15 c _ _ _ _ _ _ _ _ _ _ _ _ _ _ _ _ _ _ _ _ _ _ _ _ _ _ _ _ _ _ _ _ _ _ _ _ _ _ _ _ _ _ _ _ _ _ _ _ _ _ _ (ix3 0 i r) = _
    frame_out
  · rw [Value.flushed15_B m c t h (by omega)]
    show out0_B_15 c _ _ _ _ _ _ _ _ _ _ _ _ _ _ _ _ _ _ _ _ _ _ _ _ _ _ _ _ _ _ _ _ _ _ _ _ _ _ _ _ _ _ _ _ _ _ _ _ _ _ _ _ (ix3 0 i r) = _
    frame_out

end Block

/-- One piece of the values' block is the one function there. -/
theorem vt_piece (v : FVec Ideal S512x512 .f32) (a : ℕ) (ha : a < 4) (inb : ∀ d, (![0, a, 0, 0] : Fin 4 → ℕ) d + (![1, 1, 512, 128] : Fin 4 → ℕ) d ≤ S1x4x512x128.size d)
    (p : S1x1x512x128.Idx → Elt Ideal .bf16) (hp : ∀ (n : Fin 512) (l : Fin 128), p (ix4 0 0 n l) = v (ix2 n ⟨128 * a + l.val, by omega⟩))
    (x : S1x1x512x128.Idx) : p x = vtG v ((Rect.unit (s := S1x4x512x128) ![0, a, 0, 0] ![1, 1, 512, 128] inb).emb x) := by
  obtain ⟨e, f, n, l, rfl⟩ : ∃ (e : Fin 1) (f : Fin 1) (n : Fin 512) (l : Fin 128), x = ix4 e f n l := ⟨_, _, _, _, eq_ix4 x⟩
  obtain rfl : e = 0 := Subsingleton.elim _ _
  obtain rfl : f = 0 := Subsingleton.elim _ _
  rw [hp]
  refine congrArg v (eq2 ?_ ?_)
  · show n.val = 0 + 1 * n.val; omega
  · show 128 * a + l.val = 128 * (a + 1 * 0) + (0 + 1 * l.val); omega

/-- The pieces of the values' block, read back, are the one function. -/
theorem vt_pieces (v : FVec Ideal S512x512 .f32) : (View.canon
    [⟨Rect.unit ![0, 3, 0, 0] ![1, 1, 512, 128] inb_S1x4x512x128_S1x1x512x128_0_3_0_0, k0_pay5 v⟩,
     ⟨Rect.unit ![0, 2, 0, 0] ![1, 1, 512, 128] inb_S1x4x512x128_S1x1x512x128_0_2_0_0, k0_pay4 v⟩,
     ⟨Rect.unit ![0, 1, 0, 0] ![1, 1, 512, 128] inb_S1x4x512x128_S1x1x512x128_0_1_0_0, k0_pay3 v⟩,
     ⟨Rect.unit ![0, 0, 0, 0] ![1, 1, 512, 128] inb_S1x4x512x128_S1x1x512x128_0_0_0_0, k0_pay2 v⟩] : S1x4x512x128.Idx → Elt Ideal .bf16) = vtG v := by
  funext y
  refine View.canon_apply_of_pieces (vtG v) _ ?_ y (View.cover_of_tiled _ ![1, 1, 512, 128] (by rfl) y)
  simp only [List.mem_cons, List.not_mem_nil, or_false, forall_eq_or_imp, forall_eq]
  exact ⟨vt_piece v 3 (by omega) _ _ fun n l => (vt_cut v n l).2.2.2, vt_piece v 2 (by omega) _ _ fun n l => (vt_cut v n l).2.2.1,
    vt_piece v 1 (by omega) _ _ fun n l => (vt_cut v n l).2.1, vt_piece v 0 (by omega) _ _ fun n l => (vt_cut v n l).1.trans (congrArg v (eq2 rfl (by show l.val = 128 * 0 + l.val; omega)))⟩

/-- What a grid point leaves in the third output's block. -/
theorem vt_block (t : Fin cfg0.N) : (dats m 0 c).flushed 14 t = vtG (k0_pay149 (k0_pay7 (iblk m c 0 t) (iblk m c 1 t)) (iblk m c 6 t)) := by
  rw [← vt_pieces]
  funext i
  by_cases h : t.val % 8 = 0
  · rw [Value.flushed14_A m c t h (by omega)]
    show out0_A_14 c _ _ _ _ _ _ _ _ _ _ _ _ _ _ _ _ _ _ _ _ _ _ _ _ _ _ _ _ _ _ _ _ _ _ _ _ _ _ _ _ _ _ _ _ _ _ _ _ _ _ _ i = _
    frame_out
  · rw [Value.flushed14_B m c t h (by omega)]
    show out0_B_14 c _ _ _ _ _ _ _ _ _ _ _ _ _ _ _ _ _ _ _ _ _ _ _ _ _ _ _ _ _ _ _ _ _ _ _ _ _ _ _ _ _ _ _ _ _ _ _ _ _ _ _ _ i = _
    frame_out

/-! ## The arrays -/

/-- The array the kernel leaves as its first output. -/
theorem nat_array : (dats m 0 c).arrAt 12 cfg0.N = ProjRef.nat (P m c) := by
  funext i
  obtain ⟨b, q, j, rfl⟩ : ∃ (b : Fin 8) (q : Fin 4096) (j : Fin 1664), i = ix3 b q j := ⟨_, _, _, eq_ix3 i⟩
  have ht : 8 * b.val + q.val / 512 < cfg0.N := by
    show _ < 64
    omega
  obtain ⟨e0, e1, e2⟩ := (ProjIn.idx ⟨8 * b.val + q.val / 512, ht⟩).2.1
  have h := congrFun (Value.blocks12 m c ⟨8 * b.val + q.val / 512, ht⟩ (flush0_12 _)) (ix3 0 ⟨q.val % 512, by omega⟩ j)
  rw [nat_block m c _ _ b q (by dsimp only; omega) (by dsimp only; omega) j] at h
  refine Eq.trans (congrArg ((dats m 0 c).arrAt 12 cfg0.N) (eq3 ?_ ?_ ?_)) h
  · show b.val = win0_12.index ⟨8 * b.val + q.val / 512, ht⟩ (0 : Fin 3) * 1 + 1 * 0
    dsimp only at e0; omega
  · show q.val = win0_12.index ⟨8 * b.val + q.val / 512, ht⟩ (1 : Fin 3) * 512 + 1 * (q.val % 512)
    dsimp only at e1; omega
  · show j.val = win0_12.index ⟨8 * b.val + q.val / 512, ht⟩ (2 : Fin 3) * 1664 + 1 * j.val
    omega

/-- The array the kernel leaves as its second output. -/
theorem ew_array : (dats m 0 c).arrAt 13 cfg0.N = ProjRef.ew (P m c) := by
  funext i
  obtain ⟨b, q, j, rfl⟩ : ∃ (b : Fin 8) (q : Fin 4096) (j : Fin 2560), i = ix3 b q j := ⟨_, _, _, eq_ix3 i⟩
  have ht : 8 * b.val + q.val / 512 < cfg0.N := by
    show _ < 64
    omega
  obtain ⟨e0, e1, e2⟩ := (ProjIn.idx ⟨8 * b.val + q.val / 512, ht⟩).2.2.1
  have h := congrFun (Value.blocks13 m c ⟨8 * b.val + q.val / 512, ht⟩ (flush0_13 _)) (ix3 0 ⟨q.val % 512, by omega⟩ j)
  rw [ew_block m c _ _ b q (by dsimp only; omega) (by dsimp only; omega) j] at h
  refine Eq.trans (congrArg ((dats m 0 c).arrAt 13 cfg0.N) (eq3 ?_ ?_ ?_)) h
  · show b.val = win0_13.index ⟨8 * b.val + q.val / 512, ht⟩ (0 : Fin 3) * 1 + 1 * 0
    dsimp only at e0; omega
  · show q.val = win0_13.index ⟨8 * b.val + q.val / 512, ht⟩ (1 : Fin 3) * 512 + 1 * (q.val % 512)
    dsimp only at e1; omega
  · show j.val = win0_13.index ⟨8 * b.val + q.val / 512, ht⟩ (2 : Fin 3) * 2560 + 1 * j.val
    omega

/-- The array the kernel leaves as its fourth output. -/
theorem wt_array : (dats m 0 c).arrAt 15 cfg0.N = ProjRef.wt (P m c) := by
  funext i
  obtain ⟨b, j, q, rfl⟩ : ∃ (b : Fin 8) (j : Fin 16) (q : Fin 4096), i = ix3 b j q := ⟨_, _, _, eq_ix3 i⟩
  have ht : 8 * b.val + q.val / 512 < cfg0.N := by
    show _ < 64
    omega
  obtain ⟨e0, e1, e2⟩ := (ProjIn.idx ⟨8 * b.val + q.val / 512, ht⟩).2.2.2.2.1
  have h := congrFun (Value.blocks15 m c ⟨8 * b.val + q.val / 512, ht⟩ (flush0_15 _)) (ix3 0 j ⟨q.val % 512, by omega⟩)
  rw [wt_block m c _ _ b q (by dsimp only; omega) (by dsimp only; omega) j] at h
  refine Eq.trans (congrArg ((dats m 0 c).arrAt 15 cfg0.N) (eq3 ?_ ?_ ?_)) h
  · show b.val = win0_15.index ⟨8 * b.val + q.val / 512, ht⟩ (0 : Fin 3) * 1 + 1 * 0
    dsimp only at e0; omega
  · show j.val = win0_15.index ⟨8 * b.val + q.val / 512, ht⟩ (1 : Fin 3) * 16 + 1 * j.val
    omega
  · show q.val = win0_15.index ⟨8 * b.val + q.val / 512, ht⟩ (2 : Fin 3) * 512 + 1 * (q.val % 512)
    dsimp only at e2; omega

/-- Two indices of four coordinates are equal when the coordinates are. -/
theorem eq4 {n : Fin 4 → ℕ} {x y : (⟨4, n⟩ : Shape).Idx} (h0 : (x 0).val = (y 0).val) (h1 : (x 1).val = (y 1).val)
    (h2 : (x 2).val = (y 2).val) (h3 : (x 3).val = (y 3).val) : x = y :=
  funext fun a => Fin.ext (match a with | ⟨0, _⟩ => h0 | ⟨1, _⟩ => h1 | ⟨2, _⟩ => h2 | ⟨3, _⟩ => h3)

/-- The array the kernel leaves as its third output. -/
theorem vt_array : (dats m 0 c).arrAt 14 cfg0.N = ProjRef.vt (P m c) := by
  funext i
  obtain ⟨b, a, n, l, rfl⟩ : ∃ (b : Fin 8) (a : Fin 32) (n : Fin 512) (l : Fin 128), i = ix4 b a n l := ⟨_, _, _, _, eq_ix4 i⟩
  have ht : 8 * b.val + a.val / 4 < cfg0.N := by
    show _ < 64
    omega
  obtain ⟨e0, e1, e2, e3⟩ := (ProjIn.idx ⟨8 * b.val + a.val / 4, ht⟩).2.2.2.1
  have h := congrFun (Value.blocks14 m c ⟨8 * b.val + a.val / 4, ht⟩ (flush0_14 _)) (ix4 0 ⟨a.val % 4, by omega⟩ n l)
  rw [vt_block] at h
  refine Eq.trans (congrArg ((dats m 0 c).arrAt 14 cfg0.N) (eq4 ?_ ?_ ?_ ?_)) (h.trans ?_)
  · show b.val = win0_14.index ⟨8 * b.val + a.val / 4, ht⟩ (0 : Fin 4) * 1 + 1 * 0
    dsimp only at e0; omega
  · show a.val = win0_14.index ⟨8 * b.val + a.val / 4, ht⟩ (1 : Fin 4) * 4 + 1 * (a.val % 4)
    dsimp only at e1; omega
  · show n.val = win0_14.index ⟨8 * b.val + a.val / 4, ht⟩ (2 : Fin 4) * 512 + 1 * n.val
    omega
  · show l.val = win0_14.index ⟨8 * b.val + a.val / 4, ht⟩ (3 : Fin 4) * 128 + 1 * l.val
    omega
  · rw [ProjRef.vt_apply]
    exact vt_at m c ⟨8 * b.val + a.val / 4, ht⟩ ⟨128 * (a.val % 4) + l.val, by omega⟩ b ⟨a.val * 128 + l.val, by omega⟩ (by dsimp only; omega) (by dsimp only; omega) n

end Cert.Proof.Proj

end
-- ==== Proof.Tile.lean ====
/-
  One tile of the convolution, 64 rows by 512 columns: the kernel adds, for each residue of the shift modulo eight,
  the products of 72 rows with a tap repeated nine times, and then cuts out 64 rows at the residue. Here the tile is
  written once for any rows and taps and read at an index, and the output block is eight such tiles.
-/
module

public import proofs.«01_k».proof.Proof.Proj

@[expose] public section

noncomputable section

namespace Cert.Proof.Tile

open Cert.Kernel3Ideal Cert.Kernel3Ideal.Gen Idealize.ShloMosaic Idealize.ShloMosaic.TcCoe
open Cert.Proof
open Cert.Proof.MergeIn (eq2 eq3)

/-- Seventy-two rows times a tap of eight equal rows, repeated. -/
def term (e : FVec Ideal S72x512 .f32) (t : FVec Ideal S8x512 .f32) : FVec Ideal S72x512 .f32 :=
  let v := shapeCast S8x512 t shapeCasts_S8x512_S8x512
  mulf e (concatenate S72x512 0 [⟨S8x512, v⟩, ⟨S8x512, v⟩, ⟨S8x512, v⟩, ⟨S8x512, v⟩, ⟨S8x512, v⟩, ⟨S8x512, v⟩, ⟨S8x512, v⟩, ⟨S8x512, v⟩, ⟨S8x512, v⟩] concatenates_S8x512_S8x512_S8x512_S8x512_S8x512_S8x512_S8x512_S8x512_S8x512_S72x512_d0)

/-- Zeros. -/
def z72 : FVec Ideal S72x512 .f32 := broadcast S72x512 (Scalar.ofBits .f32 0x00000000#32 : Ideal .f32)

/-- The tile's sum over the taps, in the kernel's order: by the residue of the shift, then by its quotient. -/
def sums (e0 e1 e2 e3 e4 : FVec Ideal S72x512 .f32) (t : Fin 31 → FVec Ideal S8x512 .f32) : FVec Ideal S64x512 .f32 :=
  addf (addf (addf (addf (addf (addf (addf (addf (broadcast S64x512 (Scalar.ofBits .f32 0x00000000#32 : Ideal .f32))
    (extractStridedSlice S64x512 ![0, 0] (addf (addf (addf (addf z72 (term e1 (t 6))) (term e2 (t 14))) (term e3 (t 22))) (term e4 (t 30))) slices_S72x512_o0_0_S64x512))
    (extractStridedSlice S64x512 ![1, 0] (addf (addf (addf z72 (term e1 (t 7))) (term e2 (t 15))) (term e3 (t 23))) slices_S72x512_o1_0_S64x512))
    (extractStridedSlice S64x512 ![2, 0] (addf (addf (addf (addf z72 (term e0 (t 0))) (term e1 (t 8))) (term e2 (t 16))) (term e3 (t 24))) slices_S72x512_o2_0_S64x512))
    (extractStridedSlice S64x512 ![3, 0] (addf (addf (addf (addf z72 (term e0 (t 1))) (term e1 (t 9))) (term e2 (t 17))) (term e3 (t 25))) slices_S72x512_o3_0_S64x512))
    (extractStridedSlice S64x512 ![4, 0] (addf (addf (addf (addf z72 (term e0 (t 2))) (term e1 (t 10))) (term e2 (t 18))) (term e3 (t 26))) slices_S72x512_o4_0_S64x512))
    (extractStridedSlice S64x512 ![5, 0] (addf (addf (addf (addf z72 (term e0 (t 3))) (term e1 (t 11))) (term e2 (t 19))) (term e3 (t 27))) slices_S72x512_o5_0_S64x512))
    (extractStridedSlice S64x512 ![6, 0] (addf (addf (addf (addf z72 (term e0 (t 4))) (term e1 (t 12))) (term e2 (t 20))) (term e3 (t 28))) slices_S72x512_o6_0_S64x512))
    (extractStridedSlice S64x512 ![7, 0] (addf (addf (addf (addf z72 (term e0 (t 5))) (term e1 (t 13))) (term e2 (t 21))) (term e3 (t 29))) slices_S72x512_o7_0_S64x512)

/-- A row less its mean. -/
def centred (y : FVec Ideal S64x512 .f32) : FVec Ideal S64x512 .f32 :=
  subf y (broadcastTo S64x512 (divf (shapeCast S64x1 (multiReduction .add [1] S64 y 0x00000000#32 reduces_S64x512_S64 (.inl rfl) rfl) shapeCasts_S64_S64x1) (broadcast S64x1 (Scalar.ofBits .f32 0x44000000#32 : Ideal .f32))) broadcasts_S64x1_S64x512)

/-- A centred row divided by its deviation, times the gain, plus the shift. -/
def scaled (y : FVec Ideal S64x512 .f32) (g s : Vec Ideal S1x512 .f32) : FVec Ideal S64x512 .f32 :=
  addf (mulf (mulf y (broadcastTo S64x512 (rsqrt (addf (divf (shapeCast S64x1 (multiReduction .add [1] S64 (mulf y y) 0x00000000#32 reduces_S64x512_S64 (.inl rfl) rfl) shapeCasts_S64_S64x1) (broadcast S64x1 (Scalar.ofBits .f32 0x44000000#32 : Ideal .f32))) (broadcast S64x1 (Scalar.ofBits .f32 0x358637BD#32 : Ideal .f32)))) broadcasts_S64x1_S64x512))
    (broadcastTo S64x512 (shapeCast S1x512 g shapeCasts_S1x512_S1x512) broadcasts_S1x512_S64x512)) (broadcastTo S64x512 (shapeCast S1x512 s shapeCasts_S1x512_S1x512) broadcasts_S1x512_S64x512)

/-- A number times its logistic function. -/
def silu (y : FVec Ideal S64x512 .f32) : FVec Ideal S64x512 .f32 :=
  mulf y (divf (broadcast S64x512 (Scalar.ofBits .f32 0x3F800000#32 : Ideal .f32)) (addf (broadcast S64x512 (Scalar.ofBits .f32 0x3F800000#32 : Ideal .f32)) (exp (subf (broadcast S64x512 (Scalar.ofBits .f32 0x00000000#32 : Ideal .f32)) y))))

/-- The tile's convolution with its bias. -/
def conv (e0 e1 e2 e3 e4 : FVec Ideal S72x512 .f32) (t : Fin 31 → FVec Ideal S8x512 .f32) (cb : Vec Ideal S1x512 .f32) : FVec Ideal S64x512 .f32 :=
  addf (sums e0 e1 e2 e3 e4 t) (broadcastTo S64x512 (shapeCast S1x512 cb shapeCasts_S1x512_S1x512) broadcasts_S1x512_S64x512)

theorem slices_rows (i : Fin 8) : S512x512.Slices ![64 * i.val, 0] S64x512 := by
  revert i; decide

theorem inb_rows (i : Fin 8) (k : Fin 5) : ∀ a, (![64 * i.val + 8 * k.val, 0] : Fin 2 → ℕ) a + S72x512.size a ≤ S552x512.size a := by
  revert i k; decide

theorem inb_taps (k : Fin 31) : ∀ a, (![8 * k.val, 0] : Fin 2 → ℕ) a + S8x512.size a ≤ S248x512.size a := by
  revert k; decide

theorem inb_out (i : Fin 8) : ∀ a, (![0, 64 * i.val, 0] : Fin 3 → ℕ) a + S1x64x512.size a ≤ S1x512x512.size a := by
  revert i; decide

/-- Seventy-two rows of the scratch, read from its pieces. -/
def rows (L : List (View.Piece (Elt Ideal) S552x512 .f32)) (i : Fin 8) (k : Fin 5) : FVec Ideal S72x512 .f32 :=
  (View.whole cc0_scratch0).readCov L (Rect.unit (s := S552x512) ![64 * i.val + 8 * k.val, 0] ![72, 512] (inb_rows i k)).toLoadRect

/-- The taps, each in eight equal rows of one array. -/
def tapsOf (w : Vec Ideal S248x512 .f32) (k : Fin 31) : FVec Ideal S8x512 .f32 := View.ld w (Rect.unit (s := S248x512) ![8 * k.val, 0] ![8, 512] (inb_taps k))

/-- Tile `i` of the output block: from the rows read, the taps, the bias, the normalization and the gate. -/
def tile (e0 e1 e2 e3 e4 : FVec Ideal S72x512 .f32) (w : Vec Ideal S248x512 .f32) (cb lg lb : Vec Ideal S1x512 .f32) (zb : FVec Ideal S512x512 .f32) (i : Fin 8) : FVec Ideal S1x64x512 .bf16 :=
  shapeCast S1x64x512 (truncf .bf16 (mulf
    (silu (scaled (centred (conv e0 e1 e2 e3 e4 (tapsOf w) cb)) lg lb))
    (silu (extractStridedSlice S64x512 ![64 * i.val, 0] zb (slices_rows i)))) bitsLt_bf16_f32) shapeCasts_S64x512_S1x64x512

/-- The output block's piece at tile `i`. -/
def piece (e0 e1 e2 e3 e4 : FVec Ideal S72x512 .f32) (w : Vec Ideal S248x512 .f32) (cb lg lb : Vec Ideal S1x512 .f32) (zb : FVec Ideal S512x512 .f32) (i : Fin 8) : View.Piece (Elt Ideal) S1x512x512 .bf16 :=
  ⟨Rect.unit ![0, 64 * i.val, 0] ![1, 64, 512] (inb_out i), tile e0 e1 e2 e3 e4 w cb lg lb zb i⟩

variable (m : (ℓ : Loc nD τ sig) → Buf (Elt Ideal) ℓ) (c : Dev nD)

/-- The scratch's pieces at the first tile of a batch. -/
def firstL (u : FVec Ideal S512x512 .f32) : List (View.Piece (Elt Ideal) S552x512 .f32) :=
  [⟨Rect.unit ![32, 0] ![512, 512] inb_S552x512_S512x512_32_0, k0_pay12 u⟩,
   ⟨Rect.unit ![544, 0] ![8, 512] inb_S552x512_S8x512_544_0, k0_pay9 (F := Ideal)⟩,
   ⟨Rect.unit ![0, 0] ![32, 512] inb_S552x512_S32x512_0_0, k0_pay8 (F := Ideal)⟩]

/-- The scratch's pieces at a later tile of a batch, over what the tile before left. -/
def nextL (u : FVec Ideal S512x512 .f32) (h : FVec Ideal S32x512 .f32) : List (View.Piece (Elt Ideal) S552x512 .f32) :=
  [⟨Rect.unit ![32, 0] ![512, 512] inb_S552x512_S512x512_32_0, k0_pay12 u⟩,
   ⟨Rect.unit ![0, 0] ![32, 512] inb_S552x512_S32x512_0_0, k0_pay10 (F := Ideal) h⟩]

/-- The output block from the rows read, those of the last tile's last read on their own. -/
def block (L : List (View.Piece (Elt Ideal) S552x512 .f32)) (z : FVec Ideal S72x512 .f32) (t : Fin cfg0.N) : S1x512x512.Idx → Elt Ideal .bf16 :=
  let p := fun (i : Fin 8) (z : FVec Ideal S72x512 .f32) => piece (rows L i 0) (rows L i 1) (rows L i 2) (rows L i 3) z (iblk m c 8 t) (iblk m c 9 t) (iblk m c 10 t) (iblk m c 11 t) (k0_pay13 (k0_pay7 (iblk m c 0 t) (iblk m c 1 t)) (iblk m c 4 t)) i
  View.canon [p 7 z, p 6 (rows L 6 4), p 5 (rows L 5 4), p 4 (rows L 4 4), p 3 (rows L 3 4), p 2 (rows L 2 4), p 1 (rows L 1 4), p 0 (rows L 0 4)]

theorem block_first (t : Fin cfg0.N) (h : t.val % 8 = 0) :
    (dats m 0 c).flushed 16 t = block m c (firstL (k0_pay11 (iblk m c 0 t) (iblk m c 1 t) (iblk m c 3 t))) (rows (firstL (k0_pay11 (iblk m c 0 t) (iblk m c 1 t) (iblk m c 3 t))) 7 4) t := by
  rw [Value.flushed16_A m c t h (by omega)]
  funext i
  show out0_A_16 c _ _ _ _ _ _ _ _ _ _ _ _ _ _ _ _ _ _ _ _ _ _ _ _ _ _ _ _ _ _ _ _ _ _ _ _ _ _ _ _ _ _ _ _ _ _ _ _ _ _ _ i = _
  frame_out
  rfl

/-- The last rows of the scratch at a later tile, read over what was there before. -/
def tail (f : Vec Ideal S552x512 .f32) (L : List (View.Piece (Elt Ideal) S552x512 .f32)) : FVec Ideal S72x512 .f32 :=
  View.ld (View.read (Elt Ideal) (View.whole cc0_scratch0) ((View.whole cc0_scratch0).writes (Elt Ideal) ((Memref.isWhole_whole cc0_scratch0).unread f) L))
    (Rect.unit (s := S552x512) ![480, 0] ![72, 512] inb_S552x512_S72x512_480_0)

theorem later_16 (t : Fin cfg0.N) (a b) (xs : Vec Ideal S552x512 .f32) (i : S1x512x512.Idx) :
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) a b (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs i
      = block m c (nextL (k0_pay11 (iblk m c 0 t) (iblk m c 1 t) (iblk m c 3 t)) (View.ld xs (Rect.unit ![512, 0] ![32, 512] inb_S552x512_S32x512_512_0)))
          (tail xs (nextL (k0_pay11 (iblk m c 0 t) (iblk m c 1 t) (iblk m c 3 t)) (View.ld xs (Rect.unit ![512, 0] ![32, 512] inb_S552x512_S32x512_512_0)))) t i := by
  refine Eq.trans (b := block m c (nextL (k0_pay11 (iblk m c 0 t) (iblk m c 1 t) (iblk m c 3 t)) (View.ld (View.read (Elt Ideal) (View.whole cc0_scratch0) ((Memref.isWhole_whole cc0_scratch0).unread xs)) (Rect.unit ![512, 0] ![32, 512] inb_S552x512_S32x512_512_0)))
      (tail xs (nextL (k0_pay11 (iblk m c 0 t) (iblk m c 1 t) (iblk m c 3 t)) (View.ld (View.read (Elt Ideal) (View.whole cc0_scratch0) ((Memref.isWhole_whole cc0_scratch0).unread xs)) (Rect.unit ![512, 0] ![32, 512] inb_S552x512_S32x512_512_0)))) t i) ?_ ?_
  · frame_out
    rfl
  · rw [(Memref.isWhole_whole cc0_scratch0).read_unread xs]
    rfl

/-- The pieces and the last rows at a later tile, from what the point before left. -/
def laterL (t : Fin cfg0.N) (xs : Vec Ideal S552x512 .f32) : List (View.Piece (Elt Ideal) S552x512 .f32) :=
  nextL (k0_pay11 (iblk m c 0 t) (iblk m c 1 t) (iblk m c 3 t)) (View.ld xs (Rect.unit ![512, 0] ![32, 512] inb_S552x512_S32x512_512_0))

theorem block_next (t : Fin cfg0.N) (h : ¬t.val % 8 = 0) (hp : t.val - 1 < cfg0.N) :
    (dats m 0 c).flushed 16 t = block m c (laterL m c t (outsAt0 m c (t.val - 1) hp).2.2.2.2.2) (tail (outsAt0 m c (t.val - 1) hp).2.2.2.2.2 (laterL m c t (outsAt0 m c (t.val - 1) hp).2.2.2.2.2)) t := by
  rw [Value.flushed16_B m c t h (by omega)]
  funext i
  exact later_16 m c t _ _ _ i

/-! ## The tile at an index -/

/-- The nine copies of the tap are one row. -/
theorem term_apply (e : FVec Ideal S72x512 .f32) (t : FVec Ideal S8x512 .f32) (i : Fin 72) (j : Fin 512) (x y : EReal)
    (he : e (ix2 i j) = x) (ht : ∀ s : Fin 8, t (ix2 s j) = y) : term e t (ix2 i j) = x * y := by
  subst he
  pointwise [term]
  simp only [ht]
  split_ifs <;> first | rfl | omega

/-- The tile's order of the taps is no order. -/
theorem regroup (a : ℕ → EReal) :
    ((((((((0 + ((((0 + a 6) + a 14) + a 22) + a 30)) + (((0 + a 7) + a 15) + a 23)) + ((((0 + a 0) + a 8) + a 16) + a 24))
      + ((((0 + a 1) + a 9) + a 17) + a 25)) + ((((0 + a 2) + a 10) + a 18) + a 26)) + ((((0 + a 3) + a 11) + a 19) + a 27))
      + ((((0 + a 4) + a 12) + a 20) + a 28)) + ((((0 + a 5) + a 13) + a 21) + a 29)) = ∑ k ∈ Finset.range 31, a k := by
  simp only [Finset.sum_range_succ, Finset.sum_range_zero, zero_add]
  ac_rfl

theorem z72_apply (i : Fin 72) (j : Fin 512) : z72 (ix2 i j) = 0 := by
  pointwise [z72]

theorem sums_apply (e : Fin 5 → FVec Ideal S72x512 .f32) (t : Fin 31 → FVec Ideal S8x512 .f32) (r : Fin 64) (j : Fin 512) (a : ℕ → EReal)
    (h : ∀ k : Fin 31, term (e ⟨(k.val + 2) / 8, by omega⟩) (t k) (ix2 ⟨(k.val + 2) % 8 + r.val, by omega⟩ j) = a k.val) :
    sums (e 0) (e 1) (e 2) (e 3) (e 4) t (ix2 r j) = ∑ k ∈ Finset.range 31, a k := by
  rw [← regroup]
  pointwise [sums]
  have g : ∀ (k : ℕ) (hk : k < 31), a k = term (e ⟨(k + 2) / 8, by omega⟩) (t ⟨k, hk⟩) (ix2 ⟨(k + 2) % 8 + r.val, by omega⟩ j) :=
    fun k hk => (h ⟨k, hk⟩).symm
  simp only [z72_apply, zero_add, g 0 (by omega), g 1 (by omega), g 2 (by omega), g 3 (by omega), g 4 (by omega), g 5 (by omega), g 6 (by omega), g 7 (by omega),
    g 8 (by omega), g 9 (by omega), g 10 (by omega), g 11 (by omega), g 12 (by omega), g 13 (by omega), g 14 (by omega), g 15 (by omega), g 16 (by omega),
    g 17 (by omega), g 18 (by omega), g 19 (by omega), g 20 (by omega), g 21 (by omega), g 22 (by omega), g 23 (by omega), g 24 (by omega), g 25 (by omega),
    g 26 (by omega), g 27 (by omega), g 28 (by omega), g 29 (by omega), g 30 (by omega), Nat.reduceAdd, Nat.reduceMod, Nat.reduceDiv]
  rfl

theorem centred_apply (y : FVec Ideal S64x512 .f32) (r : Fin 64) (j : Fin 512) :
    centred y (ix2 r j) = y (ix2 r j) - Ideal.div (∑ k : Fin 512, y (ix2 r k)) (Ideal.ofBits FTy.f32 1140850688#32) := by
  pointwise [centred]

theorem scaled_apply (y : FVec Ideal S64x512 .f32) (g s : Vec Ideal S1x512 .f32) (r : Fin 64) (j : Fin 512) :
    scaled y g s (ix2 r j) = y (ix2 r j) * Ideal.rsqrt (Ideal.div (∑ k : Fin 512, y (ix2 r k) * y (ix2 r k))
      (Ideal.ofBits FTy.f32 1140850688#32) + Ideal.ofBits FTy.f32 897988541#32) * g (ix2 0 j) + s (ix2 0 j) := by
  pointwise [scaled]

theorem silu_apply (y : FVec Ideal S64x512 .f32) (r : Fin 64) (j : Fin 512) :
    silu y (ix2 r j) = y (ix2 r j) * Ideal.div 1 (1 + Ideal.exp (-y (ix2 r j))) := by
  rw [← zero_sub]
  pointwise [silu]

theorem conv_apply (e0 e1 e2 e3 e4 : FVec Ideal S72x512 .f32) (t : Fin 31 → FVec Ideal S8x512 .f32) (cb : Vec Ideal S1x512 .f32) (r : Fin 64) (j : Fin 512) :
    conv e0 e1 e2 e3 e4 t cb (ix2 r j) = sums e0 e1 e2 e3 e4 t (ix2 r j) + cb (ix2 0 j) := by
  pointwise [conv]

theorem tile_apply (e0 e1 e2 e3 e4 : FVec Ideal S72x512 .f32) (w : Vec Ideal S248x512 .f32) (cb lg lb : Vec Ideal S1x512 .f32) (zb : FVec Ideal S512x512 .f32)
    (i : Fin 8) (r : Fin 64) (j : Fin 512) :
    tile e0 e1 e2 e3 e4 w cb lg lb zb i (ix3 0 r j)
      = silu (scaled (centred (conv e0 e1 e2 e3 e4 (tapsOf w) cb)) lg lb) (ix2 r j)
        * (zb (ix2 ⟨64 * i.val + r.val, by omega⟩ j) * Ideal.div 1 (1 + Ideal.exp (-zb (ix2 ⟨64 * i.val + r.val, by omega⟩ j)))) := by
  have hz : extractStridedSlice S64x512 ![64 * i.val, 0] zb (slices_rows i) (ix2 r j) = zb (ix2 ⟨64 * i.val + r.val, by omega⟩ j) := by
    pointwise
  rw [← hz, ← silu_apply]
  pointwise [tile]

/-- Row `n` of the rows read at tile `i`, quotient `k`, is row `64 i + 8 k + n` of the scratch. -/
theorem rows_apply (L : List (View.Piece (Elt Ideal) S552x512 .f32)) (i : Fin 8) (k : Fin 5) (n : Fin 72) (j : Fin 512) :
    rows L i k (ix2 n j) = View.canon L (ix2 ⟨64 * i.val + 8 * k.val + n.val, by omega⟩ j) := by
  unfold rows
  rw [View.readCov_eq_canon']
  refine congrArg (View.canon L) (eq2 ?_ ?_)
  · show 64 * i.val + 8 * k.val + 1 * n.val = 64 * i.val + 8 * k.val + n.val; omega
  · show 0 + 1 * j.val = j.val; omega

theorem taps_at (w : Vec Ideal S248x512 .f32) (k : Fin 31) (s : Fin 8) (j : Fin 512) :
    tapsOf w k (ix2 s j) = w (ix2 ⟨8 * k.val + s.val, by omega⟩ j) := by
  refine congrArg w (eq2 ?_ ?_)
  · show 8 * k.val + 1 * s.val = 8 * k.val + s.val; omega
  · show 0 + 1 * j.val = j.val; omega

end Cert.Proof.Tile

end
-- ==== Proof.Conv.lean ====
/-
  The convolution's output: the scratch holds the 32 rows before a tile and the tile's rows, so a shifted row of the
  tile is a row of the array before the convolution (zero above the first); with the tile's sum read at an index this
  is the reference's convolution, and its normalization and gate follow row by row.
-/
module

public import proofs.«01_k».proof.Proof.Tile
public import Idealize.ShloMosaic.Lib.WritesUnit

@[expose] public section

noncomputable section

namespace Cert.Proof.Conv

open Cert.Kernel3Ideal Cert.Kernel3Ideal.Gen Idealize.ShloMosaic Idealize.ShloMosaic.TcCoe
open Cert.Proof
open Cert.Proof.MergeIn (eq2 eq3)

/-! ## The scratch -/

/-- A row under the newest piece is that piece's. -/
theorem canon_in (o n : ℕ) (inb : ∀ a, (![o, 0] : Fin 2 → ℕ) a + (![n, 512] : Fin 2 → ℕ) a ≤ S552x512.size a) (w : (⟨2, ![n, 512]⟩ : Shape).Idx → Elt Ideal .f32)
    (L : List (View.Piece (Elt Ideal) S552x512 .f32)) (y : Fin 552) (i : Fin n) (h : y.val = o + i.val) (j : Fin 512) :
    View.canon (⟨Rect.unit (s := S552x512) ![o, 0] ![n, 512] inb, w⟩ :: L) (ix2 y j) = w (ix2 i j) := by
  have e : (Rect.unit (s := S552x512) ![o, 0] ![n, 512] inb).emb (ix2 i j) = ix2 y j := eq2 (by show o + 1 * i.val = y.val; omega) (by show 0 + 1 * j.val = j.val; omega)
  rw [← e]
  exact View.canon_cons_emb (Rect.unit (s := S552x512) ![o, 0] ![n, 512] inb) w L (ix2 i j)

/-- A row off the newest piece is the earlier pieces'. -/
theorem canon_out (o n : ℕ) (inb : ∀ a, (![o, 0] : Fin 2 → ℕ) a + (![n, 512] : Fin 2 → ℕ) a ≤ S552x512.size a) (w : (⟨2, ![n, 512]⟩ : Shape).Idx → Elt Ideal .f32)
    (L : List (View.Piece (Elt Ideal) S552x512 .f32)) (y : Fin 552) (h : y.val < o) (j : Fin 512) :
    View.canon (⟨Rect.unit (s := S552x512) ![o, 0] ![n, 512] inb, w⟩ :: L) (ix2 y j) = View.canon L (ix2 y j) := by
  refine View.canon_cons_of_not_mem _ _ fun hm => ?_
  have h0 : o ≤ y.val := ((Rect.mem_set_unit (inb := inb)).mp hm (0 : Fin 2)).1
  omega

theorem pay12_apply (u : FVec Ideal S512x512 .f32) (i j : Fin 512) : k0_pay12 u (ix2 i j) = u (ix2 i j) := by
  pointwise [k0_pay12]

theorem pay8_apply (e : Fin 32) (j : Fin 512) : k0_pay8 (F := Ideal) (ix2 e j) = 0 := by
  pointwise [k0_pay8]

theorem pay10_apply (z : Vec Ideal S32x512 .f32) (e : Fin 32) (j : Fin 512) : k0_pay10 (F := Ideal) z (ix2 e j) = z (ix2 e j) := by
  pointwise [k0_pay10]

/-- Rows 32 to 543 of the scratch are the tile's, at the first tile of a batch and at a later one. -/
theorem first_high (u : FVec Ideal S512x512 .f32) (y : Fin 552) (i j : Fin 512) (h : y.val = 32 + i.val) : View.canon (Tile.firstL u) (ix2 y j) = u (ix2 i j) :=
  (canon_in 32 512 _ (k0_pay12 u) _ y i h j).trans (pay12_apply u i j)

theorem next_high (u : FVec Ideal S512x512 .f32) (z : FVec Ideal S32x512 .f32) (y : Fin 552) (i j : Fin 512) (h : y.val = 32 + i.val) : View.canon (Tile.nextL u z) (ix2 y j) = u (ix2 i j) :=
  (canon_in 32 512 _ (k0_pay12 u) _ y i h j).trans (pay12_apply u i j)

/-- The first 32 rows are zeros at the first tile of a batch, -/
theorem first_low (u : FVec Ideal S512x512 .f32) (y : Fin 552) (e : Fin 32) (j : Fin 512) (h : y.val = e.val) : View.canon (Tile.firstL u) (ix2 y j) = 0 := by
  have h0 : y.val < 32 := by omega
  have h1 : y.val < 544 := by omega
  refine (canon_out 32 512 inb_S552x512_S512x512_32_0 (k0_pay12 u) _ y h0 j).trans ?_
  refine (canon_out 544 8 inb_S552x512_S8x512_544_0 (k0_pay9 (F := Ideal)) _ y h1 j).trans ?_
  refine (canon_in 0 32 inb_S552x512_S32x512_0_0 (k0_pay8 (F := Ideal)) [] y e (by rw [h, Nat.zero_add]) j).trans ?_
  exact pay8_apply e j

/-- and what the tile before left at a later one. -/
theorem next_low (u : FVec Ideal S512x512 .f32) (z : FVec Ideal S32x512 .f32) (y : Fin 552) (e : Fin 32) (j : Fin 512) (h : y.val = e.val) :
    View.canon (Tile.nextL u z) (ix2 y j) = z (ix2 e j) := by
  have h0 : y.val < 32 := by omega
  refine (canon_out 32 512 inb_S552x512_S512x512_32_0 (k0_pay12 u) _ y h0 j).trans ?_
  refine (canon_in 0 32 inb_S552x512_S32x512_0_0 (k0_pay10 (F := Ideal) z) [] y e (by rw [h, Nat.zero_add]) j).trans ?_
  exact pay10_apply z e j

/-- The rows a later tile takes from the tile before. -/
theorem kept_apply (xs : Vec Ideal S552x512 .f32) (e : Fin 32) (j : Fin 512) :
    View.ld xs (Rect.unit (s := S552x512) ![512, 0] ![32, 512] inb_S552x512_S32x512_512_0) (ix2 e j) = xs (ix2 ⟨512 + e.val, by omega⟩ j) := by
  refine congrArg xs (eq2 ?_ ?_)
  · show 512 + 1 * e.val = 512 + e.val; omega
  · show 0 + 1 * j.val = j.val; omega

/-- A row under the newest piece is that piece's, over any earlier contents. -/
theorem over (f : Vec Ideal S552x512 .f32) (L : List (View.Piece (Elt Ideal) S552x512 .f32)) (u : FVec Ideal S512x512 .f32) (y : Fin 552) (i j : Fin 512) (h : y.val = 32 + i.val) :
    View.read (Elt Ideal) (View.whole cc0_scratch0) ((View.whole cc0_scratch0).writes (Elt Ideal) f
      (⟨Rect.unit (s := S552x512) ![32, 0] ![512, 512] inb_S552x512_S512x512_32_0, k0_pay12 u⟩ :: L)) (ix2 y j) = u (ix2 i j) := by
  refine Eq.trans (View.read_writes_cons_unit_of_mem (View.whole cc0_scratch0) f inb_S552x512_S512x512_32_0 (k0_pay12 u) L (ix2 y j) (ix2 i j) rfl fun a => ?_) ?_
  rotate_left
  · exact pay12_apply u i j
  match a with
  | ⟨0, _⟩ => exact h
  | ⟨1, _⟩ => exact (Nat.zero_add _).symm

variable (m : (ℓ : Loc nD τ sig) → Buf (Elt Ideal) ℓ) (c : Dev nD)

theorem left_first (t : Fin cfg0.N) (a b) (i : S552x512.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) a b (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) i = View.canon (Tile.firstL (k0_pay11 (iblk m c 0 t) (iblk m c 1 t) (iblk m c 3 t))) i := by
  frame_out
  rfl

theorem left_next (t : Fin cfg0.N) (a b) (xs : Vec Ideal S552x512 .f32) (y : Fin 552) (i j : Fin 512) (h : y.val = 32 + i.val) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) a b (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs (ix2 y j) = k0_pay11 (iblk m c 0 t) (iblk m c 1 t) (iblk m c 3 t) (ix2 i j) := by
  frame_out
  exact over _ _ _ y i j h

/-- What a grid point leaves in rows 32 to 543 of the scratch is its tile. -/
theorem left (t : Fin cfg0.N) (y : Fin 552) (i j : Fin 512) (hy : y.val = 32 + i.val) : (outsAt0 m c t.val t.isLt).2.2.2.2.2 (ix2 y j)
    = k0_pay11 (iblk m c 0 t) (iblk m c 1 t) (iblk m c 3 t) (ix2 i j) := by
  by_cases h : t.val % 8 = 0
  · rw [outsAt0_A m c t h (by omega)]
    dsimp only
    rw [left_first]
    exact first_high _ y i j hy
  · rw [outsAt0_B m c t h (by omega)]
    dsimp only
    exact left_next m c t _ _ _ y i j hy

/-- A row read at the last tile's last read. -/
theorem tail_apply (f : Vec Ideal S552x512 .f32) (u : FVec Ideal S512x512 .f32) (z : FVec Ideal S32x512 .f32) (n : Fin 72) (j : Fin 512) (hn : n.val < 64) :
    Tile.tail f (Tile.nextL u z) (ix2 n j) = u (ix2 ⟨448 + n.val, by omega⟩ j) := by
  refine Eq.trans (congrArg (View.read (Elt Ideal) (View.whole cc0_scratch0) _) (eq2 ?_ ?_)) (over _ _ u ⟨480 + n.val, by omega⟩ ⟨448 + n.val, by omega⟩ j (by dsimp only; omega))
  · show 480 + 1 * n.val = 480 + n.val; omega
  · show 0 + 1 * j.val = j.val; omega

/-! ## The payloads at an index -/

theorem glu_pay (x : Vec Ideal S1x512x1024 .f32) (g : Vec Ideal S1x1024 .f32) (w : Vec Ideal S1024x1024 .bf16) (r j : Fin 512) :
    k0_pay11 x g w (ix2 r j) = (∑ k : Fin 1024, k0_pay7 x g (ix2 r k) * w (ix2 k ⟨j.val, by omega⟩))
      * Ideal.div 1 (1 + Ideal.exp (-∑ k : Fin 1024, k0_pay7 x g (ix2 r k) * w (ix2 k ⟨512 + j.val, by omega⟩))) := by
  rw [← zero_sub]
  pointwise [k0_pay11]

theorem zb_pay (h : FVec Ideal S512x1024 .bf16) (w : Vec Ideal S1024x512 .bf16) (r j : Fin 512) :
    k0_pay13 h w (ix2 r j) = ∑ k : Fin 1024, h (ix2 r k) * w (ix2 k j) := by
  pointwise [k0_pay13]

/-- The array the convolution runs over: the gated projections, below thirty rows of zeros. -/
abbrev U : FVec Ideal Cert.Reference3Ideal.S8x4126x512 .f32 := ProjRef.up (ProjRef.glu (Proj.P m c))

section Block

variable (t : Fin cfg0.N) (r : Fin 512) (b : Fin 8) (q : Fin 4096) (hb : b.val = t.val / 8) (hq : q.val = 512 * (t.val % 8) + r.val) (j : Fin 512)
include hb hq

theorem glu_at : k0_pay11 (iblk m c 0 t) (iblk m c 1 t) (iblk m c 3 t) (ix2 r j) = ProjRef.glu (Proj.P m c) (ix3 b q j) := by
  unfold Proj.P
  rw [glu_pay, ProjRef.glu_apply, ProjRef.proj_apply, ProjRef.proj_apply]
  simp only [Proj.h_at m c t r b q hb hq, ProjIn.glu]

theorem zb_at : k0_pay13 (k0_pay7 (iblk m c 0 t) (iblk m c 1 t)) (iblk m c 4 t) (ix2 r j) = Proj.P m c (ix3 b q ⟨3656 + j.val, by omega⟩) := by
  unfold Proj.P
  rw [zb_pay, ProjRef.proj_apply]
  simp only [Proj.h_at m c t r b q hb hq, ProjIn.zb]

end Block

section Rows

variable (t : Fin cfg0.N) (b : Fin 8) (hb : b.val = t.val / 8) (y : Fin 552) (hy : y.val < 544) (n : Fin 4126) (hn : n.val + 2 = 512 * (t.val % 8) + y.val) (j : Fin 512)
include hb hy hn

/-- A row of the scratch at the first tile of a batch is two rows further in the array the convolution runs over. -/
theorem row_first (h : t.val % 8 = 0) : View.canon (Tile.firstL (k0_pay11 (iblk m c 0 t) (iblk m c 1 t) (iblk m c 3 t))) (ix2 y j) = U m c (ix3 b n j) := by
  unfold U
  by_cases h32 : y.val < 32
  · rw [first_low _ y ⟨y.val, h32⟩ j rfl, ProjRef.up_low _ b n (by omega)]
  · rw [first_high _ y ⟨y.val - 32, by omega⟩ j (by dsimp only; omega), ProjRef.up_high _ b n (by omega)]
    exact glu_at m c t _ b _ hb (by dsimp only; omega) j

/-- And so at a later tile, whose first 32 rows are the tile before's. -/
theorem row_next (h : ¬t.val % 8 = 0) (hp : t.val - 1 < cfg0.N) :
    View.canon (Tile.laterL m c t (outsAt0 m c (t.val - 1) hp).2.2.2.2.2) (ix2 y j) = U m c (ix3 b n j) := by
  unfold U Tile.laterL
  rw [ProjRef.up_high _ b n (by omega)]
  by_cases h32 : y.val < 32
  · rw [next_low _ _ y ⟨y.val, h32⟩ j rfl, kept_apply]
    exact (left m c ⟨t.val - 1, hp⟩ ⟨512 + y.val, by omega⟩ ⟨480 + y.val, by omega⟩ j (by dsimp only; omega)).trans
      (glu_at m c ⟨t.val - 1, hp⟩ ⟨480 + y.val, by omega⟩ b ⟨n.val - 30, by omega⟩ (by dsimp only; omega) (by dsimp only; omega) j)
  · rw [next_high _ _ y ⟨y.val - 32, by omega⟩ j (by dsimp only; omega)]
    exact glu_at m c t _ b _ hb (by dsimp only; omega) j

end Rows

section OneTile

variable (t : Fin cfg0.N) (b : Fin 8) (hb : b.val = t.val / 8) (i : Fin 8) (e : Fin 5 → FVec Ideal S72x512 .f32)
  (he : ∀ (k : Fin 5) (n : Fin 72) (j : Fin 512) (N : Fin 4126), 64 * i.val + 8 * k.val + n.val < 544 →
    N.val + 2 = 512 * (t.val % 8) + (64 * i.val + 8 * k.val + n.val) → e k (ix2 n j) = U m c (ix3 b N j))
  (r : Fin 64) (q : Fin 4096) (hq : q.val = 512 * (t.val % 8) + (64 * i.val + r.val))
include hb he hq

theorem conv_at (j : Fin 512) : Tile.conv (e 0) (e 1) (e 2) (e 3) (e 4) (Tile.tapsOf (iblk m c 8 t)) (iblk m c 9 t) (ix2 r j)
    = ProjRef.conv (U m c) (m ((c : Thread nD τ).loc main_arg3)) (m ((c : Thread nD τ).loc main_arg4)) (ix3 b q j) := by
  rw [Tile.conv_apply, ProjRef.conv_apply, ProjRef.taps_apply, ProjIn.cb]
  refine congrArg₂ (· + ·) ?_ rfl
  rw [Tile.sums_apply e _ r j (fun k => if h : k < 31 then U m c (ix3 b ⟨k + q.val, by omega⟩ j) * m ((c : Thread nD τ).loc main_arg3) (ix4 0 ⟨k, h⟩ 0 j) else 0) ?_, Finset.sum_range]
  · exact Finset.sum_congr rfl fun k _ => dif_pos k.isLt
  · intro k
    rw [dif_pos k.isLt]
    refine Tile.term_apply _ _ _ j _ _ (he _ _ j _ (by dsimp only; omega) (by dsimp only; omega)) fun s => ?_
    exact (Tile.taps_at _ k s j).trans (ProjIn.cw m c t k s j)

theorem norm_at (j : Fin 512) : Tile.scaled (Tile.centred (Tile.conv (e 0) (e 1) (e 2) (e 3) (e 4) (Tile.tapsOf (iblk m c 8 t)) (iblk m c 9 t)))
      (iblk m c 10 t) (iblk m c 11 t) (ix2 r j)
    = ProjRef.scaled (ProjRef.centred (ProjRef.conv (U m c) (m ((c : Thread nD τ).loc main_arg3)) (m ((c : Thread nD τ).loc main_arg4))))
      (m ((c : Thread nD τ).loc main_arg5)) (m ((c : Thread nD τ).loc main_arg6)) (ix3 b q j) := by
  rw [Tile.scaled_apply, ProjRef.scaled_apply]
  simp only [Tile.centred_apply, ProjRef.centred_apply, conv_at m c t b hb i e he r q hq, ProjIn.lg, ProjIn.lb]

/-- The convolution's output at the kernel's arguments. -/
abbrev Z : ProjRef.A512 := ProjRef.cz (Proj.P m c) (m ((c : Thread nD τ).loc main_arg3)) (m ((c : Thread nD τ).loc main_arg4)) (m ((c : Thread nD τ).loc main_arg5)) (m ((c : Thread nD τ).loc main_arg6))

theorem tile_at (j : Fin 512) : Tile.tile (e 0) (e 1) (e 2) (e 3) (e 4) (iblk m c 8 t) (iblk m c 9 t) (iblk m c 10 t) (iblk m c 11 t) (k0_pay13 (k0_pay7 (iblk m c 0 t) (iblk m c 1 t)) (iblk m c 4 t)) i (ix3 0 r j)
    = Z m c (ix3 b q j) := by
  rw [Tile.tile_apply, Tile.silu_apply, norm_at m c t b hb i e he r q hq, zb_at m c t ⟨64 * i.val + r.val, by omega⟩ b q hb hq]
  exact (ProjRef.cz_apply _ _ _ _ _ b q j _ _ rfl rfl).symm

end OneTile

section Array

variable (t : Fin cfg0.N) (b : Fin 8)

/-- The block a grid point leaves, as one function. -/
def blockG : S1x512x512.Idx → Elt Ideal .bf16 := fun y => Z m c (ix3 b ⟨512 * (t.val % 8) + (y 1).val, by
  have h1 : (y 1).val < 512 := (y 1).isLt
  omega⟩ (y 2))

variable (hb : b.val = t.val / 8)
include hb

/-- One piece of the block is the one function there. -/
theorem piece_at (i : Fin 8) (e0 e1 e2 e3 e4 : FVec Ideal S72x512 .f32)
    (he : ∀ (k : Fin 5) (n : Fin 72) (j : Fin 512) (N : Fin 4126), 64 * i.val + 8 * k.val + n.val < 544 →
      N.val + 2 = 512 * (t.val % 8) + (64 * i.val + 8 * k.val + n.val) → (![e0, e1, e2, e3, e4] : Fin 5 → FVec Ideal S72x512 .f32) k (ix2 n j) = U m c (ix3 b N j))
    (x : S1x64x512.Idx) :
    Tile.tile e0 e1 e2 e3 e4 (iblk m c 8 t) (iblk m c 9 t) (iblk m c 10 t) (iblk m c 11 t) (k0_pay13 (k0_pay7 (iblk m c 0 t) (iblk m c 1 t)) (iblk m c 4 t)) i x
      = blockG m c t b ((Rect.unit (s := S1x512x512) ![0, 64 * i.val, 0] ![1, 64, 512] (Tile.inb_out i)).emb x) := by
  obtain ⟨z, r, j, rfl⟩ : ∃ (z : Fin 1) (r : Fin 64) (j : Fin 512), x = ix3 z r j := ⟨_, _, _, eq_ix3 x⟩
  obtain rfl : z = 0 := Subsingleton.elim _ _
  refine (tile_at m c t b hb i ![e0, e1, e2, e3, e4] he r ⟨512 * (t.val % 8) + (64 * i.val + r.val), by omega⟩ rfl j).trans (congrArg (Z m c) (eq3 rfl ?_ ?_))
  · show 512 * (t.val % 8) + (64 * i.val + r.val) = 512 * (t.val % 8) + (64 * i.val + 1 * r.val); omega
  · show j.val = 0 + 1 * j.val; omega

/-- The block from rows that are the array's is the one function. -/
theorem block_at (L : List (View.Piece (Elt Ideal) S552x512 .f32)) (z : FVec Ideal S72x512 .f32)
    (hL : ∀ (y : Fin 552) (j : Fin 512) (N : Fin 4126), y.val < 544 → N.val + 2 = 512 * (t.val % 8) + y.val → View.canon L (ix2 y j) = U m c (ix3 b N j))
    (hz : ∀ (n : Fin 72) (j : Fin 512) (N : Fin 4126), n.val < 64 → N.val + 2 = 512 * (t.val % 8) + (480 + n.val) → z (ix2 n j) = U m c (ix3 b N j)) :
    Tile.block m c L z t = blockG m c t b := by
  have hr : ∀ (i : Fin 8) (k : Fin 5) (n : Fin 72) (j : Fin 512) (N : Fin 4126), 64 * i.val + 8 * k.val + n.val < 544 →
      N.val + 2 = 512 * (t.val % 8) + (64 * i.val + 8 * k.val + n.val) → Tile.rows L i k (ix2 n j) = U m c (ix3 b N j) := fun i k n j N h0 h1 =>
    (Tile.rows_apply L i k n j).trans (hL _ j N h0 h1)
  have he : ∀ (i : Fin 8) (z : FVec Ideal S72x512 .f32), (∀ (n : Fin 72) (j : Fin 512) (N : Fin 4126), 64 * i.val + 32 + n.val < 544 →
      N.val + 2 = 512 * (t.val % 8) + (64 * i.val + 32 + n.val) → z (ix2 n j) = U m c (ix3 b N j)) → ∀ (k : Fin 5) (n : Fin 72) (j : Fin 512) (N : Fin 4126), 64 * i.val + 8 * k.val + n.val < 544 →
      N.val + 2 = 512 * (t.val % 8) + (64 * i.val + 8 * k.val + n.val) →
      (![Tile.rows L i 0, Tile.rows L i 1, Tile.rows L i 2, Tile.rows L i 3, z] : Fin 5 → FVec Ideal S72x512 .f32) k (ix2 n j) = U m c (ix3 b N j) := by
    intro i z hz k n j N h0 h1
    match k with
    | ⟨0, _⟩ => exact hr i 0 n j N h0 h1
    | ⟨1, _⟩ => exact hr i 1 n j N h0 h1
    | ⟨2, _⟩ => exact hr i 2 n j N h0 h1
    | ⟨3, _⟩ => exact hr i 3 n j N h0 h1
    | ⟨4, _⟩ => exact hz n j N (by dsimp only at h0; omega) (by dsimp only at h1; omega)
  have hp : ∀ (i : Fin 8), _ := fun i => piece_at m c t b hb i _ _ _ _ _ (he i (Tile.rows L i 4) fun n j N h0 h1 => hr i 4 n j N h0 h1)
  funext y
  refine View.canon_apply_of_pieces (blockG m c t b) _ ?_ y (View.cover_of_tiled _ ![1, 64, 512] (by rfl) y)
  simp only [List.mem_cons, List.not_mem_nil, or_false, forall_eq_or_imp, forall_eq]
  exact ⟨piece_at m c t b hb 7 _ _ _ _ _ (he 7 z fun n j N h0 h1 => hz n j N (by omega) (by omega)), hp 6, hp 5, hp 4, hp 3, hp 2, hp 1, hp 0⟩

/-- What a grid point leaves in the fifth output's block. -/
theorem flushed_at : (dats m 0 c).flushed 16 t = blockG m c t b := by
  by_cases h : t.val % 8 = 0
  · rw [Tile.block_first m c t h]
    refine block_at m c t b hb _ _ (fun y j N hy hN => row_first m c t b hb y hy N hN j h) fun n j N hn hN => ?_
    rw [Tile.rows_apply]
    exact row_first m c t b hb _ (by show 64 * 7 + 8 * 4 + n.val < 544; omega) N (by show N.val + 2 = 512 * (t.val % 8) + (64 * 7 + 8 * 4 + n.val); omega) j h
  · have hp : t.val - 1 < cfg0.N := Nat.lt_of_le_of_lt (Nat.sub_le _ _) t.isLt
    rw [Tile.block_next m c t h hp]
    refine block_at m c t b hb _ _ (fun y j N hy hN => row_next m c t b hb y hy N hN j h hp) fun n j N hn hN => ?_
    unfold Tile.laterL U
    rw [tail_apply _ _ _ n j hn, ProjRef.up_high _ b N (by omega)]
    exact glu_at m c t _ b _ hb (by dsimp only; omega) j

end Array

/-- The array the kernel leaves as its fifth output. -/
theorem array : (dats m 0 c).arrAt 16 cfg0.N = Z m c := by
  funext i
  obtain ⟨b, q, j, rfl⟩ : ∃ (b : Fin 8) (q : Fin 4096) (j : Fin 512), i = ix3 b q j := ⟨_, _, _, eq_ix3 i⟩
  have ht : 8 * b.val + q.val / 512 < cfg0.N := by
    show _ < 64
    omega
  obtain ⟨e0, e1, e2⟩ := (ProjIn.idx ⟨8 * b.val + q.val / 512, ht⟩).2.2.2.2.2
  have h := congrFun (Value.blocks16 m c ⟨8 * b.val + q.val / 512, ht⟩ (flush0_16 _)) (ix3 0 ⟨q.val % 512, by omega⟩ j)
  rw [flushed_at m c _ b (by dsimp only; omega)] at h
  refine Eq.trans (congrArg ((dats m 0 c).arrAt 16 cfg0.N) (eq3 ?_ ?_ ?_)) (h.trans (congrArg (Z m c) (eq3 rfl ?_ rfl)))
  · show b.val = win0_16.index ⟨8 * b.val + q.val / 512, ht⟩ (0 : Fin 3) * 1 + 1 * 0
    dsimp only at e0; omega
  · show q.val = win0_16.index ⟨8 * b.val + q.val / 512, ht⟩ (1 : Fin 3) * 512 + 1 * (q.val % 512)
    dsimp only at e1; omega
  · show j.val = win0_16.index ⟨8 * b.val + q.val / 512, ht⟩ (2 : Fin 3) * 512 + 1 * j.val
    omega
  · show 512 * ((8 * b.val + q.val / 512) % 8) + q.val % 512 = q.val; omega

end Cert.Proof.Conv

end
-- ==== Proof.InProj.lean ====
/-
  The projections and the convolution against their reference: the five arrays that the kernel leaves are the five
  results of the reference, as functions of the same arguments.
-/
module

public import proofs.«01_k».proof.Proof.Conv
public import proofs.«01_k».proof.Proof.Gen.Reference3Ideal.Run
public import proofs.«01_k».proof.Defs

@[expose] public section

noncomputable section

namespace Cert.Proof.InProj

open Cert.Kernel3Ideal Cert.Kernel3Ideal.Gen Idealize.ShloMosaic Idealize.ShloMosaic.TcCoe
open Cert.Proof

/-- The projections of the reference's arguments are those of the kernel's. -/
theorem proj_eq (m : (ℓ : Loc nD τ sig) → Buf (Elt Ideal) ℓ) (m' : (ℓ : Loc Cert.Reference3Ideal.nD Cert.Reference3Ideal.τ Cert.Reference3Ideal.sig) → Buf (Elt Ideal) ℓ) (c : Dev nD)
    (a0 : m' ((c.tc : Thread Cert.Reference3Ideal.nD Cert.Reference3Ideal.τ).loc Cert.Reference3Ideal.main_arg0) = m ((c.tc : Thread nD τ).loc main_arg0))
    (a1 : m' ((c.tc : Thread Cert.Reference3Ideal.nD Cert.Reference3Ideal.τ).loc Cert.Reference3Ideal.main_arg1) = m ((c.tc : Thread nD τ).loc main_arg1))
    (a2 : m' ((c.tc : Thread Cert.Reference3Ideal.nD Cert.Reference3Ideal.τ).loc Cert.Reference3Ideal.main_arg2) = m ((c.tc : Thread nD τ).loc main_arg2)) :
    Cert.Reference3Ideal.Value.res_main_v15 (StableHlo.launchContents m' c) = Proj.P m c := by
  refine (ProjRef.res_proj _).trans ?_
  show ProjRef.proj (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
  rw [a0, a1, a2]
  rfl

/-- The kernel and the reference end with the same five results. -/
theorem algebraic : Cert.algebraic_Kernel3Ideal_Reference3Ideal := by
  intro m ρ m' ρ' _ hm
  refine ⟨fun c => ProjRef.nat (Proj.P m c), fun c => ProjRef.ew (Proj.P m c), fun c => ProjRef.vt (Proj.P m c), fun c => ProjRef.wt (Proj.P m c), fun c => Conv.Z m c, ?_, ?_⟩
  · refine (θ_run Cert.Kernel3Ideal.defs _ _).mono (fun r h c => ?_) (Value.run_blocks m ρ)
    obtain ⟨h0, h1, h2, h3, h4, ha⟩ := h c
    exact ⟨h0.trans (Proj.nat_array m c), h1.trans (Proj.ew_array m c), h2.trans (Proj.vt_array m c), h3.trans (Proj.wt_array m c), h4.trans (Conv.array m c), ha⟩
  · refine (θ_run Cert.Reference3Ideal.defs _ _).mono (fun r h c => ?_) (Cert.Reference3Ideal.Value.run m' ρ')
    obtain ⟨h0, h1, h2, h3, h4, ha⟩ := h c
    obtain ⟨a0, a1, a2, a3, a4, a5, a6⟩ := hm c
    have hP := proj_eq m m' c a0 a1 a2
    refine ⟨h0.trans (congrArg ProjRef.nat hP), h1.trans (congrArg ProjRef.ew hP), h2.trans (congrArg ProjRef.vt hP), h3.trans (congrArg ProjRef.wt hP), h4.trans ?_, ha⟩
    have hZ := congrArg (fun p => ProjRef.cz p (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))) hP
    refine Eq.trans ?_ (hZ.trans ?_)
    · rfl
    · dsimp only
      rw [a3, a4, a5, a6]

end Cert.Proof.InProj

end
-- ==== Proof.lean ====
module

public import proofs.«01_k».proof.Defs
public import proofs.«01_k».proof.Proof.Attn
public import proofs.«01_k».proof.Proof.Gen.Kernel2.Frame
public import proofs.«01_k».proof.Proof.Gen.Kernel2Ideal.Value
public import proofs.«01_k».proof.Proof.Gen.Reference2Ideal.Run
public import proofs.«01_k».proof.Proof.Merge
public import proofs.«01_k».proof.Proof.Gen.Kernel3.Frame
public import proofs.«01_k».proof.Proof.Gen.Kernel3Ideal.Value
public import proofs.«01_k».proof.Proof.Gen.Reference3Ideal.Run
public import proofs.«01_k».proof.Proof.InProj

@[expose] public section

noncomputable section

namespace Cert.Proof

open Idealize.ShloMosaic

/-- The frame of the merge on the machine's floats. -/
theorem frame_merge : Cert.quiescent_Kernel2 (hKernel2 := Cert.Kernel2.Gen.facts) := fun m ρ _ =>
  Cert.Kernel2.Gen.frame m ρ

/-- The frame of the merge over the extended reals. -/
theorem frame_merge_ideal : Cert.quiescent_Kernel2Ideal (hKernel2Ideal := Cert.Kernel2Ideal.Gen.facts) := fun m ρ _ =>
  Cert.Kernel2Ideal.Gen.frame m ρ

/-- The frame of the merge's reference. -/
theorem frame_merge_ref : Cert.quiescent_Reference2Ideal (hReference2Ideal := Cert.Reference2Ideal.Gen.facts) := fun m ρ _ =>
  (θ_run Cert.Reference2Ideal.defs _ _).mono (fun _ h => ⟨fun c => (h c).2, sem_eq_zero_of_no_sems (by decide) _⟩) (Cert.Reference2Ideal.Value.run m ρ)

/-- The frame of the projections on the machine's floats. -/
theorem frame_proj : Cert.quiescent_Kernel3 (hKernel3 := Cert.Kernel3.Gen.facts) := fun m ρ _ =>
  Cert.Kernel3.Gen.frame m ρ

/-- The frame of the projections over the extended reals. -/
theorem frame_proj_ideal : Cert.quiescent_Kernel3Ideal (hKernel3Ideal := Cert.Kernel3Ideal.Gen.facts) := fun m ρ _ =>
  Cert.Kernel3Ideal.Gen.frame m ρ

/-- The frame of the projections' reference. -/
theorem frame_proj_ref : Cert.quiescent_Reference3Ideal (hReference3Ideal := Cert.Reference3Ideal.Gen.facts) := fun m ρ _ =>
  (θ_run Cert.Reference3Ideal.defs _ _).mono (fun _ h => ⟨fun c => (h c).2.2.2.2.2, sem_eq_zero_of_no_sems (by decide) _⟩) (Cert.Reference3Ideal.Value.run m ρ)

/-- Everything that the certificate claims. -/
theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Attn.quiescent,
    frame_merge, frame_merge_ideal, frame_merge_ref, frame_proj, frame_proj_ideal, frame_proj_ref,
    trivial, Merge.algebraic, trivial, InProj.algebraic⟩

end Cert.Proof

end
